-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_up [hPre_finite_up : Cert.Pre_finite_up.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite_up.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_up [hPre_finite_up : Cert.Pre_finite_up.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite_up.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_act [hPre_finite_act : Cert.Pre_finite_act.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_act.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_act.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_act.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_act [hPre_finite_act : Cert.Pre_finite_act.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_act.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_act.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_act.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_up [hKernel3Ideal : Cert.Kernel3Ideal.Facts] [hPre_finite_up : Cert.Pre_finite_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_up m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_up [hReference3Ideal : Cert.Reference3Ideal.Facts] [hPre_finite_up : Cert.Pre_finite_up.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_up m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_act [hKernel4Ideal : Cert.Kernel4Ideal.Facts] [hPre_finite_act : Cert.Pre_finite_act.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_act m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_act [hReference4Ideal : Cert.Reference4Ideal.Facts] [hPre_finite_act : Cert.Pre_finite_act.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_act m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_up [hKernel3Ideal : Cert.Kernel3Ideal.Facts] [hReference3Ideal : Cert.Reference3Ideal.Facts] [hPre_finite_up : Cert.Pre_finite_up.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_up m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_act [hKernel4Ideal : Cert.Kernel4Ideal.Facts] [hReference4Ideal : Cert.Reference4Ideal.Facts] [hPre_finite_act : Cert.Pre_finite_act.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_act m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts) (hPre_finite_up : Cert.Pre_finite_up.Facts) (hPre_finite_act : Cert.Pre_finite_act.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_up (hKernel3Ideal := hKernel3Ideal) (hPre_finite_up := hPre_finite_up)
    ∧ quiescent_Reference3Ideal (hReference3Ideal := hReference3Ideal)
    ∧ quiescent_Reference3Ideal_pre_finite_up (hReference3Ideal := hReference3Ideal) (hPre_finite_up := hPre_finite_up)
    ∧ quiescent_Kernel4 (hKernel4 := hKernel4)
    ∧ quiescent_Kernel4Ideal (hKernel4Ideal := hKernel4Ideal)
    ∧ quiescent_Kernel4Ideal_pre_finite_act (hKernel4Ideal := hKernel4Ideal) (hPre_finite_act := hPre_finite_act)
    ∧ quiescent_Reference4Ideal (hReference4Ideal := hReference4Ideal)
    ∧ quiescent_Reference4Ideal_pre_finite_act (hReference4Ideal := hReference4Ideal) (hPre_finite_act := hPre_finite_act)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_up (hKernel3Ideal := hKernel3Ideal) (hReference3Ideal := hReference3Ideal) (hPre_finite_up := hPre_finite_up)
    ∧ preserves_Kernel4_Kernel4Ideal
    ∧ algebraic_Kernel4Ideal_Reference4Ideal_pre_finite_act (hKernel4Ideal := hKernel4Ideal) (hReference4Ideal := hReference4Ideal) (hPre_finite_act := hPre_finite_act)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_act.lean ====
abbrev S4096x2816 : Shape := ⟨2, ![4096, 2816]⟩
abbrev S4x704x1024 : Shape := ⟨3, ![4, 704, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bitsLt_bf16_f32 : FTy.bits .bf16 < FTy.bits .f32
  bcast_S_S4x704x1024 : S_.BroadcastsInDim S4x704x1024 (![] : Fin 0 → Fin S4x704x1024.rank)
  reducesTo_S4x704x1024_S_d0_1_2 : S4x704x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .f32) (main_arg1 : FVec F S4096x2816 .f32) (main_arg2 : FVec F S4x704x1024 .bf16) (main_arg3 : FVec F S4096x1024 .bf16) : IVec S_ 1 × IVec S_ 1 × IVec S_ 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4x704x1024 .f32 := (extf .f32 · bitsLt_bf16_f32) main_arg2
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_c_1 : IVec S_ 1 := constantI S_ 1 1#1
  let main_v8 : IVec S_ 1 := (fun x v => Host.reduce IntOp.andi x v reducesTo_S4x704x1024_S_d0_1_2 h_S_) main_v7 main_c_1
  let main_v9 : FVec F S4096x1024 .f32 := (extf .f32 · bitsLt_bf16_f32) main_arg3
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  (main_v3, main_v8, main_v13)
-- ==== Pre_finite_scores.lean ====
abbrev S2x2048x512 : Shape := ⟨3, ![2, 2048, 512]⟩
abbrev S8x257 : Shape := ⟨2, ![8, 257]⟩
abbrev S2x2048x1024 : Shape := ⟨3, ![2, 2048, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S2x2048x512 .f32) (main_arg1 : FVec F S2x2048x512 .f32) (main_arg2 : FVec F S2x2048x512 .f32) (main_arg3 : FVec F S8x257 .f32) (main_arg4 : FVec F S2x2048x1024 .f32) : IVec S_ 1 × IVec S_ 1 × IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S8x257 .f32 := Host.absf main_arg3
  let main_cst_2 : FVec F S_ .f32 := constant S_ .f32 0x7F800000#32
  let main_v9 : FVec F S8x257 .f32 := broadcastInDim S8x257 ![] bcast_S_S8x257 main_cst_2
  let main_v10 : IVec S8x257 1 := cmpf .olt main_v8 main_v9
  let main_c_3 : IVec S_ 1 := constantI S_ 1 1#1
  let main_v11 : IVec S_ 1 := (fun x v => Host.reduce IntOp.andi x v reducesTo_S8x257_S_d0_1 h_S_) main_v10 main_c_3
  (main_v3, main_v7, main_v11)
-- ==== Pre_finite_up.lean ====
abbrev S4096x1024 : Shape := ⟨2, ![4096, 1024]⟩
abbrev S4x704x1024 : Shape := ⟨3, ![4, 704, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn {F : FTy → Type} [FloatOps F] (main_arg0 : FVec F S4096x1024 .bf16) (main_arg1 : FVec F S4x704x1024 .bf16) (main_arg2 : FVec F S4x704x1024 .bf16) : IVec S_ 1 × IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x704x1024 .f32 := (extf .f32 · bitsLt_bf16_f32) main_arg2
  let main_v6 : FVec F S4x704x1024 .f32 := Host.absf main_v5
  let main_cst_0 : FVec F S_ .f32 := constant S_ .f32 0x7F800000#32
  let main_v7 : FVec F S4x704x1024 .f32 := broadcastInDim S4x704x1024 ![] bcast_S_S4x704x1024 main_cst_0
  let main_v8 : IVec S4x704x1024 1 := cmpf .olt main_v6 main_v7
  let main_c_1 : IVec S_ 1 := constantI S_ 1 1#1
  let main_v9 : IVec S_ 1 := (fun x v => Host.reduce IntOp.andi x v reducesTo_S4x704x1024_S_d0_1_2 h_S_) main_v8 main_c_1
  (main_v4, main_v9)
-- ==== Kernel.lean ====
abbrev S2x2048x512 : Shape := ⟨3, ![2, 2048, 512]⟩
abbrev S8x257 : Shape := ⟨2, ![8, 257]⟩
abbrev S2x2048x1024 : Shape := ⟨3, ![2, 2048, 1024]⟩
abbrev S_ : Shape := ⟨0, ![]⟩
abbrev S2x2560x512 : Shape := ⟨3, ![2, 2560, 512]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x64x768 : Shape := ⟨3, ![8, 64, 768]⟩
abbrev S8x256x768 : Shape := ⟨3, ![8, 256, 768]⟩
abbrev S8x64x640 : Shape := ⟨3, ![8, 64, 640]⟩
abbrev S1x512x128 : Shape := ⟨3, ![1, 512, 128]⟩
abbrev S1x2560x128 : Shape := ⟨3, ![1, 2560, 128]⟩
abbrev S2x256x768 : Shape := ⟨3, ![2, 256, 768]⟩
abbrev S2x64x640 : Shape := ⟨3, ![2, 64, 640]⟩
abbrev S2560x128 : Shape := ⟨2, ![2560, 128]⟩
abbrev S1x128 : Shape := ⟨2, ![1, 128]⟩
abbrev S1x768x128 : Shape := ⟨3, ![1, 768, 128]⟩
abbrev S768x128 : Shape := ⟨2, ![768, 128]⟩
abbrev S1x256x128 : Shape := ⟨3, ![1, 256, 128]⟩
abbrev S256x128 : Shape := ⟨2, ![256, 128]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S64x640 : Shape := ⟨2, ![64, 640]⟩
abbrev S1x64x640 : Shape := ⟨3, ![1, 64, 640]⟩

abbrev nBuf : Space → Nat
  | .hbm => 65
  | .vmem => 20
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S8x257, .f32⟩
  | .hbm, ⟨4, _⟩ => ⟨S2x2048x1024, .f32⟩
  | .hbm, ⟨5, _⟩ => ⟨S_, .f32⟩
  | .hbm, ⟨6, _⟩ => ⟨S2x2048x512, .f32⟩
  | .hbm, ⟨7, _⟩ => ⟨S2x2048x512, .f32⟩
  | .hbm, ⟨8, _⟩ => ⟨S2x2048x512, .bf16⟩
  | .hbm, ⟨9, _⟩ => ⟨S_, .i32⟩
  | .hbm, ⟨10, _⟩ => ⟨S_, .f32⟩
  | .hbm, ⟨11, _⟩ => ⟨S2x2560x512, .f32⟩
  | .hbm, ⟨12, _⟩ => ⟨S2x2560x512, .bf16⟩
  | .hbm, ⟨13, _⟩ => ⟨S_, .i32⟩
  | .hbm, ⟨14, _⟩ => ⟨S_, .f32⟩
  | .hbm, ⟨15, _⟩ => ⟨S2x2560x512, .f32⟩
  | .hbm, ⟨16, _⟩ => ⟨S2x2560x512, .bf16⟩
  | .hbm, ⟨17, _⟩ => ⟨S64, .i32⟩
  | .hbm, ⟨18, _⟩ => ⟨S64x1, .i32⟩
  | .hbm, ⟨19, _⟩ => ⟨S_, .i32⟩
  | .hbm, ⟨20, _⟩ => ⟨S64x1, .i32⟩
  | .hbm, ⟨21, _⟩ => ⟨S64x1, .i32⟩
  | .hbm, ⟨22, _⟩ => ⟨S576, .i32⟩
  | .hbm, ⟨23, _⟩ => ⟨S1x576, .i32⟩
  | .hbm, ⟨24, _⟩ => ⟨S64x576, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S_, .i32⟩
  | .hbm, ⟨39, _⟩ => ⟨S64x576, .i32⟩
  | .hbm, ⟨40, _⟩ => ⟨S64x576, .i1⟩
  | .hbm, ⟨41, _⟩ => ⟨S_, .i32⟩
  | .hbm, ⟨42, _⟩ => ⟨S64x576, .i32⟩
  | .hbm, ⟨43, _⟩ => ⟨S64x576, .i32⟩
  | .hbm, ⟨44, _⟩ => ⟨S64x576, .i32⟩
  | .hbm, ⟨45, _⟩ => ⟨S64x576x1, .i32⟩
  | .hbm, ⟨46, _⟩ => ⟨S8x64x576, .f32⟩
  | .hbm, ⟨47, _⟩ => ⟨S_, .f32⟩
  | .hbm, ⟨48, _⟩ => ⟨S_, .f32⟩
  | .hbm, ⟨49, _⟩ => ⟨S8x64x768, .f32⟩
  | .hbm, ⟨50, _⟩ => ⟨S_, .f32⟩
  | .hbm, ⟨51, _⟩ => ⟨S_, .f32⟩
  | .hbm, ⟨52, _⟩ => ⟨S8x64x768, .f32⟩
  | .hbm, ⟨53, _⟩ => ⟨S_, .f32⟩
  | .hbm, ⟨54, _⟩ => ⟨S_, .f32⟩
  | .hbm, ⟨55, _⟩ => ⟨S8x64x768, .f32⟩
  | .hbm, ⟨56, _⟩ => ⟨S_, .f32⟩
  | .hbm, ⟨57, _⟩ => ⟨S_, .f32⟩
  | .hbm, ⟨58, _⟩ => ⟨S8x64x768, .f32⟩
  | .hbm, ⟨59, _⟩ => ⟨S8x256x768, .f32⟩
  | .hbm, ⟨60, _⟩ => ⟨S2x2048x512, .f32⟩
  | .hbm, ⟨61, _⟩ => ⟨S2x2560x512, .f32⟩
  | .hbm, ⟨62, _⟩ => ⟨S2x2560x512, .f32⟩
  | .hbm, ⟨63, _⟩ => ⟨S8x64x640, .f32⟩
  | .hbm, ⟨64, _⟩ => ⟨S8x64x640, .f32⟩
  | .local _ .vmem, ⟨0, _⟩ => ⟨S1x512x128, .bf16⟩
  | .local _ .vmem, ⟨1, _⟩ => ⟨S1x512x128, .bf16⟩
  | .local _ .vmem, ⟨2, _⟩ => ⟨S1x2560x128, .bf16⟩
  | .local _ .vmem, ⟨3, _⟩ => ⟨S1x2560x128, .bf16⟩
  | .local _ .vmem, ⟨4, _⟩ => ⟨S1x2560x128, .bf16⟩
  | .local _ .vmem, ⟨5, _⟩ => ⟨S1x2560x128, .bf16⟩
  | .local _ .vmem, ⟨6, _⟩ => ⟨S2x256x768, .f32⟩
  | .local _ .vmem, ⟨7, _⟩ => ⟨S2x256x768, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x2560x128, .f32⟩
  | .local _ .vmem, ⟨13, _⟩ => ⟨S1x2560x128, .f32⟩
  | .local _ .vmem, ⟨14, _⟩ => ⟨S1x2560x128, .f32⟩
  | .local _ .vmem, ⟨15, _⟩ => ⟨S1x2560x128, .f32⟩
  | .local _ .vmem, ⟨16, _⟩ => ⟨S2x64x640, .f32⟩
  | .local _ .vmem, ⟨17, _⟩ => ⟨S2x64x640, .f32⟩
  | .local _ .vmem, ⟨18, _⟩ => ⟨S2x64x640, .f32⟩
  | .local _ .vmem, ⟨19, _⟩ => ⟨S2x64x640, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_call3_v0 : Ref sig .tc := ⟨.hbm, 48, rfl⟩
abbrev main_v26 : Ref sig .tc := ⟨.hbm, 49, rfl⟩
abbrev main_cst_8 : Ref sig .tc := ⟨.hbm, 50, rfl⟩
abbrev main_call4_v0 : Ref sig .tc := ⟨.hbm, 51, rfl⟩
abbrev main_v27 : Ref sig .tc := ⟨.hbm, 52, rfl⟩
abbrev main_cst_9 : Ref sig .tc := ⟨.hbm, 53, rfl⟩
abbrev main_call5_v0 : Ref sig .tc := ⟨.hbm, 54, rfl⟩
abbrev main_v28 : Ref sig .tc := ⟨.hbm, 55, rfl⟩
abbrev main_cst_10 : Ref sig .tc := ⟨.hbm, 56, rfl⟩
abbrev main_call6_v0 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_v31_2 : Ref sig .tc := ⟨.hbm, 62, rfl⟩
abbrev main_v31_3 : Ref sig .tc := ⟨.hbm, 63, rfl⟩
abbrev main_v31_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 4], ![false, false, false]⟩

def k0_mult1 (i : grid0.Coords) : BitVec 32 :=
  let arg2 : BitVec 32 := BitVec.ofNat 32 (i 2).val
  let c2_i32 : BitVec 32 := 2#32
  let v14 : BitVec 32 := Scalar.muli arg2 c2_i32
  let c0_i32_5 : BitVec 32 := 0#32
  let v15 : BitVec 32 := Scalar.addi v14 c0_i32_5
  let c256_i32 : BitVec 32 := 256#32
  let v16 : BitVec 32 := Scalar.muli v15 c256_i32
  v16
def k0_off1 (i : grid0.Coords) (c0_i32_5 : BitVec 32) : Fin 3 → Nat :=
  let c0 : Index := 0#32
  let arg2 : BitVec 32 := BitVec.ofNat 32 (i 2).val
  let c2_i32 : BitVec 32 := 2#32
  let v14 : BitVec 32 := Scalar.muli arg2 c2_i32
  let v15 : BitVec 32 := Scalar.addi v14 c0_i32_5
  let c256_i32 : BitVec 32 := 256#32
  let v16 : BitVec 32 := Scalar.muli v15 c256_i32
  let v17 : BitVec 32 := v16
  let v18 : Index := Scalar.indexCast v17
  let c0_6 : Index := 0#32
  ![0, v18.toNat, 0]
def k0_mult2 (i : grid0.Coords) : BitVec 32 :=
  let arg2 : BitVec 32 := BitVec.ofNat 32 (i 2).val
  let c2_i32_36 : BitVec 32 := 2#32
  let v91 : BitVec 32 := Scalar.muli arg2 c2_i32_36
  let c1_i32 : BitVec 32 := 1#32
  let v92 : BitVec 32 := Scalar.addi v91 c1_i32
  let c256_i32_37 : BitVec 32 := 256#32
  let v93 : BitVec 32 := Scalar.muli v92 c256_i32_37
  v93
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2560x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x64x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S2x64x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S8x257 : Shape := ⟨2, ![8, 257]⟩
abbrev S2x2048x1024 : Shape := ⟨3, ![2, 2048, 1024]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S2x2048x8x64 : Shape := ⟨4, ![2, 2048, 8, 64]⟩
abbrev S2x512x8x64 : Shape := ⟨4, ![2, 512, 8, 64]⟩
abbrev S2x2560x8x64 : Shape := ⟨4, ![2, 2560, 8, 64]⟩
abbrev S2x32x64x8x64 : Shape := ⟨5, ![2, 32, 64, 8, 64]⟩
abbrev S2x40x64x8x64 : Shape := ⟨5, ![2, 40, 64, 8, 64]⟩
abbrev S2x32x576x8x64 : Shape := ⟨5, ![2, 32, 576, 8, 64]⟩
abbrev S2x32x8x64x576 : Shape := ⟨5, ![2, 32, 8, 64, 576]⟩
abbrev S1x1x8x64x576 : Shape := ⟨5, ![1, 1, 8, 64, 576]⟩
abbrev S32 : Shape := ⟨1, ![32]⟩
abbrev S32x1 : Shape := ⟨2, ![32, 1]⟩
abbrev S32x576 : Shape := ⟨2, ![32, 576]⟩
abbrev S1x32x1x1x576 : Shape := ⟨5, ![1, 32, 1, 1, 576]⟩
abbrev S2x32x8x64 : Shape := ⟨4, ![2, 32, 8, 64]⟩
abbrev S2x32x8x64x1 : Shape := ⟨5, ![2, 32, 8, 64, 1]⟩
abbrev S2x32x8x64x64 : Shape := ⟨5, ![2, 32, 8, 64, 64]⟩
abbrev S2x32x8x576x64 : Shape := ⟨5, ![2, 32, 8, 576, 64]⟩
abbrev S2x2560x512 : Shape := ⟨3, ![2, 2560, 512]⟩

abbrev nBuf : Space → Nat
  | .hbm => 257
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S8x257, .f32⟩
  | 4 => ⟨S2x2048x1024, .f32⟩
  | 5 => ⟨S64, .i32⟩
  | 6 => ⟨S64x1, .i32⟩
  | 7 => ⟨S_, .i32⟩
  | 8 => ⟨S64x1, .i32⟩
  | 9 => ⟨S64x1, .i32⟩
  | 10 => ⟨S576, .i32⟩
  | 11 => ⟨S1x576, .i32⟩
  | 12 => ⟨S64x576, .i32⟩
  | 13 => ⟨S64x576, .i32⟩
  | 14 => ⟨S64x576, .i32⟩
  | 15 => ⟨S_, .i32⟩
  | 16 => ⟨S_, .i32⟩
  | 17 => ⟨S_, .i32⟩
  | 18 => ⟨S64x576, .i32⟩
  | 19 => ⟨S64x576, .i32⟩
  | 20 => ⟨S_, .i32⟩
  | 21 => ⟨S64x576, .i32⟩
  | 22 => ⟨S64x576, .i32⟩
  | 23 => ⟨S_, .i32⟩
  | 24 => ⟨S64x576, .i32⟩
  | 25 => ⟨S64x576, .i32⟩
  | 26 => ⟨S_, .i32⟩
  | 27 => ⟨S64x576, .i32⟩
  | 28 => ⟨S64x576, .i1⟩
  | 29 => ⟨S_, .i32⟩
  | 30 => ⟨S64x576, .i32⟩
  | 31 => ⟨S64x576, .i32⟩
  | 32 => ⟨S64x576, .i32⟩
  | 33 => ⟨S64x576x1, .i32⟩
  | 34 => ⟨S8x64x576, .f32⟩
  | 35 => ⟨S2x2048x8x64, .f32⟩
  | 36 => ⟨S2x2048x8x64, .f32⟩
  | 37 => ⟨S2x2048x8x64, .f32⟩
  | 38 => ⟨S_, .f32⟩
  | 39 => ⟨S2x512x8x64, .f32⟩
  | 40 => ⟨S2x2560x8x64, .f32⟩
  | 41 => ⟨S_, .f32⟩
  | 42 => ⟨S2x512x8x64, .f32⟩
  | 43 => ⟨S2x2560x8x64, .f32⟩
  | 44 => ⟨S_, .f32⟩
  | 45 => ⟨S2x512x8x64, .f32⟩
  | 46 => ⟨S2x32x64x8x64, .f32⟩
  | 47 => ⟨S2x40x64x8x64, .f32⟩
  | 48 => ⟨S2x32x64x8x64, .f32⟩
  | 49 => ⟨S2x32x64x8x64, .f32⟩
  | 50 => ⟨S2x32x64x8x64, .f32⟩
  | 51 => ⟨S2x32x64x8x64, .f32⟩
  | 52 => ⟨S2x32x64x8x64, .f32⟩
  | 53 => ⟨S2x32x64x8x64, .f32⟩
  | 54 => ⟨S2x32x64x8x64, .f32⟩
  | 55 => ⟨S2x32x64x8x64, .f32⟩
  | 56 => ⟨S2x32x64x8x64, .f32⟩
  | 57 => ⟨S2x32x576x8x64, .f32⟩
  | 58 => ⟨S2x40x64x8x64, .f32⟩
  | 59 => ⟨S2x32x64x8x64, .f32⟩
  | 60 => ⟨S2x32x64x8x64, .f32⟩
  | 61 => ⟨S2x32x64x8x64, .f32⟩
  | 62 => ⟨S2x32x64x8x64, .f32⟩
  | 63 => ⟨S2x32x64x8x64, .f32⟩
  | 64 => ⟨S2x32x64x8x64, .f32⟩
  | 65 => ⟨S2x32x64x8x64, .f32⟩
  | 66 => ⟨S2x32x64x8x64, .f32⟩
  | 67 => ⟨S2x32x64x8x64, .f32⟩
  | 68 => ⟨S2x32x576x8x64, .f32⟩
  | 69 => ⟨S2x32x8x64x576, .f32⟩
  | 70 => ⟨S_, .f32⟩
  | 71 => ⟨S2x32x8x64x576, .f32⟩
  | 72 => ⟨S2x32x8x64x576, .f32⟩
  | 73 => ⟨S1x1x8x64x576, .f32⟩
  | 74 => ⟨S2x32x8x64x576, .f32⟩
  | 75 => ⟨S2x32x8x64x576, .f32⟩
  | 76 => ⟨S32, .i32⟩
  | 77 => ⟨S32x1, .i32⟩
  | 78 => ⟨S_, .i32⟩
  | 79 => ⟨S32x1, .i32⟩
  | 80 => ⟨S32x1, .i32⟩
  | 81 => ⟨S_, .i32⟩
  | 82 => ⟨S32x1, .i32⟩
  | 83 => ⟨S32x1, .i32⟩
  | 84 => ⟨S576, .i32⟩
  | 85 => ⟨S1x576, .i32⟩
  | 86 => ⟨S32x576, .i32⟩
  | 87 => ⟨S32x576, .i32⟩
  | 88 => ⟨S32x576, .i32⟩
  | 89 => ⟨S_, .i32⟩
  | 90 => ⟨S32x576, .i32⟩
  | 91 => ⟨S32x576, .i1⟩
  | 92 => ⟨S1x32x1x1x576, .i1⟩
  | 93 => ⟨S_, .f32⟩
  | 94 => ⟨S_, .f32⟩
  | 95 => ⟨S2x32x8x64x576, .i1⟩
  | 96 => ⟨S2x32x8x64x576, .f32⟩
  | 97 => ⟨S2x32x8x64x576, .f32⟩
  | 98 => ⟨S_, .f32⟩
  | 99 => ⟨S2x32x8x64x576, .f32⟩
  | 100 => ⟨S_, .f32⟩
  | 101 => ⟨S2x32x8x64, .f32⟩
  | 102 => ⟨S2x32x8x64x1, .f32⟩
  | 103 => ⟨S2x32x8x64x576, .f32⟩
  | 104 => ⟨S2x32x8x64x576, .i1⟩
  | 105 => ⟨S2x32x8x64x576, .f32⟩
  | 106 => ⟨S_, .f32⟩
  | 107 => ⟨S2x32x8x64, .f32⟩
  | 108 => ⟨S_, .f32⟩
  | 109 => ⟨S2x32x8x64, .f32⟩
  | 110 => ⟨S2x32x8x64, .f32⟩
  | 111 => ⟨S_, .f32⟩
  | 112 => ⟨S2x32x8x64, .f32⟩
  | 113 => ⟨S2x32x8x64, .i1⟩
  | 114 => ⟨S_, .f32⟩
  | 115 => ⟨S2x32x8x64, .f32⟩
  | 116 => ⟨S2x32x8x64, .i1⟩
  | 117 => ⟨S_, .f32⟩
  | 118 => ⟨S2x32x8x64, .f32⟩
  | 119 => ⟨S_, .f32⟩
  | 120 => ⟨S2x32x8x64, .f32⟩
  | 121 => ⟨S_, .f32⟩
  | 122 => ⟨S2x32x8x64, .f32⟩
  | 123 => ⟨S2x32x8x64, .f32⟩
  | 124 => ⟨S2x32x8x64, .f32⟩
  | 125 => ⟨S2x32x8x64x1, .f32⟩
  | 126 => ⟨S2x32x8x64x576, .f32⟩
  | 127 => ⟨S2x32x8x64x576, .f32⟩
  | _ => ⟨S2x2048x512, .f32⟩

abbrev hbmTy0_1 (i : Nat) : BufTy := match i % 128 with
  | 0 => ⟨S2x32x8x64x576, .f32⟩
  | 1 => ⟨S_, .f32⟩
  | 2 => ⟨S2x32x8x64, .f32⟩
  | 3 => ⟨S2x32x8x64x1, .f32⟩
  | 4 => ⟨S2x32x8x64x576, .f32⟩
  | 5 => ⟨S2x32x8x64x576, .f32⟩
  | 6 => ⟨S2x32x8x64x1, .f32⟩
  | 7 => ⟨S_, .f32⟩
  | 8 => ⟨S2x32x8x64x1, .f32⟩
  | 9 => ⟨S2x32x8x64x1, .f32⟩
  | 10 => ⟨S2x32x8x64x64, .f32⟩
  | 11 => ⟨S2x32x64x8x64, .f32⟩
  | 12 => ⟨S2x2048x512, .f32⟩
  | 13 => ⟨S2x2048x512, .f32⟩
  | 14 => ⟨S2x32x64x8x64, .f32⟩
  | 15 => ⟨S2x32x8x64x64, .f32⟩
  | 16 => ⟨S2x32x8x64x576, .f32⟩
  | 17 => ⟨S2x32x8x64x576, .f32⟩
  | 18 => ⟨S2x32x576x8x64, .f32⟩
  | 19 => ⟨S2x32x8x64x576, .f32⟩
  | 20 => ⟨S2x32x8x64x576, .f32⟩
  | 21 => ⟨S2x32x8x64x576, .f32⟩
  | 22 => ⟨S_, .f32⟩
  | 23 => ⟨S2x32x8x64, .f32⟩
  | 24 => ⟨S2x32x8x64x1, .f32⟩
  | 25 => ⟨S2x32x8x64x1, .f32⟩
  | 26 => ⟨S2x32x8x64x576, .f32⟩
  | 27 => ⟨S2x32x8x64x576, .f32⟩
  | 28 => ⟨S_, .f32⟩
  | 29 => ⟨S2x32x8x64, .f32⟩
  | 30 => ⟨S2x32x8x64x576, .f32⟩
  | 31 => ⟨S2x32x8x64x576, .f32⟩
  | 32 => ⟨S2x32x8x64x576, .f32⟩
  | 33 => ⟨S_, .f32⟩
  | 34 => ⟨S2x32x8x64x576, .f32⟩
  | 35 => ⟨S2x32x8x64x576, .f32⟩
  | 36 => ⟨S_, .f32⟩
  | 37 => ⟨S2x32x8x64x576, .f32⟩
  | 38 => ⟨S2x32x8x64x576, .f32⟩
  | 39 => ⟨S2x32x8x576x64, .f32⟩
  | 40 => ⟨S2x32x576x8x64, .f32⟩
  | 41 => ⟨S2x32x8x64x64, .f32⟩
  | 42 => ⟨S2x32x64x8x64, .f32⟩
  | 43 => ⟨S2x32x64x8x64, .f32⟩
  | 44 => ⟨S2x32x64x8x64, .f32⟩
  | 45 => ⟨S2x32x64x8x64, .f32⟩
  | 46 => ⟨S2x32x64x8x64, .f32⟩
  | 47 => ⟨S2x32x64x8x64, .f32⟩
  | 48 => ⟨S2x32x64x8x64, .f32⟩
  | 49 => ⟨S2x32x64x8x64, .f32⟩
  | 50 => ⟨S2x32x64x8x64, .f32⟩
  | 51 => ⟨S2x32x64x8x64, .f32⟩
  | 52 => ⟨S_, .f32⟩
  | 53 => ⟨S2x40x64x8x64, .f32⟩
  | 54 => ⟨S_, .f32⟩
  | 55 => ⟨S2x40x64x8x64, .f32⟩
  | 56 => ⟨S2x40x64x8x64, .f32⟩
  | 57 => ⟨S_, .f32⟩
  | 58 => ⟨S2x40x64x8x64, .f32⟩
  | 59 => ⟨S2x40x64x8x64, .f32⟩
  | 60 => ⟨S_, .f32⟩
  | 61 => ⟨S2x40x64x8x64, .f32⟩
  | 62 => ⟨S2x40x64x8x64, .f32⟩
  | 63 => ⟨S_, .f32⟩
  | 64 => ⟨S2x40x64x8x64, .f32⟩
  | 65 => ⟨S2x40x64x8x64, .f32⟩
  | 66 => ⟨S_, .f32⟩
  | 67 => ⟨S2x40x64x8x64, .f32⟩
  | 68 => ⟨S2x40x64x8x64, .f32⟩
  | 69 => ⟨S_, .f32⟩
  | 70 => ⟨S2x40x64x8x64, .f32⟩
  | 71 => ⟨S2x40x64x8x64, .f32⟩
  | 72 => ⟨S_, .f32⟩
  | 73 => ⟨S2x40x64x8x64, .f32⟩
  | 74 => ⟨S2x40x64x8x64, .f32⟩
  | 75 => ⟨S_, .f32⟩
  | 76 => ⟨S2x40x64x8x64, .f32⟩
  | 77 => ⟨S2x40x64x8x64, .f32⟩
  | 78 => ⟨S2x2560x8x64, .f32⟩
  | 79 => ⟨S2x32x64x8x64, .f32⟩
  | 80 => ⟨S2x32x64x8x64, .f32⟩
  | 81 => ⟨S2x32x64x8x64, .f32⟩
  | 82 => ⟨S2x32x64x8x64, .f32⟩
  | 83 => ⟨S2x32x64x8x64, .f32⟩
  | 84 => ⟨S2x32x64x8x64, .f32⟩
  | 85 => ⟨S2x32x64x8x64, .f32⟩
  | 86 => ⟨S2x32x64x8x64, .f32⟩
  | 87 => ⟨S2x32x64x8x64, .f32⟩
  | 88 => ⟨S_, .f32⟩
  | 89 => ⟨S2x40x64x8x64, .f32⟩
  | 90 => ⟨S_, .f32⟩
  | 91 => ⟨S2x40x64x8x64, .f32⟩
  | 92 => ⟨S2x40x64x8x64, .f32⟩
  | 93 => ⟨S_, .f32⟩
  | 94 => ⟨S2x40x64x8x64, .f32⟩
  | 95 => ⟨S2x40x64x8x64, .f32⟩
  | 96 => ⟨S_, .f32⟩
  | 97 => ⟨S2x40x64x8x64, .f32⟩
  | 98 => ⟨S2x40x64x8x64, .f32⟩
  | 99 => ⟨S_, .f32⟩
  | 100 => ⟨S2x40x64x8x64, .f32⟩
  | 101 => ⟨S2x40x64x8x64, .f32⟩
  | 102 => ⟨S_, .f32⟩
  | 103 => ⟨S2x40x64x8x64, .f32⟩
  | 104 => ⟨S2x40x64x8x64, .f32⟩
  | 105 => ⟨S_, .f32⟩
  | 106 => ⟨S2x40x64x8x64, .f32⟩
  | 107 => ⟨S2x40x64x8x64, .f32⟩
  | 108 => ⟨S_, .f32⟩
  | 109 => ⟨S2x40x64x8x64, .f32⟩
  | 110 => ⟨S2x40x64x8x64, .f32⟩
  | 111 => ⟨S_, .f32⟩
  | 112 => ⟨S2x40x64x8x64, .f32⟩
  | 113 => ⟨S2x40x64x8x64, .f32⟩
  | 114 => ⟨S2x2560x8x64, .f32⟩
  | 115 => ⟨S2x2048x8x64, .f32⟩
  | 116 => ⟨S2x512x8x64, .f32⟩
  | 117 => ⟨S2x2048x8x64, .f32⟩
  | 118 => ⟨S2x512x8x64, .f32⟩
  | 119 => ⟨S2x2048x8x64, .f32⟩
  | 120 => ⟨S2x2048x512, .f32⟩
  | 121 => ⟨S2x2048x512, .f32⟩
  | 122 => ⟨S2x2048x512, .f32⟩
  | 123 => ⟨S_, .i32⟩
  | 124 => ⟨S_, .f32⟩
  | 125 => ⟨S2x2560x512, .f32⟩
  | 126 => ⟨S_, .i32⟩
  | 127 => ⟨S_, .f32⟩
  | _ => ⟨S2x2048x512, .f32⟩

abbrev hbmTy0_2 (i : Nat) : BufTy := match i % 128 with
  | 0 => ⟨S2x2560x512, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_v58 : Ref sig .tc := ⟨.hbm, 79, rfl⟩
abbrev main_v59 : Ref sig .tc := ⟨.hbm, 80, rfl⟩
abbrev main_c_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_call1_v0 : Ref sig .tc := ⟨.hbm, 94, rfl⟩
abbrev main_v70_1 : Ref sig .tc := ⟨.hbm, 95, rfl⟩
abbrev main_call1_v2 : Ref sig .tc := ⟨.hbm, 96, rfl⟩
abbrev main_v70_0 : Ref sig .tc := ⟨.hbm, 97, rfl⟩
abbrev main_call1_cst : Ref sig .tc := ⟨.hbm, 98, rfl⟩
abbrev main_v70_2 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_22 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_23 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_call2_cst : Ref sig .tc := ⟨.hbm, 161, rfl⟩
abbrev main_call2_v0 : Ref sig .tc := ⟨.hbm, 162, rfl⟩
abbrev main_v120 : Ref sig .tc := ⟨.hbm, 163, rfl⟩
abbrev main_cst_24 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_25 : Ref sig .tc := ⟨.hbm, 180, rfl⟩
abbrev main_v136 : Ref sig .tc := ⟨.hbm, 181, rfl⟩
abbrev main_cst_26 : Ref sig .tc := ⟨.hbm, 182, rfl⟩
abbrev main_v137 : Ref sig .tc := ⟨.hbm, 183, rfl⟩
abbrev main_v138 : Ref sig .tc := ⟨.hbm, 184, rfl⟩
abbrev main_cst_27 : Ref sig .tc := ⟨.hbm, 185, rfl⟩
abbrev main_v139 : Ref sig .tc := ⟨.hbm, 186, rfl⟩
abbrev main_v140 : Ref sig .tc := ⟨.hbm, 187, rfl⟩
abbrev main_cst_28 : Ref sig .tc := ⟨.hbm, 188, rfl⟩
abbrev main_v141 : Ref sig .tc := ⟨.hbm, 189, rfl⟩
abbrev main_v142 : Ref sig .tc := ⟨.hbm, 190, rfl⟩
abbrev main_cst_29 : Ref sig .tc := ⟨.hbm, 191, rfl⟩
abbrev main_v143 : Ref sig .tc := ⟨.hbm, 192, rfl⟩
abbrev main_v144 : Ref sig .tc := ⟨.hbm, 193, rfl⟩
abbrev main_cst_30 : Ref sig .tc := ⟨.hbm, 194, rfl⟩
abbrev main_v145 : Ref sig .tc := ⟨.hbm, 195, rfl⟩
abbrev main_v146 : Ref sig .tc := ⟨.hbm, 196, rfl⟩
abbrev main_cst_31 : Ref sig .tc := ⟨.hbm, 197, rfl⟩
abbrev main_v147 : Ref sig .tc := ⟨.hbm, 198, rfl⟩
abbrev main_v148 : Ref sig .tc := ⟨.hbm, 199, rfl⟩
abbrev main_cst_32 : Ref sig .tc := ⟨.hbm, 200, rfl⟩
abbrev main_v149 : Ref sig .tc := ⟨.hbm, 201, rfl⟩
abbrev main_v150 : Ref sig .tc := ⟨.hbm, 202, rfl⟩
abbrev main_cst_33 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_34 : Ref sig .tc := ⟨.hbm, 216, rfl⟩
abbrev main_v163 : Ref sig .tc := ⟨.hbm, 217, rfl⟩
abbrev main_cst_35 : Ref sig .tc := ⟨.hbm, 218, rfl⟩
abbrev main_v164 : Ref sig .tc := ⟨.hbm, 219, rfl⟩
abbrev main_v165 : Ref sig .tc := ⟨.hbm, 220, rfl⟩
abbrev main_cst_36 : Ref sig .tc := ⟨.hbm, 221, rfl⟩
abbrev main_v166 : Ref sig .tc := ⟨.hbm, 222, rfl⟩
abbrev main_v167 : Ref sig .tc := ⟨.hbm, 223, rfl⟩
abbrev main_cst_37 : Ref sig .tc := ⟨.hbm, 224, rfl⟩
abbrev main_v168 : Ref sig .tc := ⟨.hbm, 225, rfl⟩
abbrev main_v169 : Ref sig .tc := ⟨.hbm, 226, rfl⟩
abbrev main_cst_38 : Ref sig .tc := ⟨.hbm, 227, rfl⟩
abbrev main_v170 : Ref sig .tc := ⟨.hbm, 228, rfl⟩
abbrev main_v171 : Ref sig .tc := ⟨.hbm, 229, rfl⟩
abbrev main_cst_39 : Ref sig .tc := ⟨.hbm, 230, rfl⟩
abbrev main_v172 : Ref sig .tc := ⟨.hbm, 231, rfl⟩
abbrev main_v173 : Ref sig .tc := ⟨.hbm, 232, rfl⟩
abbrev main_cst_40 : Ref sig .tc := ⟨.hbm, 233, rfl⟩
abbrev main_v174 : Ref sig .tc := ⟨.hbm, 234, rfl⟩
abbrev main_v175 : Ref sig .tc := ⟨.hbm, 235, rfl⟩
abbrev main_cst_41 : Ref sig .tc := ⟨.hbm, 236, rfl⟩
abbrev main_v176 : Ref sig .tc := ⟨.hbm, 237, rfl⟩
abbrev main_v177 : Ref sig .tc := ⟨.hbm, 238, rfl⟩
abbrev main_cst_42 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_c_43 : Ref sig .tc := ⟨.hbm, 251, rfl⟩
abbrev main_call3_v0 : Ref sig .tc := ⟨.hbm, 252, rfl⟩
abbrev main_v189 : Ref sig .tc := ⟨.hbm, 253, rfl⟩
abbrev main_c_44 : Ref sig .tc := ⟨.hbm, 254, rfl⟩
abbrev main_call4_v0 : Ref sig .tc := ⟨.hbm, 255, rfl⟩
abbrev main_v190 : Ref sig .tc := ⟨.hbm, 256, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .bf16⟩
  | .hbm, ⟨3, _⟩ => ⟨S2816x1024, .bf16⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S4x704x1024 : Shape := ⟨3, ![4, 704, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S2x4 : Shape := ⟨2, ![2, 4]⟩
abbrev S1x1 : Shape := ⟨2, ![1, 1]⟩
abbrev S_ : Shape := ⟨0, ![]⟩
abbrev S768x1024 : Shape := ⟨2, ![768, 1024]⟩
abbrev S512x768 : Shape := ⟨2, ![512, 768]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S2816x1024, .bf16⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S2816x1024, .bf16⟩
  | .local _ .vmem, ⟨9, _⟩ => ⟨S2816x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4096x1024 : Shape := ⟨2, ![4096, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S4096x1024, .f32⟩
  | .hbm, ⟨4, _⟩ => ⟨S4x704x1024, .f32⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S4096x1024, .f32⟩
  | .hbm, ⟨9, _⟩ => ⟨S4x704x1024, .f32⟩
  | .hbm, ⟨10, _⟩ => ⟨S2816x1024, .f32⟩
  | .hbm, ⟨11, _⟩ => ⟨S1024x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | .hbm, ⟨37, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v10_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v10_1 : Ref sig .tc := ⟨.hbm, 24, rfl⟩
abbrev main_v10_0 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel4.lean ====
abbrev S4096x2816 : Shape := ⟨2, ![4096, 2816]⟩
abbrev S4x704x1024 : Shape := ⟨3, ![4, 704, 1024]⟩
abbrev S4096x1024 : Shape := ⟨2, ![4096, 1024]⟩
abbrev S_ : Shape := ⟨0, ![]⟩
abbrev S2816x1024 : Shape := ⟨2, ![2816, 1024]⟩
abbrev S512x1024 : Shape := ⟨2, ![512, 1024]⟩
abbrev S512x2816 : Shape := ⟨2, ![512, 2816]⟩
abbrev S1x4 : Shape := ⟨2, ![1, 4]⟩
abbrev S1x1 : Shape := ⟨2, ![1, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 31
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4x704x1024, .bf16⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | .hbm, ⟨28, _⟩ => ⟨S2816x1024, .bf16⟩
  | .hbm, ⟨29, _⟩ => ⟨S4096x2816, .bf16⟩
  | .hbm, ⟨30, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S2816x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x2816 : Shape := ⟨2, ![4096, 2816]⟩
abbrev S4x704x1024 : Shape := ⟨3, ![4, 704, 1024]⟩
abbrev S4096x1024 : Shape := ⟨2, ![4096, 1024]⟩
abbrev S_ : Shape := ⟨0, ![]⟩
abbrev S2816x1024 : Shape := ⟨2, ![2816, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4x704x1024, .bf16⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4x704x1024, .f32⟩
  | .hbm, ⟨19, _⟩ => ⟨S2816x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel5.lean ====
abbrev S4096x2816 : Shape := ⟨2, ![4096, 2816]⟩
abbrev S4x704x1024 : Shape := ⟨3, ![4, 704, 1024]⟩
abbrev S4096x1024 : Shape := ⟨2, ![4096, 1024]⟩
abbrev S1x1024 : Shape := ⟨2, ![1, 1024]⟩
abbrev S2816x1024 : Shape := ⟨2, ![2816, 1024]⟩
abbrev S8x1x1024 : Shape := ⟨3, ![8, 1, 1024]⟩
abbrev S512x2816 : Shape := ⟨2, ![512, 2816]⟩
abbrev S512x1024 : Shape := ⟨2, ![512, 1024]⟩
abbrev S1x1x1024 : Shape := ⟨3, ![1, 1, 1024]⟩
abbrev S2x4 : Shape := ⟨2, ![2, 4]⟩
abbrev S1x1 : Shape := ⟨2, ![1, 1]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .bf16⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S8x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024, .f32⟩
  | .local _ .vmem, ⟨14, _⟩ => ⟨S1x1x1024, .f32⟩
  | .local _ .vmem, ⟨15, _⟩ => ⟨S2816x1024, .bf16⟩
  | .local _ .vmem, ⟨16, _⟩ => ⟨S2816x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4096x2816 : Shape := ⟨2, ![4096, 2816]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S1024x2816 : Shape := ⟨2, ![1024, 2816]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4x704x1024, .f32⟩
  | .hbm, ⟨27, _⟩ => ⟨S2816x1024, .f32⟩
  | .hbm, ⟨28, _⟩ => ⟨S1024x2816, .f32⟩
  | .hbm, ⟨29, _⟩ => ⟨S4096x2816, .f32⟩
  | .hbm, ⟨30, _⟩ => ⟨S4x704x1024, .f32⟩
  | .hbm, ⟨31, _⟩ => ⟨S2816x1024, .f32⟩
  | .hbm, ⟨32, _⟩ => ⟨S1024x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel6.lean ====
abbrev S4096x1024 : Shape := ⟨2, ![4096, 1024]⟩
abbrev S4096x3584 : Shape := ⟨2, ![4096, 3584]⟩
abbrev S4x1024x896 : Shape := ⟨3, ![4, 1024, 896]⟩
abbrev S1024x1024 : Shape := ⟨2, ![1024, 1024]⟩
abbrev S1024x1792 : Shape := ⟨2, ![1024, 1792]⟩
abbrev S2x1024x896 : Shape := ⟨3, ![2, 1024, 896]⟩
abbrev S1024x896 : Shape := ⟨2, ![1024, 896]⟩
abbrev S1x1024x896 : Shape := ⟨3, ![1, 1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S4x1024x896, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S2x1024x896, .bf16⟩
  | .local _ .vmem, ⟨5, _⟩ => ⟨S2x1024x896, .bf16⟩
  | .local _ .vmem, ⟨6, _⟩ => ⟨S1024x1792, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference6Ideal.lean ====
abbrev S4096x1024 : Shape := ⟨2, ![4096, 1024]⟩
abbrev S4096x3584 : Shape := ⟨2, ![4096, 3584]⟩
abbrev S_ : Shape := ⟨0, ![]⟩
abbrev S4x1024x896 : Shape := ⟨3, ![4, 1024, 896]⟩
abbrev S1024x4x896 : Shape := ⟨3, ![1024, 4, 896]⟩
abbrev S1024x3584 : Shape := ⟨2, ![1024, 3584]⟩
abbrev S3584x1024 : Shape := ⟨2, ![3584, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S_, .bf16⟩
  | .hbm, ⟨3, _⟩ => ⟨S4x1024x896, .bf16⟩
  | .hbm, ⟨4, _⟩ => ⟨S4096x1024, .f32⟩
  | .hbm, ⟨5, _⟩ => ⟨S4x1024x896, .f32⟩
  | .hbm, ⟨6, _⟩ => ⟨S1024x4x896, .f32⟩
  | .hbm, ⟨7, _⟩ => ⟨S1024x3584, .f32⟩
  | .hbm, ⟨8, _⟩ => ⟨S4096x3584, .f32⟩
  | .hbm, ⟨9, _⟩ => ⟨S4096x3584, .f32⟩
  | .hbm, ⟨10, _⟩ => ⟨S3584x1024, .f32⟩
  | .hbm, ⟨11, _⟩ => ⟨S1024x3584, .f32⟩
  | .hbm, ⟨12, _⟩ => ⟨S1024x4x896, .f32⟩
  | .hbm, ⟨13, _⟩ => ⟨S4x1024x896, .f32⟩
  | .hbm, ⟨14, _⟩ => ⟨S4x1024x896, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .bf16⟩
  | .hbm, ⟨3, _⟩ => ⟨S1024x1024, .bf16⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x2816 : Shape := ⟨2, ![4096, 2816]⟩
abbrev S4x704x1024 : Shape := ⟨3, ![4, 704, 1024]⟩
abbrev S4096x1024 : Shape := ⟨2, ![4096, 1024]⟩
abbrev S1x1024 : Shape := ⟨2, ![1, 1024]⟩
abbrev S2816x1024 : Shape := ⟨2, ![2816, 1024]⟩
abbrev S8x1x1024 : Shape := ⟨3, ![8, 1, 1024]⟩
abbrev S512x2816 : Shape := ⟨2, ![512, 2816]⟩
abbrev S512x1024 : Shape := ⟨2, ![512, 1024]⟩
abbrev S1x1x1024 : Shape := ⟨3, ![1, 1, 1024]⟩
abbrev S2x4 : Shape := ⟨2, ![2, 4]⟩
abbrev S1x1 : Shape := ⟨2, ![1, 1]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .bf16⟩
  | .hbm, ⟨8, _⟩ => ⟨S2816x1024, .bf16⟩
  | .hbm, ⟨9, _⟩ => ⟨S4096x1024, .f32⟩
  | .hbm, ⟨10, _⟩ => ⟨S8x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S2816x1024, .bf16⟩
  | .local _ .vmem, ⟨14, _⟩ => ⟨S2816x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x2816 : Shape := ⟨2, ![4096, 2816]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S1024x2816 : Shape := ⟨2, ![1024, 2816]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4x704x1024, .f32⟩
  | .hbm, ⟨27, _⟩ => ⟨S2816x1024, .f32⟩
  | .hbm, ⟨28, _⟩ => ⟨S1024x2816, .f32⟩
  | .hbm, ⟨29, _⟩ => ⟨S4096x2816, .f32⟩
  | .hbm, ⟨30, _⟩ => ⟨S4x704x1024, .f32⟩
  | .hbm, ⟨31, _⟩ => ⟨S2816x1024, .f32⟩
  | .hbm, ⟨32, _⟩ => ⟨S1024x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel10.lean ====
abbrev S4096x2816 : Shape := ⟨2, ![4096, 2816]⟩
abbrev S4x704x1024 : Shape := ⟨3, ![4, 704, 1024]⟩
abbrev S4096x1024 : Shape := ⟨2, ![4096, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S1x4 : Shape := ⟨2, ![1, 4]⟩
abbrev S1x1 : Shape := ⟨2, ![1, 1]⟩
abbrev S_ : Shape := ⟨0, ![]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S2816x1024, .bf16⟩
  | .hbm, ⟨5, _⟩ => ⟨S4096x1024, .f32⟩
  | .hbm, ⟨6, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S2816x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x2816 : Shape := ⟨2, ![4096, 2816]⟩
abbrev S4x704x1024 : Shape := ⟨3, ![4, 704, 1024]⟩
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S4x704x1024, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference11Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel12.lean ====
abbrev S4096x2816 : Shape := ⟨2, ![4096, 2816]⟩
abbrev S4x704x1024 : Shape := ⟨3, ![4, 704, 1024]⟩
abbrev S4096x1024 : Shape := ⟨2, ![4096, 1024]⟩
abbrev S2816x1024 : Shape := ⟨2, ![2816, 1024]⟩
abbrev S8x1x1024 : Shape := ⟨3, ![8, 1, 1024]⟩
abbrev S512x2816 : Shape := ⟨2, ![512, 2816]⟩
abbrev S512x1024 : Shape := ⟨2, ![512, 1024]⟩
abbrev S1x1x1024 : Shape := ⟨3, ![1, 1, 1024]⟩
abbrev S1x4 : Shape := ⟨2, ![1, 4]⟩
abbrev S1x1 : Shape := ⟨2, ![1, 1]⟩
abbrev S_ : Shape := ⟨0, ![]⟩
abbrev S1024 : Shape := ⟨1, ![1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S2816x1024, .bf16⟩
  | .hbm, ⟨5, _⟩ => ⟨S4096x1024, .f32⟩
  | .hbm, ⟨6, _⟩ => ⟨S4096x1024, .bf16⟩
  | .hbm, ⟨7, _⟩ => ⟨S8x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S2816x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x2816 : Shape := ⟨2, ![4096, 2816]⟩
abbrev S4x704x1024 : Shape := ⟨3, ![4, 704, 1024]⟩
abbrev S4096x1024 : Shape := ⟨2, ![4096, 1024]⟩
abbrev S2816x1024 : Shape := ⟨2, ![2816, 1024]⟩
abbrev S_ : Shape := ⟨0, ![]⟩
abbrev S4096 : Shape := ⟨1, ![4096]⟩

abbrev nBuf : Space → Nat
  | .hbm => 39
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S4x704x1024, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Plain.Cond.lean ====
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 2).val) 0#32) (Scalar.cmpi .eq (BitVec.ofNat 32 (i 1).val) 0#32))) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_1, e0, e1, e2]
    word_cmp
   : ∀ t : Fin grid0.N, cond0_1 (grid0.coords t) ↔ t.val % 8 = 0)

end Cert.Kernel.Hand

end
-- ==== Proof.Plain.RunA.lean ====
module

public import proofs.«01_k».proof.Proof.Plain.Cond

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernelRun0_A (c : Dev nD) (i : grid0.Coords) (arg3 : Memref sig .tc .vmem S1x512x128 .bf16) (harg3 : arg3.IsWhole) (arg4 : Memref sig .tc .vmem S1x2560x128 .bf16) (harg4 : arg4.IsWhole) (arg5 : Memref sig .tc .vmem S1x2560x128 .bf16) (harg5 : arg5.IsWhole) (arg6 : Memref sig .tc .vmem S2x256x768 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x2560x128 .f32) (harg9 : arg9.IsWhole) (arg10 : Memref sig .tc .vmem S1x2560x128 .f32) (harg10 : arg10.IsWhole) (arg11 : Memref sig .tc .vmem S2x64x640 .f32) (harg11 : arg11.IsWhole) (arg12 : Memref sig .tc .vmem S2x64x640 .f32) (harg12 : arg12.IsWhole) (hc0 : cond0_0 i) (hc1 : cond0_1 i)
    (x0 : Vec F S1x512x128 .bf16) (x1 : Vec F S1x2560x128 .bf16) (x2 : Vec F S1x2560x128 .bf16) (x3 : Vec F S2x256x768 .f32) (x4 : Vec F S1x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.Kernel.Hand

end
-- ==== Proof.Plain.RunB.lean ====
module

public import proofs.«01_k».proof.Proof.Plain.Cond

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernelRun0_B (c : Dev nD) (i : grid0.Coords) (arg3 : Memref sig .tc .vmem S1x512x128 .bf16) (harg3 : arg3.IsWhole) (arg4 : Memref sig .tc .vmem S1x2560x128 .bf16) (harg4 : arg4.IsWhole) (arg5 : Memref sig .tc .vmem S1x2560x128 .bf16) (harg5 : arg5.IsWhole) (arg6 : Memref sig .tc .vmem S2x256x768 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x2560x128 .f32) (harg9 : arg9.IsWhole) (arg10 : Memref sig .tc .vmem S1x2560x128 .f32) (harg10 : arg10.IsWhole) (arg11 : Memref sig .tc .vmem S2x64x640 .f32) (harg11 : arg11.IsWhole) (arg12 : Memref sig .tc .vmem S2x64x640 .f32) (harg12 : arg12.IsWhole) (hc0 : ¬cond0_0 i) (hc1 : ¬cond0_1 i)
    (x0 : Vec F S1x512x128 .bf16) (x1 : Vec F S1x2560x128 .bf16) (x2 : Vec F S1x2560x128 .bf16) (x3 : Vec F S2x256x768 .f32) (x4 : Vec F S1x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.Kernel.Hand

end
-- ==== Proof.Plain.RunC.lean ====
module

public import proofs.«01_k».proof.Proof.Plain.Cond

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem kernelRun0_C (c : Dev nD) (i : grid0.Coords) (arg3 : Memref sig .tc .vmem S1x512x128 .bf16) (harg3 : arg3.IsWhole) (arg4 : Memref sig .tc .vmem S1x2560x128 .bf16) (harg4 : arg4.IsWhole) (arg5 : Memref sig .tc .vmem S1x2560x128 .bf16) (harg5 : arg5.IsWhole) (arg6 : Memref sig .tc .vmem S2x256x768 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x2560x128 .f32) (harg9 : arg9.IsWhole) (arg10 : Memref sig .tc .vmem S1x2560x128 .f32) (harg10 : arg10.IsWhole) (arg11 : Memref sig .tc .vmem S2x64x640 .f32) (harg11 : arg11.IsWhole) (arg12 : Memref sig .tc .vmem S2x64x640 .f32) (harg12 : arg12.IsWhole) (hc0 : cond0_0 i) (hc1 : ¬cond0_1 i)
    (x0 : Vec F S1x512x128 .bf16) (x1 : Vec F S1x2560x128 .bf16) (x2 : Vec F S1x2560x128 .bf16) (x3 : Vec F S2x256x768 .f32) (x4 : Vec F S1x512x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.Kernel.Hand

end
-- ==== Proof.Plain.Frame.lean ====
module

public import proofs.«01_k».proof.Proof.Plain.RunA
public import proofs.«01_k».proof.Proof.Plain.RunB
public import proofs.«01_k».proof.Proof.Plain.RunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`. -/
abbrev ms0_0 (t : Fin cfg0.N) : Memref sig .tc .vmem S1x512x128 .bf16 := win0_0.stage (cfg0.slots t 0)
abbrev ms0_1 (t : Fin cfg0.N) : Memref sig .tc .vmem S1x2560x128 .bf16 := win0_1.stage (cfg0.slots t 1)
abbrev ms0_2 (t : Fin cfg0.N) : Memref sig .tc .vmem S1x2560x128 .bf16 := win0_2.stage (cfg0.slots t 2)
abbrev ms0_3 (t : Fin cfg0.N) : Memref sig .tc .vmem S2x256x768 .f32 := win0_3.stage (cfg0.slots t 3)
abbrev ms0_4 (t : Fin cfg0.N) : Memref sig .tc .vmem S1x512x128 .f32 := win0_4.stage (cfg0.slots t 4)
abbrev ms0_5 (t : Fin cfg0.N) : Memref sig .tc .vmem S1x512x128 .f32 := win0_5.stage (cfg0.slots t 5)
abbrev ms0_6 (t : Fin cfg0.N) : Memref sig .tc .vmem S1x2560x128 .f32 := win0_6.stage (cfg0.slots t 6)
abbrev ms0_7 (t : Fin cfg0.N) : Memref sig .tc .vmem S1x2560x128 .f32 := win0_7.stage (cfg0.slots t 7)
abbrev ms0_8 (t : Fin cfg0.N) : Memref sig .tc .vmem S2x64x640 .f32 := win0_8.stage (cfg0.slots t 8)
abbrev ms0_9 (t : Fin cfg0.N) : Memref sig .tc .vmem S2x64x640 .f32 := win0_9.stage (cfg0.slots t 9)

/-- The outputs of which nothing is said. -/
def forgets0 : Fin 10 → Bool := fun w => w.val == 5 || w.val == 6 || w.val == 7 || w.val == 8 || w.val == 9

/-- The region's data: the arrays as the host lines leave them, each input's block in its buffer, and after the body
    nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the point's place in its batch entry and head pair says which case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 32 := lt_of_lt_of_eq t.isLt (show cfg0.N = 32 from N_0)
  by_cases h0 : t.val % 4 = 0
  · by_cases h1 : t.val % 8 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases h1 : t.val % 8 = 0
    · exfalso; omega
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every run ends with the arrays as the data say and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What such a final state says of the arguments. -/
theorem args_of {r : PUnit × MemSt nD τ sig (Elt F)} (h : Pipeline.RDat.FramePost (cfgs 0) (fun c => (dats m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (Pipeline.RDat.FramePost.arr_in h c 4 rfl).trans ((A_eq m c 4).trans (V_main_arg4 m c))⟩

/-- The frame claim: the arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m h.1 c, h.2⟩) (run_main_quiescent m ρ)

end Cert.Kernel.Hand

end
-- ==== Proof.Attn.Body.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (BitVec.ofNat 32 (i 2).val) 0#32) (Scalar.cmpi .eq (BitVec.ofNat 32 (i 1).val) 0#32))) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_1, e0, e1, e2]
    word_cmp
   : ∀ t : Fin grid0.N, cond0_1 (grid0.coords t) ↔ t.val % 8 = 0)

/-! ## Writes as overlays -/

/-- A buffer read after a list of writes is the last write laid over what the earlier ones left. -/
theorem read_writes_over {Val : EltTy → Type} {sig : RefSig} {κ : Kind} {sp : Space} {s : Shape} {e : EltTy} (v : View sig κ sp s e)
    (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨x, -, rfl⟩ := Finset.mem_map.mp (show y ∈ Finset.univ.map p.1.emb by rw [Rect.map_emb_univ]; exact hy)
    rw [View.read_writes_cons_emb, Rect.overlay_emb]
  · rw [View.read_writes_cons_miss _ _ _ _ _ hy, Rect.overlay_of_not_mem _ _ _ hy]

/-- A load reads the buffer at the load's indices. -/
theorem readAt_fun {Val : EltTy → Type} {sig : RefSig} {κ : Kind} {sp : Space} {s : Shape} {e : EltTy} (v : View sig κ sp s e)
    (B : LoadRect s) (f : v.ty.Contents Val) : View.readAt Val v B f = fun x => v.read Val f (B.idx x) := rfl

/-- A rectangle that is the whole shape, laid over anything, leaves its own contents. -/
theorem overlay_full {s : Shape} {α : Type} {off : Fin s.rank → ℕ} (inb : ∀ a, off a + s.size a ≤ s.size a) (X : s.Idx → α)
    (x : s.Idx → α) : (Rect.unit off s.size inb).overlay X x = x := by
  have h0 : off = fun _ => 0 := funext fun a => by have := inb a; omega
  subst h0
  funext y
  have e : (Rect.unit (fun _ => 0) s.size inb).emb y = y := by
    funext a; apply Fin.ext; show 0 + 1 * (y a).val = (y a).val; omega
  conv_lhs => rw [← e]
  exact Rect.overlay_emb _ _ _ _
/-! ## What one grid point computes

A grid point holds 512 queries of one batch entry and two heads side by side in the 128 lanes.  It treats them
as two blocks of 256 queries; block `j` at point `i` sees the 768 keys from row `256 * (2 * i + j)` on. -/

/-- Where block `j`'s key window starts. -/
def start (i : grid0.Coords) (j : BitVec 32) : BitVec 32 :=
  Scalar.muli (Scalar.addi (Scalar.muli (BitVec.ofNat 32 (i 2).val) 2#32) j) 256#32

/-- The two key windows, -/
abbrev win0R (i : grid0.Coords) : Rect S1x2560x128 := Rect.unit (k0_off1 i 0#32) S1x768x128.size (k0_off1_inb i 0)
abbrev win1R (i : grid0.Coords) : Rect S1x2560x128 := Rect.unit (k0_off1 i 1#32) S1x768x128.size (k0_off1_inb i 1)
/-- the two halves of the queries, -/
abbrev half0R : Rect S1x512x128 := Rect.unit ![0, 0, 0] S1x256x128.size inb_S1x512x128_S1x256x128_0_0_0
abbrev half1R : Rect S1x512x128 := Rect.unit ![0, 256, 0] S1x256x128.size inb_S1x512x128_S1x256x128_0_256_0
/-- and the two heads' tables. -/
abbrev tab0R : Rect S2x256x768 := Rect.unit ![0, 0, 0] S1x256x768.size inb_S2x256x768_S1x256x768_0_0_0
abbrev tab1R : Rect S2x256x768 := Rect.unit ![1, 0, 0] S1x256x768.size inb_S2x256x768_S1x256x768_1_0_0

section Block

variable (st : BitVec 32) (kw vw : Vec F S1x768x128 .bf16) (q : Vec F S1x256x128 .bf16) (dO : Vec F S1x256x128 .f32)
  (t0 t1 : Vec F S1x256x768 .f32)

/-- A block's probabilities for the first head and for the second, -/
def P0 : FVec F S256x768 .f32 := k0_pay17 st (k0_pay9 kw) (k0_pay13 q) t0
def P1 : FVec F S256x768 .f32 := k0_pay17 st (k0_pay9 kw) (k0_pay28 k0_pay8 q) t1
/-- their gradients, -/
def G0 : FVec F S256x768 .f32 := k0_pay21 (k0_pay10 vw) (k0_pay15 k0_pay7 (k0_pay12 dO))
def G1 : FVec F S256x768 .f32 := k0_pay21 (k0_pay10 vw) (k0_pay15 k0_pay8 (k0_pay12 dO))
/-- the block's gradient of the queries, -/
def dqP : FVec F S1x256x128 .f32 :=
  k0_pay57 k0_pay7 (k0_pay42 (k0_pay9 kw) (P0 st kw q t0) (G0 vw dO)) (k0_pay42 (k0_pay9 kw) (P1 st kw q t1) (G1 vw dO))
/-- and what it adds to the gradient of the keys and of the values. -/
def dkP : FVec F S768x128 .f32 :=
  addf (k0_pay44 (k0_pay13 q) (P0 st kw q t0) (G0 vw dO)) (k0_pay44 (k0_pay28 k0_pay8 q) (P1 st kw q t1) (G1 vw dO))
def dvP : FVec F S768x128 .f32 :=
  addf (k0_pay46 (k0_pay15 k0_pay7 (k0_pay12 dO)) (P0 st kw q t0)) (k0_pay46 (k0_pay15 k0_pay8 (k0_pay12 dO)) (P1 st kw q t1))

end Block

/-- A window of the running gradient with a block's part added. -/
def accP (old : Vec F S1x768x128 .f32) (d : FVec F S768x128 .f32) : FVec F S1x768x128 .f32 :=
  shapeCast S1x768x128 (addf (shapeCast S768x128 old shapeCasts_S1x768x128_S768x128) d) shapeCasts_S768x128_S1x768x128

section Point

variable (i : grid0.Coords) (x0 : Vec F S1x512x128 .bf16) (x1 x2 : Vec F S1x2560x128 .bf16) (x3 : Vec F S2x256x768 .f32)
  (x4 : Vec F S1x512x128 .f32)

def dq0 : FVec F S1x256x128 .f32 :=
  dqP (start i 0#32) (View.ld x1 (win0R i)) (View.ld x2 (win0R i)) (View.ld x0 half0R) (View.ld x4 half0R) (View.ld x3 tab0R) (View.ld x3 tab1R)
def dq1 : FVec F S1x256x128 .f32 :=
  dqP (start i 1#32) (View.ld x1 (win1R i)) (View.ld x2 (win1R i)) (View.ld x0 half1R) (View.ld x4 half1R) (View.ld x3 tab0R) (View.ld x3 tab1R)
def dk0 : FVec F S768x128 .f32 :=
  dkP (start i 0#32) (View.ld x1 (win0R i)) (View.ld x2 (win0R i)) (View.ld x0 half0R) (View.ld x4 half0R) (View.ld x3 tab0R) (View.ld x3 tab1R)
def dk1 : FVec F S768x128 .f32 :=
  dkP (start i 1#32) (View.ld x1 (win1R i)) (View.ld x2 (win1R i)) (View.ld x0 half1R) (View.ld x4 half1R) (View.ld x3 tab0R) (View.ld x3 tab1R)
def dv0 : FVec F S768x128 .f32 :=
  dvP (start i 0#32) (View.ld x1 (win0R i)) (View.ld x0 half0R) (View.ld x4 half0R) (View.ld x3 tab0R) (View.ld x3 tab1R)
def dv1 : FVec F S768x128 .f32 :=
  dvP (start i 1#32) (View.ld x1 (win1R i)) (View.ld x0 half1R) (View.ld x4 half1R) (View.ld x3 tab0R) (View.ld x3 tab1R)

/-- The gradient of the point's queries. -/
def dqOut : Vec F S1x512x128 .f32 :=
  half1R.overlay (half0R.overlay (fun _ => FloatOps.ofBits .f32 0) (dq0 i x0 x1 x2 x3 x4)) (dq1 i x0 x1 x2 x3 x4)

/-- The two halves cover the queries: nothing is left of what they are laid over. -/
theorem halves_over (X Y : Vec F S1x512x128 .f32) (a b : Vec F S1x256x128 .f32) :
    half1R.overlay (half0R.overlay X a) b = half1R.overlay (half0R.overlay Y a) b := by
  funext y
  by_cases h1 : y ∈ half1R.set
  · obtain ⟨x, -, rfl⟩ := Finset.mem_map.mp (show y ∈ Finset.univ.map half1R.emb by rw [Rect.map_emb_univ]; exact h1)
    rw [Rect.overlay_emb, Rect.overlay_emb]
  · rw [Rect.overlay_of_not_mem _ _ _ h1, Rect.overlay_of_not_mem _ _ _ h1]
    have h0 : y ∈ half0R.set := by
      by_contra h0
      have hy0 := (y 0).isLt; have hy1 := (y 1).isLt; have hy2 := (y 2).isLt
      change (y 0).val < 1 at hy0; change (y 1).val < 512 at hy1; change (y 2).val < 128 at hy2
      by_cases hy : (y 1).val < 256
      · refine h0 (half0R.mem_set.mpr fun a => ?_)
        fin_cases a
        · exact ⟨0, by decide, by show (y 0).val = 0; omega⟩
        · exact ⟨(y 1).val, hy, by show (y 1).val = 0 + 1 * (y 1).val; omega⟩
        · exact ⟨(y 2).val, hy2, by show (y 2).val = 0 + 1 * (y 2).val; omega⟩
      · refine h1 (half1R.mem_set.mpr fun a => ?_)
        fin_cases a
        · exact ⟨0, by decide, by show (y 0).val = 0; omega⟩
        · exact ⟨(y 1).val - 256, by show (y 1).val - 256 < 256; omega, by show (y 1).val = 256 + 1 * ((y 1).val - 256); omega⟩
        · exact ⟨(y 2).val, hy2, by show (y 2).val = 0 + 1 * (y 2).val; omega⟩
    obtain ⟨x, -, rfl⟩ := Finset.mem_map.mp (show y ∈ Finset.univ.map half0R.emb by rw [Rect.map_emb_univ]; exact h0)
    rw [Rect.overlay_emb, Rect.overlay_emb]

/-- A running gradient `d` with two blocks' parts added, the second over the first. -/
def stepK (d : Vec F S1x2560x128 .f32) (a b : FVec F S768x128 .f32) : Vec F S1x2560x128 .f32 :=
  (win1R i).overlay ((win0R i).overlay d (accP (View.ld d (win0R i)) a))
    (accP (View.ld ((win0R i).overlay d (accP (View.ld d (win0R i)) a)) (win1R i)) b)

def dkOut (d : Vec F S1x2560x128 .f32) : Vec F S1x2560x128 .f32 := stepK i d (dk0 i x0 x1 x2 x3 x4) (dk1 i x0 x1 x2 x3 x4)
def dvOut (d : Vec F S1x2560x128 .f32) : Vec F S1x2560x128 .f32 := stepK i d (dv0 i x0 x1 x3 x4) (dv1 i x0 x1 x3 x4)

end Point

/-- The two parts added to a running gradient that the point has just set to `z`: what lay in the buffer before does
not matter, neither to the loads nor to what is left. -/
theorem read_fresh (i : grid0.Coords) {sig : RefSig} {κ : Kind} {sp : Space} (v : View sig κ sp S1x2560x128 .f32)
    (f g : v.ty.Contents (Elt F)) {off : Fin S1x2560x128.rank → ℕ} (inb : ∀ a, off a + S1x2560x128.size a ≤ S1x2560x128.size a)
    (z : Vec F S1x2560x128 .f32) (a b : FVec F S768x128 .f32) (p0 p1 : Vec F S1x768x128 .f32)
    (h0 : p0 = accP (View.readAt (Elt F) v (win0R i).toLoadRect (v.writes (Elt F) g [⟨Rect.unit off S1x2560x128.size inb, z⟩])) a)
    (h1 : p1 = accP (View.readAt (Elt F) v (win1R i).toLoadRect (v.writes (Elt F) g [⟨win0R i, p0⟩, ⟨Rect.unit off S1x2560x128.size inb, z⟩])) b) :
    v.read (Elt F) (v.writes (Elt F) f [⟨win1R i, p1⟩, ⟨win0R i, p0⟩, ⟨Rect.unit off S1x2560x128.size inb, z⟩]) = stepK i z a b := by
  have e (h : v.ty.Contents (Elt F)) : v.read (Elt F) (v.writes (Elt F) h [⟨Rect.unit off S1x2560x128.size inb, z⟩]) = z :=
    (read_writes_over _ _ _ _).trans (overlay_full inb _ z)
  have e0 : p0 = accP (View.ld z (win0R i)) a :=
    h0.trans (congrArg (fun B => accP (View.ld B (win0R i)) a) (e g))
  have e1 (h : v.ty.Contents (Elt F)) : v.read (Elt F) (v.writes (Elt F) h [⟨win0R i, p0⟩, ⟨Rect.unit off S1x2560x128.size inb, z⟩])
      = (win0R i).overlay z (accP (View.ld z (win0R i)) a) := by
    rw [read_writes_over, e h, e0]
  have e2 : p1 = accP (View.ld ((win0R i).overlay z (accP (View.ld z (win0R i)) a)) (win1R i)) b :=
    h1.trans (congrArg (fun B => accP (View.ld B (win1R i)) b) (e1 g))
  rw [read_writes_over, e1 f, e2]
  rfl

/-- The same over a running gradient that the point finds. -/
theorem read_onto (i : grid0.Coords) {sig : RefSig} {κ : Kind} {sp : Space} (v : View sig κ sp S1x2560x128 .f32)
    (f : v.ty.Contents (Elt F)) (a b : FVec F S768x128 .f32) (p0 p1 : Vec F S1x768x128 .f32)
    (h0 : p0 = accP (View.readAt (Elt F) v (win0R i).toLoadRect f) a)
    (h1 : p1 = accP (View.readAt (Elt F) v (win1R i).toLoadRect (v.writes (Elt F) f [⟨win0R i, p0⟩])) b) :
    v.read (Elt F) (v.writes (Elt F) f [⟨win1R i, p1⟩, ⟨win0R i, p0⟩]) = stepK i (v.read (Elt F) f) a b := by
  have e1 : v.read (Elt F) (v.writes (Elt F) f [⟨win0R i, p0⟩])
      = (win0R i).overlay (v.read (Elt F) f) (accP (View.ld (v.read (Elt F) f) (win0R i)) a) := by
    rw [read_writes_over, h0]; rfl
  have e2 : p1 = accP (View.ld ((win0R i).overlay (v.read (Elt F) f) (accP (View.ld (v.read (Elt F) f) (win0R i)) a)) (win1R i)) b :=
    h1.trans (congrArg (fun B => accP (View.ld B (win1R i)) b) e1)
  rw [read_writes_over, e1, e2]
  rfl

end Cert.KernelIdeal.Hand

end
-- ==== Proof.Attn.RunA.lean ====
module

public import proofs.«01_k».proof.Proof.Attn.Body
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem kernelRun0_A (c : Dev nD) (i : grid0.Coords) (arg3 : Memref sig .tc .vmem S1x512x128 .bf16) (harg3 : arg3.IsWhole) (arg4 : Memref sig .tc .vmem S1x2560x128 .bf16) (harg4 : arg4.IsWhole) (arg5 : Memref sig .tc .vmem S1x2560x128 .bf16) (harg5 : arg5.IsWhole) (arg6 : Memref sig .tc .vmem S2x256x768 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x2560x128 .f32) (harg9 : arg9.IsWhole) (arg10 : Memref sig .tc .vmem S1x2560x128 .f32) (harg10 : arg10.IsWhole) (arg11 : Memref sig .tc .vmem S2x64x640 .f32) (harg11 : arg11.IsWhole) (arg12 : Memref sig .tc .vmem S2x64x640 .f32) (harg12 : arg12.IsWhole) (hc0 : cond0_0 i) (hc1 : cond0_1 i)
    (x0 : Vec F S1x512x128 .bf16) (x1 : Vec F S1x2560x128 .bf16) (x2 : Vec F S1x2560x128 .bf16) (x3 : Vec F S2x256x768 .f32) (x4 : Vec F S1x512x128 .f32) (d6 d7 : Vec F S1x2560x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare d6 ∗ owns (c : Thread nD τ) arg10 fullShare d7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (dqOut i x0 x1 x2 x3 x4) ∗ owns (c : Thread nD τ) arg9 fullShare (dkOut i x0 x1 x2 x3 x4 k0_pay3) ∗ owns (c : Thread nD τ) arg10 fullShare (dvOut i x0 x1 x3 x4 k0_pay4) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    subst hf0; subst hf1; subst hf2; subst hf3; subst hf4; subst hf6; subst hf7
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      rw [read_writes_over, read_writes_over]
      exact halves_over _ _ (dq0 i _ _ _ _ _) (dq1 i _ _ _ _ _)
    isplitl [H6]
    · iexists _; isplitr; swap; · iexact H6
      ipureintro
      refine read_fresh i arg9.view arg9.view.junk arg9.view.junk inb_S1x2560x128_S1x2560x128_0_0_0 k0_pay3 (dk0 i (arg3.view.read (Elt F) f0) (arg4.view.read (Elt F) f1) (arg5.view.read (Elt F) f2) (arg6.view.read (Elt F) f3) (arg7.view.read (Elt F) f4)) (dk1 i (arg3.view.read (Elt F) f0) (arg4.view.read (Elt F) f1) (arg5.view.read (Elt F) f2) (arg6.view.read (Elt F) f3) (arg7.view.read (Elt F) f4)) _ _ ?_ ?_
      · rfl
      · rfl
    isplitl [H7]
    · iexists _; isplitr; swap; · iexact H7
      ipureintro
      refine read_fresh i arg10.view arg10.view.junk arg10.view.junk inb_S1x2560x128_S1x2560x128_0_0_0 k0_pay4 (dv0 i (arg3.view.read (Elt F) f0) (arg4.view.read (Elt F) f1) (arg6.view.read (Elt F) f3) (arg7.view.read (Elt F) f4)) (dv1 i (arg3.view.read (Elt F) f0) (arg4.view.read (Elt F) f1) (arg6.view.read (Elt F) f3) (arg7.view.read (Elt F) f4)) _ _ ?_ ?_
      · rfl
      · rfl
    isplitl [H8]
    · iexists _, _; isplitr; swap; · iexact H8
      ipureintro; rfl
    iexists _, _; isplitr; swap; · iexact H9
    ipureintro; rfl

end Cert.KernelIdeal.Hand

end
-- ==== Proof.Attn.RunB.lean ====
module

public import proofs.«01_k».proof.Proof.Attn.Body
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem kernelRun0_B (c : Dev nD) (i : grid0.Coords) (arg3 : Memref sig .tc .vmem S1x512x128 .bf16) (harg3 : arg3.IsWhole) (arg4 : Memref sig .tc .vmem S1x2560x128 .bf16) (harg4 : arg4.IsWhole) (arg5 : Memref sig .tc .vmem S1x2560x128 .bf16) (harg5 : arg5.IsWhole) (arg6 : Memref sig .tc .vmem S2x256x768 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x2560x128 .f32) (harg9 : arg9.IsWhole) (arg10 : Memref sig .tc .vmem S1x2560x128 .f32) (harg10 : arg10.IsWhole) (arg11 : Memref sig .tc .vmem S2x64x640 .f32) (harg11 : arg11.IsWhole) (arg12 : Memref sig .tc .vmem S2x64x640 .f32) (harg12 : arg12.IsWhole) (hc0 : ¬cond0_0 i) (hc1 : ¬cond0_1 i)
    (x0 : Vec F S1x512x128 .bf16) (x1 : Vec F S1x2560x128 .bf16) (x2 : Vec F S1x2560x128 .bf16) (x3 : Vec F S2x256x768 .f32) (x4 : Vec F S1x512x128 .f32) (d6 d7 : Vec F S1x2560x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare d6 ∗ owns (c : Thread nD τ) arg10 fullShare d7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (dqOut i x0 x1 x2 x3 x4) ∗ owns (c : Thread nD τ) arg9 fullShare (dkOut i x0 x1 x2 x3 x4 d6) ∗ owns (c : Thread nD τ) arg10 fullShare (dvOut i x0 x1 x3 x4 d7) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    subst hf0; subst hf1; subst hf2; subst hf3; subst hf4; subst hf6; subst hf7
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      rw [read_writes_over, read_writes_over]
      exact halves_over _ _ (dq0 i _ _ _ _ _) (dq1 i _ _ _ _ _)
    isplitl [H6]
    · iexists _; isplitr; swap; · iexact H6
      ipureintro
      refine read_onto i arg9.view f6 (dk0 i (arg3.view.read (Elt F) f0) (arg4.view.read (Elt F) f1) (arg5.view.read (Elt F) f2) (arg6.view.read (Elt F) f3) (arg7.view.read (Elt F) f4)) (dk1 i (arg3.view.read (Elt F) f0) (arg4.view.read (Elt F) f1) (arg5.view.read (Elt F) f2) (arg6.view.read (Elt F) f3) (arg7.view.read (Elt F) f4)) _ _ ?_ ?_
      · rfl
      · rfl
    isplitl [H7]
    · iexists _; isplitr; swap; · iexact H7
      ipureintro
      refine read_onto i arg10.view f7 (dv0 i (arg3.view.read (Elt F) f0) (arg4.view.read (Elt F) f1) (arg6.view.read (Elt F) f3) (arg7.view.read (Elt F) f4)) (dv1 i (arg3.view.read (Elt F) f0) (arg4.view.read (Elt F) f1) (arg6.view.read (Elt F) f3) (arg7.view.read (Elt F) f4)) _ _ ?_ ?_
      · rfl
      · rfl
    isplitl [H8]
    · iexists _, _; isplitr; swap; · iexact H8
      ipureintro; rfl
    iexists _, _; isplitr; swap; · iexact H9
    ipureintro; rfl

end Cert.KernelIdeal.Hand

end
-- ==== Proof.Attn.RunC.lean ====
module

public import proofs.«01_k».proof.Proof.Attn.Body
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
theorem kernelRun0_C (c : Dev nD) (i : grid0.Coords) (arg3 : Memref sig .tc .vmem S1x512x128 .bf16) (harg3 : arg3.IsWhole) (arg4 : Memref sig .tc .vmem S1x2560x128 .bf16) (harg4 : arg4.IsWhole) (arg5 : Memref sig .tc .vmem S1x2560x128 .bf16) (harg5 : arg5.IsWhole) (arg6 : Memref sig .tc .vmem S2x256x768 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x2560x128 .f32) (harg9 : arg9.IsWhole) (arg10 : Memref sig .tc .vmem S1x2560x128 .f32) (harg10 : arg10.IsWhole) (arg11 : Memref sig .tc .vmem S2x64x640 .f32) (harg11 : arg11.IsWhole) (arg12 : Memref sig .tc .vmem S2x64x640 .f32) (harg12 : arg12.IsWhole) (hc0 : cond0_0 i) (hc1 : ¬cond0_1 i)
    (x0 : Vec F S1x512x128 .bf16) (x1 : Vec F S1x2560x128 .bf16) (x2 : Vec F S1x2560x128 .bf16) (x3 : Vec F S2x256x768 .f32) (x4 : Vec F S1x512x128 .f32) (d6 d7 : Vec F S1x2560x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare d6 ∗ owns (c : Thread nD τ) arg10 fullShare d7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (dqOut i x0 x1 x2 x3 x4) ∗ owns (c : Thread nD τ) arg9 fullShare (dkOut i x0 x1 x2 x3 x4 k0_pay3) ∗ owns (c : Thread nD τ) arg10 fullShare (dvOut i x0 x1 x3 x4 k0_pay4) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, Hk⟩
    subst hf0; subst hf1; subst hf2; subst hf3; subst hf4; subst hf6; subst hf7
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      rw [read_writes_over, read_writes_over]
      exact halves_over _ _ (dq0 i _ _ _ _ _) (dq1 i _ _ _ _ _)
    isplitl [H6]
    · iexists _; isplitr; swap; · iexact H6
      ipureintro
      refine read_fresh i arg9.view arg9.view.junk arg9.view.junk inb_S1x2560x128_S1x2560x128_0_0_0 k0_pay3 (dk0 i (arg3.view.read (Elt F) f0) (arg4.view.read (Elt F) f1) (arg5.view.read (Elt F) f2) (arg6.view.read (Elt F) f3) (arg7.view.read (Elt F) f4)) (dk1 i (arg3.view.read (Elt F) f0) (arg4.view.read (Elt F) f1) (arg5.view.read (Elt F) f2) (arg6.view.read (Elt F) f3) (arg7.view.read (Elt F) f4)) _ _ ?_ ?_
      · rfl
      · rfl
    isplitl [H7]
    · iexists _; isplitr; swap; · iexact H7
      ipureintro
      refine read_fresh i arg10.view arg10.view.junk arg10.view.junk inb_S1x2560x128_S1x2560x128_0_0_0 k0_pay4 (dv0 i (arg3.view.read (Elt F) f0) (arg4.view.read (Elt F) f1) (arg6.view.read (Elt F) f3) (arg7.view.read (Elt F) f4)) (dv1 i (arg3.view.read (Elt F) f0) (arg4.view.read (Elt F) f1) (arg6.view.read (Elt F) f3) (arg7.view.read (Elt F) f4)) _ _ ?_ ?_
      · rfl
      · rfl
    isplitl [H8]
    · iexists _, _; isplitr; swap; · iexact H8
      ipureintro; rfl
    iexists _, _; isplitr; swap; · iexact H9
    ipureintro; rfl

end Cert.KernelIdeal.Hand

end
-- ==== Proof.Attn.Frame.lean ====
module

public import proofs.«01_k».proof.Proof.Attn.RunA
public import proofs.«01_k».proof.Proof.Attn.RunB
public import proofs.«01_k».proof.Proof.Attn.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`. -/
abbrev ms0_0 (t : Fin cfg0.N) : Memref sig .tc .vmem S1x512x128 .bf16 := win0_0.stage (cfg0.slots t 0)
abbrev ms0_1 (t : Fin cfg0.N) : Memref sig .tc .vmem S1x2560x128 .bf16 := win0_1.stage (cfg0.slots t 1)
abbrev ms0_2 (t : Fin cfg0.N) : Memref sig .tc .vmem S1x2560x128 .bf16 := win0_2.stage (cfg0.slots t 2)
abbrev ms0_3 (t : Fin cfg0.N) : Memref sig .tc .vmem S2x256x768 .f32 := win0_3.stage (cfg0.slots t 3)
abbrev ms0_4 (t : Fin cfg0.N) : Memref sig .tc .vmem S1x512x128 .f32 := win0_4.stage (cfg0.slots t 4)
abbrev ms0_5 (t : Fin cfg0.N) : Memref sig .tc .vmem S1x512x128 .f32 := win0_5.stage (cfg0.slots t 5)
abbrev ms0_6 (t : Fin cfg0.N) : Memref sig .tc .vmem S1x2560x128 .f32 := win0_6.stage (cfg0.slots t 6)
abbrev ms0_7 (t : Fin cfg0.N) : Memref sig .tc .vmem S1x2560x128 .f32 := win0_7.stage (cfg0.slots t 7)
abbrev ms0_8 (t : Fin cfg0.N) : Memref sig .tc .vmem S2x64x640 .f32 := win0_8.stage (cfg0.slots t 8)
abbrev ms0_9 (t : Fin cfg0.N) : Memref sig .tc .vmem S2x64x640 .f32 := win0_9.stage (cfg0.slots t 9)

/-! ## What the points leave -/

/-- The gradient of point `t`'s queries. -/
def dqAt (c : Dev nD) (t : Fin cfg0.N) : Vec F S1x512x128 .f32 :=
  dqOut (grid0.coords t) (iblk m c 0 t) (iblk m c 1 t) (iblk m c 2 t) (iblk m c 3 t) (iblk m c 4 t)

/-- The running gradient of the keys after point `n`: from nothing at the first of a batch entry's four points. -/
def dkAt (c : Dev nD) : (n : ℕ) → n < cfg0.N → Vec F S1x2560x128 .f32
  | 0, h => dkOut (grid0.coords ⟨0, h⟩) (iblk m c 0 ⟨0, h⟩) (iblk m c 1 ⟨0, h⟩) (iblk m c 2 ⟨0, h⟩) (iblk m c 3 ⟨0, h⟩) (iblk m c 4 ⟨0, h⟩) k0_pay3
  | n + 1, h => dkOut (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩)
      (if (n + 1) % 4 = 0 then k0_pay3 else dkAt c n (Nat.lt_of_succ_lt h))

/-- The same of the values. -/
def dvAt (c : Dev nD) : (n : ℕ) → n < cfg0.N → Vec F S1x2560x128 .f32
  | 0, h => dvOut (grid0.coords ⟨0, h⟩) (iblk m c 0 ⟨0, h⟩) (iblk m c 1 ⟨0, h⟩) (iblk m c 3 ⟨0, h⟩) (iblk m c 4 ⟨0, h⟩) k0_pay4
  | n + 1, h => dvOut (grid0.coords ⟨n + 1, h⟩) (iblk m c 0 ⟨n + 1, h⟩) (iblk m c 1 ⟨n + 1, h⟩) (iblk m c 3 ⟨n + 1, h⟩) (iblk m c 4 ⟨n + 1, h⟩)
      (if (n + 1) % 4 = 0 then k0_pay4 else dvAt c n (Nat.lt_of_succ_lt h))

theorem dkAt_reset (c : Dev nD) (t : Fin cfg0.N) (h0 : t.val % 4 = 0) :
    dkAt m c t.val t.isLt = dkOut (grid0.coords t) (iblk m c 0 t) (iblk m c 1 t) (iblk m c 2 t) (iblk m c 3 t) (iblk m c 4 t) k0_pay3 := by
  obtain ⟨n, h⟩ := t
  cases n with
  | zero => rfl
  | succ n => dsimp only at h0 ⊢; rw [dkAt, if_pos h0]

theorem dkAt_step (c : Dev nD) (t : Fin cfg0.N) (h0 : ¬t.val % 4 = 0) :
    dkAt m c t.val t.isLt = dkOut (grid0.coords t) (iblk m c 0 t) (iblk m c 1 t) (iblk m c 2 t) (iblk m c 3 t) (iblk m c 4 t)
      (dkAt m c (t.val - 1) (Nat.lt_of_le_of_lt (Nat.sub_le _ _) t.isLt)) := by
  obtain ⟨n, h⟩ := t
  cases n with
  | zero => exact absurd rfl h0
  | succ n => dsimp only at h0 ⊢; rw [dkAt, if_neg h0]; rfl

theorem dvAt_reset (c : Dev nD) (t : Fin cfg0.N) (h0 : t.val % 4 = 0) :
    dvAt m c t.val t.isLt = dvOut (grid0.coords t) (iblk m c 0 t) (iblk m c 1 t) (iblk m c 3 t) (iblk m c 4 t) k0_pay4 := by
  obtain ⟨n, h⟩ := t
  cases n with
  | zero => rfl
  | succ n => dsimp only at h0 ⊢; rw [dvAt, if_pos h0]

theorem dvAt_step (c : Dev nD) (t : Fin cfg0.N) (h0 : ¬t.val % 4 = 0) :
    dvAt m c t.val t.isLt = dvOut (grid0.coords t) (iblk m c 0 t) (iblk m c 1 t) (iblk m c 3 t) (iblk m c 4 t)
      (dvAt m c (t.val - 1) (Nat.lt_of_le_of_lt (Nat.sub_le _ _) t.isLt)) := by
  obtain ⟨n, h⟩ := t
  cases n with
  | zero => exact absurd rfl h0
  | succ n => dsimp only at h0 ⊢; rw [dvAt, if_neg h0]; rfl

/-- The outputs of which nothing is said. -/
def forgets0 : Fin 10 → Bool := fun w => w.val == 8 || w.val == 9

/-- The region's data: the arrays as the host lines leave them, each input's block in its buffer, and after the body
    the gradients of the queries, keys and values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAt m c t.val t.isLt
    | ⟨7, _⟩ => dvAt m c t.val t.isLt
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqAt m c t := by dsimp only [dats]
theorem after0_6 (c : Dev nD) (t : Fin cfg0.N) : (dats m 0 c).after 6 t = dkAt m c t.val t.isLt := by dsimp only [dats]
theorem after0_7 (c : Dev nD) (t : Fin cfg0.N) : (dats m 0 c).after 7 t = dvAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- Inside a batch entry's four points the buffer holds what the point before left. -/
theorem before0_6_B (c : Dev nD) (t : Fin cfg0.N) (h0 : ¬t.val % 4 = 0) (d) :
    (dats m 0 c).before 6 t d = dkAt m c (t.val - 1) (Nat.lt_of_le_of_lt (Nat.sub_le _ _) t.isLt) := by
  have hfl : (cfg0.win 6).flush ⟨t.val - 1, Nat.lt_of_le_of_lt (Nat.sub_le _ _) t.isLt⟩ = false := by
    rw [Bool.eq_false_iff, Ne, flush0_6]; dsimp only; omega
  rw [Dat.before_out_kept (dats m 0 c) 6 rfl t (by omega) hfl (fun _ => rfl) (fun _ _ => rfl) d, after0_6]
/-- Inside a batch entry's four points the buffer holds what the point before left. -/
theorem before0_7_B (c : Dev nD) (t : Fin cfg0.N) (h0 : ¬t.val % 4 = 0) (d) :
    (dats m 0 c).before 7 t d = dvAt m c (t.val - 1) (Nat.lt_of_le_of_lt (Nat.sub_le _ _) t.isLt) := by
  have hfl : (cfg0.win 7).flush ⟨t.val - 1, Nat.lt_of_le_of_lt (Nat.sub_le _ _) t.isLt⟩ = false := by
    rw [Bool.eq_false_iff, Ne, flush0_7]; dsimp only; omega
  rw [Dat.before_out_kept (dats m 0 c) 7 rfl t (by omega) hfl (fun _ => rfl) (fun _ _ => rfl) d, after0_7]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d))

set_option maxHeartbeats 2400000 in
/-- The body at any point: the point's place in its batch entry and head pair says which case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 32 := lt_of_lt_of_eq t.isLt (show cfg0.N = 32 from N_0)
  by_cases h0 : t.val % 4 = 0
  · by_cases h1 : t.val % 8 = 0
    · rw [show dqAt m c t = dqOut (grid0.coords t) (iblk m c 0 t) (iblk m c 1 t) (iblk m c 2 t) (iblk m c 3 t) (iblk m c 4 t) from rfl, dkAt_reset m c t h0, dvAt_reset m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) _ _) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [show dqAt m c t = dqOut (grid0.coords t) (iblk m c 0 t) (iblk m c 1 t) (iblk m c 2 t) (iblk m c 3 t) (iblk m c 4 t) from rfl, dkAt_reset m c t h0, dvAt_reset m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · by_cases h1 : t.val % 8 = 0
    · exfalso; omega
    · simp only [before0_6_B m c t h0, before0_7_B m c t h0]
      rw [show dqAt m c t = dqOut (grid0.coords t) (iblk m c 0 t) (iblk m c 1 t) (iblk m c 2 t) (iblk m c 3 t) (iblk m c 4 t) from rfl, dkAt_step m c t h0, dvAt_step m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every run ends with the arrays as the data say and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What such a final state says of the arguments. -/
theorem args_of {r : PUnit × MemSt nD τ sig (Elt F)} (h : Pipeline.RDat.FramePost (cfgs 0) (fun c => (dats m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (Pipeline.RDat.FramePost.arr_in h c 4 rfl).trans ((A_eq m c 4).trans (V_main_arg4 m c))⟩

/-- The frame claim: the arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m h.1 c, h.2⟩) (run_main_quiescent m ρ)

end Cert.KernelIdeal.Hand

end
-- ==== Proof.Value.Spec.lean ====
module

public import Idealize.ShloMosaic.PureOps.Ideal.Laws
public import Idealize.ShloMosaic.Lib.Pointwise

@[expose] public section

noncomputable section

/-! # The gradient of the band attention, as a function of plain positions

Queries are numbered from the start of the sequence and keys from the start of the padded sequence, so that a sum over
a window of keys, whoever cuts it, is a sum over all 2560 positions of a function that is zero outside the band. -/

namespace Cert.Band

open Idealize.ShloMosaic Finset

/-- The scale of the scores. -/
def eighth : EReal := Ideal.ofBits .f32 1040187392#32

theorem eighth_eq : eighth = ((1 / 8 : ℝ) : EReal) := by
  simp [eighth, Ideal.ofBits, Ideal.ieee]
  rw [← EReal.coe_mul]
  norm_num

theorem eighth_nonneg : 0 ≤ eighth := by
  rw [eighth_eq]; exact_mod_cast (by norm_num : (0 : ℝ) ≤ 1 / 8)

theorem eighth_ne_top : eighth ≠ ⊤ := by
  rw [eighth_eq]; exact EReal.coe_ne_top _

/-- A finite factor that is not negative goes into a sum. -/
theorem sum_mul_of_nonneg {ι : Type} (s : Finset ι) (f : ι → EReal) {c : EReal} (h0 : 0 ≤ c) (h1 : c ≠ ⊤) :
    (∑ x ∈ s, f x) * c = ∑ x ∈ s, f x * c := by
  classical
  induction s using Finset.induction_on with
  | empty => simp
  | insert a s ha ih => rw [sum_insert ha, sum_insert ha, EReal.right_distrib_of_nonneg_of_ne_top h0 h1, ih]

/-- A sum over a window is the sum over everything when the rest is zero. -/
theorem sum_window (f : ℕ → EReal) (off n N : ℕ) (h : off + n ≤ N) (h0 : ∀ s, ¬(off ≤ s ∧ s < off + n) → f s = 0) :
    ∑ x : Fin n, f (off + x.val) = ∑ s ∈ range N, f s := by
  rw [Fin.sum_univ_eq_sum_range (fun x => f (off + x)) n]
  have e : ∑ x ∈ range n, f (off + x) = ∑ s ∈ Ico off (off + n), f s := by
    rw [sum_Ico_eq_sum_range, Nat.add_sub_cancel_left]
  rw [e]
  refine sum_subset (fun s hs => ?_) (fun s _ hs => h0 s fun hh => hs (mem_Ico.mpr hh))
  have := mem_Ico.mp hs
  exact mem_range.mpr (by omega)

/-- The same of the greatest value, when the rest is at the bottom. -/
theorem fold_window (f : ℕ → EReal) (off n N : ℕ) (h : off + n ≤ N) (h0 : ∀ s, ¬(off ≤ s ∧ s < off + n) → f s = ⊥) :
    (univ : Finset (Fin n)).fold max ⊥ (fun x => f (off + x.val)) = (range N).sup f := by
  change (univ : Finset (Fin n)).sup (fun x => f (off + x.val)) = _
  refine le_antisymm (Finset.sup_le fun x _ => ?_) (Finset.sup_le fun s hs => ?_)
  · exact le_sup (f := f) (mem_range.mpr (by have := x.isLt; omega))
  · by_cases hh : off ≤ s ∧ s < off + n
    · have e : f s = f (off + (⟨s - off, by omega⟩ : Fin n).val) := by congr 1; show s = off + (s - off); omega
      rw [e]
      exact le_sup (f := fun x : Fin n => f (off + x.val)) (mem_univ _)
    · rw [h0 s hh]; exact bot_le

/-- The arrays, by position: queries, keys, values and the gradient of the output by batch entry, row and lane; the
bias by head, row in the chunk and place in the band. -/
structure Data where
  q : ℕ → ℕ → ℕ → EReal
  k : ℕ → ℕ → ℕ → EReal
  v : ℕ → ℕ → ℕ → EReal
  d : ℕ → ℕ → ℕ → EReal
  bias : ℕ → ℕ → ℕ → EReal

/-- An array of three axes at any three numbers: zero off its ends. -/
def at3 {n0 n1 n2 : ℕ} (x : (⟨3, ![n0, n1, n2]⟩ : Shape).Idx → EReal) (b t l : ℕ) : EReal :=
  if h : b < n0 ∧ t < n1 ∧ l < n2 then x (ix3 ⟨b, h.1⟩ ⟨t, h.2.1⟩ ⟨l, h.2.2⟩) else 0

theorem at3_of {n0 n1 n2 : ℕ} (x : (⟨3, ![n0, n1, n2]⟩ : Shape).Idx → EReal) {b t l : ℕ} (h0 : b < n0) (h1 : t < n1) (h2 : l < n2) :
    at3 x b t l = x (ix3 ⟨b, h0⟩ ⟨t, h1⟩ ⟨l, h2⟩) := dif_pos ⟨h0, h1, h2⟩

/-- The arrays of the program, by position: the keys and the values behind 512 rows of zeros. -/
def dataOf (q k v : (⟨3, ![2, 2048, 512]⟩ : Shape).Idx → EReal) (bias : (⟨3, ![8, 64, 576]⟩ : Shape).Idx → EReal)
    (d : (⟨3, ![2, 2048, 1024]⟩ : Shape).Idx → EReal) : Data where
  q := at3 q
  k := fun b s l => if 512 ≤ s then at3 k b (s - 512) l else 0
  v := fun b s l => if 512 ≤ s then at3 v b (s - 512) l else 0
  d := at3 d
  bias := at3 bias

namespace Data

variable (D : Data) (b h t s l : ℕ)

/-- Key `s` is one that query `t` attends to. -/
def Sees (t s : ℕ) : Prop := 64 * (t / 64) ≤ s ∧ s < 64 * (t / 64) + 576 ∧ 512 ≤ s

instance : Decidable (Sees t s) := by unfold Sees; infer_instance

def score : EReal :=
  if Sees t s then (∑ x ∈ range 64, D.q b t (64 * h + x) * D.k b s (64 * h + x)) * eighth + D.bias h (t % 64) (s - 64 * (t / 64)) else ⊥
def top : EReal := (range 2560).sup (D.score b h t)
def ex : EReal := Ideal.exp (D.score b h t s - D.top b h t)
def mass : EReal := ∑ s ∈ range 2560, D.ex b h t s
def prob : EReal := D.ex b h t s * Ideal.div 1 (D.mass b h t)
def dprob : EReal := ∑ x ∈ range 64, D.d b t (64 * h + x) * D.v b s (64 * h + x)
def mean : EReal := ∑ s ∈ range 2560, D.prob b h t s * D.dprob b h t s
def dscore : EReal := D.prob b h t s * (D.dprob b h t s - D.mean b h t)
def dq : EReal := (∑ s ∈ range 2560, D.dscore b (l / 64) t s * D.k b s l) * eighth
def dk : EReal := ∑ t ∈ range 2048, D.dscore b (l / 64) t s * (D.q b t l * eighth)
def dv : EReal := ∑ t ∈ range 2048, D.prob b (l / 64) t s * D.d b t l

variable {t s}

theorem score_out (hs : ¬Sees t s) : D.score b h t s = ⊥ := if_neg hs

theorem ex_out (hs : ¬Sees t s) : D.ex b h t s = 0 := by
  unfold ex
  rw [score_out D b h hs, EReal.bot_sub]
  rfl

theorem prob_out (hs : ¬Sees t s) : D.prob b h t s = 0 := by
  unfold prob; rw [ex_out D b h hs, zero_mul]

theorem dscore_out (hs : ¬Sees t s) : D.dscore b h t s = 0 := by
  unfold dscore; rw [prob_out D b h hs, zero_mul]

variable {D b h}

/-- Query `t` sees only keys of a window that holds its band. -/
theorem not_sees_of_window {off n t s : ℕ} (h0 : off ≤ 64 * (t / 64)) (h1 : 64 * (t / 64) + 576 ≤ off + n)
    (hs : ¬(off ≤ s ∧ s < off + n)) : ¬Sees t s := fun hh => by
  obtain ⟨a, b, c⟩ := hh; exact hs ⟨by omega, by omega⟩

theorem top_window {off n : ℕ} (h0 : off ≤ 64 * (t / 64)) (h1 : 64 * (t / 64) + 576 ≤ off + n) (h2 : off + n ≤ 2560) :
    (univ : Finset (Fin n)).fold max ⊥ (fun x => D.score b h t (off + x.val)) = D.top b h t :=
  fold_window _ off n 2560 h2 fun _ hs => score_out D b h (not_sees_of_window h0 h1 hs)

theorem mass_window {off n : ℕ} (h0 : off ≤ 64 * (t / 64)) (h1 : 64 * (t / 64) + 576 ≤ off + n) (h2 : off + n ≤ 2560) :
    ∑ x : Fin n, D.ex b h t (off + x.val) = D.mass b h t :=
  sum_window _ off n 2560 h2 fun _ hs => ex_out D b h (not_sees_of_window h0 h1 hs)

theorem mean_window {off n : ℕ} (h0 : off ≤ 64 * (t / 64)) (h1 : 64 * (t / 64) + 576 ≤ off + n) (h2 : off + n ≤ 2560) :
    ∑ x : Fin n, D.prob b h t (off + x.val) * D.dprob b h t (off + x.val) = D.mean b h t :=
  sum_window (fun s => D.prob b h t s * D.dprob b h t s) off n 2560 h2 fun _ hs => by
    rw [prob_out D b h (not_sees_of_window h0 h1 hs), zero_mul]

theorem dq_window {off n l : ℕ} (h0 : off ≤ 64 * (t / 64)) (h1 : 64 * (t / 64) + 576 ≤ off + n) (h2 : off + n ≤ 2560) :
    (∑ x : Fin n, D.dscore b (l / 64) t (off + x.val) * D.k b (off + x.val) l) * eighth = D.dq b t l :=
  congrArg (· * eighth) (sum_window (fun s => D.dscore b (l / 64) t s * D.k b s l) off n 2560 h2 fun _ hs => by
    rw [dscore_out D b (l / 64) (not_sees_of_window h0 h1 hs), zero_mul])

end Data

end Cert.Band

end
-- ==== Proof.Value.Block.lean ====
module

public import proofs.«01_k».proof.Proof.Attn.Body
public import proofs.«01_k».proof.Proof.Value.Spec
public import Idealize.ShloMosaic.Lib.Pointwise

@[expose] public section

set_option maxRecDepth 16384

noncomputable section

/-! # One block of 256 queries -/

namespace Cert.KernelIdeal.Hand

open Cert.KernelIdeal Cert.KernelIdeal.Gen
open Idealize.ShloMosaic Idealize.SL
open Cert.Band Finset

/-- The lanes of a head: the first 64 or the last 64. -/
theorem lane_lo (w : Fin 128) : (IntOp.cmpi CmpIPredicate.slt (BitVec.ofNat 32 w.val) 64#32 = 1#1) ↔ w.val < 64 := by
  have := w.isLt
  word_cmp

theorem lane_hi (w : Fin 128) : (IntOp.cmpi CmpIPredicate.sge (BitVec.ofNat 32 w.val) 64#32 = 1#1) ↔ 64 ≤ w.val := by
  have := w.isLt
  word_cmp

theorem select_lo {α : Type} (w : Fin 128) (a b : α) :
    Scalar.select (IntOp.cmpi CmpIPredicate.slt (BitVec.ofNat 32 w.val) 64#32) a b = if w.val < 64 then a else b := by
  unfold Scalar.select
  exact if_congr (lane_lo w) rfl rfl

theorem select_hi {α : Type} (w : Fin 128) (a b : α) :
    Scalar.select (IntOp.cmpi CmpIPredicate.sge (BitVec.ofNat 32 w.val) 64#32) a b = if 64 ≤ w.val then a else b := by
  unfold Scalar.select
  exact if_congr (lane_hi w) rfl rfl

theorem sees_start (W : ℕ) (hW : W + 768 ≤ 2560) (w : Fin 768) :
    (IntOp.cmpi CmpIPredicate.sge (IntOp.addi (BitVec.ofNat 32 w.val) (BitVec.ofNat 32 W)) 512#32 = 1#1) ↔ 512 ≤ W + w.val := by
  have := w.isLt
  rw [WordCmp.addi_ofNat, WordCmp.cmpi_sge_ofNat_eq_one_iff (by omega) (by omega)]
  omega

/-- A sum over the lanes of which only the first head's count. -/
theorem sum_lo (f : ℕ → EReal) : (∑ x : Fin 128, if x.val < 64 then f x.val else 0) = ∑ x ∈ range 64, f x := by
  rw [Fin.sum_univ_eq_sum_range (fun x => if x < 64 then f x else 0) 128]
  rw [← sum_filter]
  refine sum_congr (by ext x; simp only [mem_filter, mem_range]; omega) fun _ _ => rfl

theorem sum_hi (f : ℕ → EReal) : (∑ x : Fin 128, if 64 ≤ x.val then f x.val else 0) = ∑ x ∈ range 64, f (64 + x) := by
  rw [Fin.sum_univ_eq_sum_range (fun x => if 64 ≤ x then f x else 0) 128]
  rw [← sum_filter]
  have e : (range 128).filter (fun x => 64 ≤ x) = Ico 64 128 := by ext x; simp only [mem_filter, mem_range, mem_Ico]; omega
  rw [e, sum_Ico_eq_sum_range]

theorem mask_eq : (Named.named (F := Ideal) (φ := .f32) κ "mask" 4048155338#32) = (⊥ : EReal) :=
  (IdealRules.named_const.statement κ "mask" .f32 0xF149F2CA#32 ⊥ rfl).2.2

theorem negInf_eq : Ideal.ofBits FTy.f32 4286578688#32 = (⊥ : EReal) := by
  simp [Ideal.ofBits, Ideal.ieee]

/-- What a block of queries reads: `W` is its first query, and the first of its keys. -/
structure Reads (D : Data) (b p W : ℕ) (st : BitVec 32) (kw vw : Vec Ideal S1x768x128 .bf16) (q : Vec Ideal S1x256x128 .bf16)
    (dO : Vec Ideal S1x256x128 .f32) (t0 t1 : Vec Ideal S1x256x768 .f32) : Prop where
  whole : W % 256 = 0
  fits : W + 768 ≤ 2560
  st_eq : st = BitVec.ofNat 32 W
  k_eq : ∀ (w : Fin 768) (l : Fin 128), kw (ix3 0 w l) = D.k b (W + w.val) (128 * p + l.val)
  v_eq : ∀ (w : Fin 768) (l : Fin 128), vw (ix3 0 w l) = D.v b (W + w.val) (128 * p + l.val)
  q_eq : ∀ (r : Fin 256) (l : Fin 128), q (ix3 0 r l) = D.q b (W + r.val) (128 * p + l.val) * eighth
  d_eq : ∀ (r : Fin 256) (l : Fin 128), dO (ix3 0 r l) = D.d b (W + r.val) (128 * p + l.val)
  t0_eq : ∀ (r : Fin 256) (w : Fin 768), t0 (ix3 0 r w)
    = if 64 * (r.val / 64) ≤ w.val ∧ w.val < 64 * (r.val / 64) + 576 then D.bias (2 * p) (r.val % 64) (w.val - 64 * (r.val / 64)) else ⊥
  t1_eq : ∀ (r : Fin 256) (w : Fin 768), t1 (ix3 0 r w)
    = if 64 * (r.val / 64) ≤ w.val ∧ w.val < 64 * (r.val / 64) + 576 then D.bias (2 * p + 1) (r.val % 64) (w.val - 64 * (r.val / 64)) else ⊥

/-- A masked score of the kernel is the score. -/
theorem score_of (D : Data) (b h W : ℕ) (hW : W % 256 = 0) (hf : W + 768 ≤ 2560) (r : Fin 256) (w : Fin 768) (x t : EReal)
    (hx : x = (∑ y ∈ range 64, D.q b (W + r.val) (64 * h + y) * D.k b (W + w.val) (64 * h + y)) * eighth)
    (ht : t = if 64 * (r.val / 64) ≤ w.val ∧ w.val < 64 * (r.val / 64) + 576 then D.bias h (r.val % 64) (w.val - 64 * (r.val / 64)) else ⊥) :
    Scalar.select (IntOp.cmpi CmpIPredicate.sge (IntOp.addi (BitVec.ofNat 32 w.val) (BitVec.ofNat 32 W)) 512#32)
      (x + t) (Named.named (F := Ideal) (φ := .f32) κ "mask" 4048155338#32) = D.score b h (W + r.val) (W + w.val) := by
  have hr := r.isLt
  have hw := w.isLt
  unfold Scalar.select
  change (if IntOp.cmpi CmpIPredicate.sge (IntOp.addi (BitVec.ofNat 32 w.val) (BitVec.ofNat 32 W)) 512#32 = 1#1 then _ else _) = _
  rw [if_congr (sees_start W hf w) rfl rfl, mask_eq]
  have e : 64 * ((W + r.val) / 64) = W + 64 * (r.val / 64) := by omega
  have hs : Data.Sees (W + r.val) (W + w.val)
      ↔ W + 64 * (r.val / 64) ≤ W + w.val ∧ W + w.val < W + 64 * (r.val / 64) + 576 ∧ 512 ≤ W + w.val := by
    unfold Data.Sees; rw [e]
  rw [Data.score, e]
  by_cases h1 : 512 ≤ W + w.val
  · rw [if_pos h1, hx, ht]
    by_cases h2 : 64 * (r.val / 64) ≤ w.val ∧ w.val < 64 * (r.val / 64) + 576
    · rw [if_pos h2, if_pos (hs.mpr (by omega))]
      have e1 : (W + r.val) % 64 = r.val % 64 := by omega
      have e2 : W + w.val - (W + 64 * (r.val / 64)) = w.val - 64 * (r.val / 64) := by omega
      rw [e1, e2]
    · rw [if_neg h2, if_neg (fun h => h2 (by have := hs.mp h; omega)), EReal.add_bot]
  · rw [if_neg h1, if_neg (fun h => h1 (hs.mp h).2.2)]

/-- The softmax row of a block for a head whose query block is `qh`. -/
theorem pay17_apply (D : Data) (b h W : ℕ) (hW : W % 256 = 0) (hf : W + 768 ≤ 2560) (kw : Vec Ideal S1x768x128 .bf16)
    (qh : FVec Ideal S256x128 .bf16) (t : Vec Ideal S1x256x768 .f32)
    (hx : ∀ (r : Fin 256) (w : Fin 768), ∑ x : Fin 128, qh (ix2 r x) * kw (ix3 0 w x)
      = (∑ y ∈ range 64, D.q b (W + r.val) (64 * h + y) * D.k b (W + w.val) (64 * h + y)) * eighth)
    (ht : ∀ (r : Fin 256) (w : Fin 768), t (ix3 0 r w)
      = if 64 * (r.val / 64) ≤ w.val ∧ w.val < 64 * (r.val / 64) + 576 then D.bias h (r.val % 64) (w.val - 64 * (r.val / 64)) else ⊥)
    (r : Fin 256) (w : Fin 768) :
    k0_pay17 (F := Ideal) (BitVec.ofNat 32 W) (k0_pay9 kw) qh t (ix2 r w) = D.prob b h (W + r.val) (W + w.val) := by
  have hr := r.isLt
  pointwise [k0_pay17, k0_pay9]
  simp only [score_of D b h W hW hf r _ _ _ (hx r _) (ht r _), negInf_eq]
  rw [Data.top_window (off := W) (n := 768) (by omega) (by omega) hf]
  have e : ∑ x : Fin 768, Ideal.exp (D.score b h (W + r.val) (W + x.val) - D.top b h (W + r.val)) = D.mass b h (W + r.val) :=
    Data.mass_window (off := W) (n := 768) (by omega) (by omega) hf
  rw [e]
  rfl

section Heads

variable {D : Data} {b p W : ℕ} {st : BitVec 32} {kw vw : Vec Ideal S1x768x128 .bf16} {q : Vec Ideal S1x256x128 .bf16}
  {dO : Vec Ideal S1x256x128 .f32} {t0 t1 : Vec Ideal S1x256x768 .f32} (H : Reads D b p W st kw vw q dO t0 t1)
include H

theorem q0_apply (r : Fin 256) (l : Fin 128) : k0_pay13 (F := Ideal) q (ix2 r l)
    = if l.val < 64 then D.q b (W + r.val) (128 * p + l.val) * eighth else 0 := by
  pointwise [k0_pay13, k0_pay7, k0_pay11]
  rw [select_lo, H.q_eq]

theorem q1_apply (r : Fin 256) (l : Fin 128) : k0_pay28 (F := Ideal) k0_pay8 q (ix2 r l)
    = if 64 ≤ l.val then D.q b (W + r.val) (128 * p + l.val) * eighth else 0 := by
  pointwise [k0_pay28, k0_pay8, k0_pay25]
  rw [select_hi, H.q_eq]

theorem d0_apply (r : Fin 256) (l : Fin 128) : k0_pay15 (F := Ideal) k0_pay7 (k0_pay12 dO) (ix2 r l)
    = if l.val < 64 then D.d b (W + r.val) (128 * p + l.val) else 0 := by
  pointwise [k0_pay15, k0_pay7, k0_pay12]
  rw [select_lo, H.d_eq]

theorem d1_apply (r : Fin 256) (l : Fin 128) : k0_pay15 (F := Ideal) k0_pay8 (k0_pay12 dO) (ix2 r l)
    = if 64 ≤ l.val then D.d b (W + r.val) (128 * p + l.val) else 0 := by
  pointwise [k0_pay15, k0_pay8, k0_pay12]
  rw [select_hi, H.d_eq]

theorem P0_apply (r : Fin 256) (w : Fin 768) : P0 st kw q t0 (ix2 r w) = D.prob b (2 * p) (W + r.val) (W + w.val) := by
  unfold P0
  rw [H.st_eq]
  refine pay17_apply D b (2 * p) W H.whole H.fits kw _ t0 (fun r w => ?_) H.t0_eq r w
  simp only [q0_apply H, H.k_eq, ite_mul, zero_mul]
  rw [sum_lo (fun x => D.q b (W + r.val) (128 * p + x) * eighth * D.k b (W + w.val) (128 * p + x)),
    sum_mul_of_nonneg _ _ eighth_nonneg eighth_ne_top]
  refine sum_congr rfl fun y _ => ?_
  rw [show 64 * (2 * p) + y = 128 * p + y by ring, mul_right_comm]

theorem P1_apply (r : Fin 256) (w : Fin 768) : P1 st kw q t1 (ix2 r w) = D.prob b (2 * p + 1) (W + r.val) (W + w.val) := by
  unfold P1
  rw [H.st_eq]
  refine pay17_apply D b (2 * p + 1) W H.whole H.fits kw _ t1 (fun r w => ?_) H.t1_eq r w
  simp only [q1_apply H, H.k_eq, ite_mul, zero_mul]
  rw [sum_hi (fun x => D.q b (W + r.val) (128 * p + x) * eighth * D.k b (W + w.val) (128 * p + x)),
    sum_mul_of_nonneg _ _ eighth_nonneg eighth_ne_top]
  refine sum_congr rfl fun y _ => ?_
  rw [show 64 * (2 * p + 1) + y = 128 * p + (64 + y) by ring, mul_right_comm]

theorem G0_apply (r : Fin 256) (w : Fin 768) : G0 vw dO (ix2 r w) = D.dprob b (2 * p) (W + r.val) (W + w.val) := by
  unfold G0
  pointwise [k0_pay21, k0_pay10]
  simp only [d0_apply H, H.v_eq, ite_mul, zero_mul]
  rw [sum_lo (fun x => D.d b (W + r.val) (128 * p + x) * D.v b (W + w.val) (128 * p + x))]
  refine sum_congr rfl fun y _ => ?_
  rw [show 64 * (2 * p) + y = 128 * p + y by ring]

theorem G1_apply (r : Fin 256) (w : Fin 768) : G1 vw dO (ix2 r w) = D.dprob b (2 * p + 1) (W + r.val) (W + w.val) := by
  unfold G1
  pointwise [k0_pay21, k0_pay10]
  simp only [d1_apply H, H.v_eq, ite_mul, zero_mul]
  rw [sum_hi (fun x => D.d b (W + r.val) (128 * p + x) * D.v b (W + w.val) (128 * p + x))]
  refine sum_congr rfl fun y _ => ?_
  rw [show 64 * (2 * p + 1) + y = 128 * p + (64 + y) by ring]

theorem S0_apply (r : Fin 256) (w : Fin 768) :
    k0_pay40 (F := Ideal) (P0 st kw q t0) (G0 vw dO) (ix2 r w) = D.dscore b (2 * p) (W + r.val) (W + w.val) := by
  have hr := r.isLt
  have h1 := H.whole
  pointwise [k0_pay40, k0_pay38]
  simp only [P0_apply H, G0_apply H]
  rw [Data.mean_window (off := W) (n := 768) (by omega) (by omega) H.fits]
  rfl

theorem S1_apply (r : Fin 256) (w : Fin 768) :
    k0_pay40 (F := Ideal) (P1 st kw q t1) (G1 vw dO) (ix2 r w) = D.dscore b (2 * p + 1) (W + r.val) (W + w.val) := by
  have hr := r.isLt
  have h1 := H.whole
  pointwise [k0_pay40, k0_pay38]
  simp only [P1_apply H, G1_apply H]
  rw [Data.mean_window (off := W) (n := 768) (by omega) (by omega) H.fits]
  rfl

/-- The block's gradient of the queries. -/
theorem dqP_apply (r : Fin 256) (l : Fin 128) : dqP st kw vw q dO t0 t1 (ix3 0 r l) = D.dq b (W + r.val) (128 * p + l.val) := by
  have hr := r.isLt
  have h1 := H.whole
  have hl := l.isLt
  unfold dqP
  pointwise [k0_pay57, k0_pay7, k0_pay42, k0_pay9]
  simp only [S0_apply H, S1_apply H, H.k_eq]
  rw [select_lo]
  rw [← Data.dq_window (off := W) (n := 768) (by omega) (by omega) H.fits]
  split
  · rw [show (128 * p + l.val) / 64 = 2 * p by omega]; rfl
  · rw [show (128 * p + l.val) / 64 = 2 * p + 1 by omega]; rfl

/-- What the block adds to the gradient of the keys. -/
theorem dkP_apply (w : Fin 768) (l : Fin 128) : dkP st kw vw q dO t0 t1 (ix2 w l)
    = ∑ r ∈ range 256, D.dscore b ((128 * p + l.val) / 64) (W + r) (W + w.val) * (D.q b (W + r) (128 * p + l.val) * eighth) := by
  have hl := l.isLt
  unfold dkP
  pointwise [k0_pay44]
  simp only [S0_apply H, S1_apply H, q0_apply H, q1_apply H]
  rw [← Fin.sum_univ_eq_sum_range (fun r => D.dscore b ((128 * p + l.val) / 64) (W + r) (W + w.val) * (D.q b (W + r) (128 * p + l.val) * eighth)) 256]
  by_cases h : l.val < 64
  · simp only [if_pos h, if_neg (show ¬64 ≤ l.val by omega), mul_zero, sum_const_zero, add_zero,
      show (128 * p + l.val) / 64 = 2 * p by omega]
  · simp only [if_neg h, if_pos (show 64 ≤ l.val by omega), mul_zero, sum_const_zero, zero_add,
      show (128 * p + l.val) / 64 = 2 * p + 1 by omega]

/-- What the block adds to the gradient of the values. -/
theorem dvP_apply (w : Fin 768) (l : Fin 128) : dvP st kw q dO t0 t1 (ix2 w l)
    = ∑ r ∈ range 256, D.prob b ((128 * p + l.val) / 64) (W + r) (W + w.val) * D.d b (W + r) (128 * p + l.val) := by
  have hl := l.isLt
  unfold dvP
  pointwise [k0_pay46]
  simp only [P0_apply H, P1_apply H, d0_apply H, d1_apply H]
  rw [← Fin.sum_univ_eq_sum_range (fun r => D.prob b ((128 * p + l.val) / 64) (W + r) (W + w.val) * D.d b (W + r) (128 * p + l.val)) 256]
  by_cases h : l.val < 64
  · simp only [if_pos h, if_neg (show ¬64 ≤ l.val by omega), mul_zero, sum_const_zero, add_zero,
      show (128 * p + l.val) / 64 = 2 * p by omega]
  · simp only [if_neg h, if_pos (show 64 ≤ l.val by omega), mul_zero, sum_const_zero, zero_add,
      show (128 * p + l.val) / 64 = 2 * p + 1 by omega]

end Heads

end Cert.KernelIdeal.Hand

end
-- ==== Proof.Value.Host.lean ====
module

public import proofs.«01_k».proof.Proof.Value.Block
public import proofs.«01_k».proof.Proof.Attn.Frame
public import Idealize.ShloMosaic.Lib.StableHlo.ReadAt

@[expose] public section

set_option maxRecDepth 16384

noncomputable section

/-! # What the region finds in its arrays -/

namespace Cert.KernelIdeal.Hand

open Cert.KernelIdeal Cert.KernelIdeal.Gen
open Idealize.ShloMosaic Idealize.SL
open Cert.Band Finset

/-- For row `r` of a chunk and place `u` of its band, the column of the bias table: the distance, cut to 128 either way. -/
def rel : IVec S64x576 32 :=
  addi (minsi (broadcastInDim S64x576 ![] bcast_S_S64x576 (id (constantI S_ 32 128#32)))
    (maxsi (broadcastInDim S64x576 ![] bcast_S_S64x576 (id (constantI S_ 32 4294967168#32)))
      (subi
        (broadcastInDim S64x576 ![0, 1] bcast_S64x1_S64x576_0_1
          (addi (broadcastInDim S64x1 ![0] bcast_S64_S64x1_0 (iotaInDim S64 32 0)) (broadcastInDim S64x1 ![] bcast_S_S64x1 (constantI S_ 32 512#32))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- The bias of a chunk's scores, by head, row and place in the band. -/
def bandBias (x : FVec Ideal S8x257 .f32) : FVec Ideal S8x64x576 .f32 :=
  Host.gather gather_S8x257_S64x576x1_S8x64x576_0_1_n_n_1_2_81 x
    (broadcastInDim S64x576x1 ![0, 1] bcast_S64x576_S64x576x1_0_1
      (select (cmpi CmpIPredicate.slt rel (broadcastInDim S64x576 ![] bcast_S_S64x576 (constantI S_ 32 0#32)))
        (addi rel (broadcastInDim S64x576 ![] bcast_S_S64x576 (constantI S_ 32 257#32))) rel))

variable (m : (ℓ : Loc nD τ sig) → Buf (Elt Ideal) ℓ) (c : Dev nD)

abbrev argQ : FVec Ideal S2x2048x512 .f32 := m (c.tc.loc main_arg0)
abbrev argK : FVec Ideal S2x2048x512 .f32 := m (c.tc.loc main_arg1)
abbrev argV : FVec Ideal S2x2048x512 .f32 := m (c.tc.loc main_arg2)
abbrev argB : FVec Ideal S8x257 .f32 := m (c.tc.loc main_arg3)
abbrev argD : FVec Ideal S2x2048x1024 .f32 := m (c.tc.loc main_arg4)

theorem V_q (b : Fin 2) (t : Fin 2048) (l : Fin 512) :
    (V m c main_v2 : FVec Ideal S2x2048x512 .bf16) (ix3 b t l) = argQ m c (ix3 b t l) * eighth := by
  unfold V
  after_reads_at
  rfl

theorem zero_word : FloatOps.sitofp (F := Ideal) FTy.f32 0#32 = (0 : EReal) := by
  change (((0#32).toInt : ℝ) : EReal) = 0
  norm_num

theorem V_k (b : Fin 2) (s : Fin 2560) (l : Fin 512) :
    (V m c main_v4 : FVec Ideal S2x2560x512 .bf16) (ix3 b s l)
      = if h : 512 ≤ s.val then argK m c (ix3 b ⟨s.val - 512, by omega⟩ l) else 0 := by
  unfold V
  after_reads_at
  have := s.isLt
  rw [zero_word]
  split_ifs with h1 h2 h2
  · rfl
  · omega
  · omega
  · rfl

theorem V_v (b : Fin 2) (s : Fin 2560) (l : Fin 512) :
    (V m c main_v6 : FVec Ideal S2x2560x512 .bf16) (ix3 b s l)
      = if h : 512 ≤ s.val then argV m c (ix3 b ⟨s.val - 512, by omega⟩ l) else 0 := by
  unfold V
  after_reads_at
  have := s.isLt
  rw [zero_word]
  split_ifs with h1 h2 h2
  · rfl
  · omega
  · omega
  · rfl

/-- A chunk's bias `g` laid out for the four chunks of a block: each chunk's rows see their own 576 of the block's 768 keys. -/
def tableOf (g : FVec Ideal S8x64x576 .f32) : FVec Ideal S8x256x768 .f32 :=
  concatenate S8x256x768 1
    [⟨S8x64x768, pad S8x64x768 ![0, 0, 0] ![0, 0, 192] ![0, 0, 0] g (id (constant (F := Ideal) S_ .f32 0xFF800000#32)) pads_S8x64x576_S8x64x768_000_000_01920 h_S_⟩,
     ⟨S8x64x768, pad S8x64x768 ![0, 0, 64] ![0, 0, 128] ![0, 0, 0] g (id (constant (F := Ideal) S_ .f32 0xFF800000#32)) pads_S8x64x576_S8x64x768_000_000_641280 h_S_⟩,
     ⟨S8x64x768, pad S8x64x768 ![0, 0, 128] ![0, 0, 64] ![0, 0, 0] g (id (constant (F := Ideal) S_ .f32 0xFF800000#32)) pads_S8x64x576_S8x64x768_000_000_128640 h_S_⟩,
     ⟨S8x64x768, pad S8x64x768 ![0, 0, 192] ![0, 0, 0] ![0, 0, 0] g (id (constant (F := Ideal) S_ .f32 0xFF800000#32)) pads_S8x64x576_S8x64x768_000_000_19200 h_S_⟩]
    concatenates_S8x64x768_S8x64x768_S8x64x768_S8x64x768_S8x256x768_d1

theorem tableOf_apply (g : FVec Ideal S8x64x576 .f32) (h : Fin 8) (r : Fin 256) (w : Fin 768) :
    tableOf g (ix3 h r w)
      = if hw : 64 * (r.val / 64) ≤ w.val ∧ w.val < 64 * (r.val / 64) + 576 then
          g (ix3 h ⟨r.val % 64, by omega⟩ ⟨w.val - 64 * (r.val / 64), by omega⟩) else ⊥ := by
  have hr := r.isLt
  have hw := w.isLt
  have e : ∀ (r r' : Fin 64) (u u' : Fin 576), r.val = r'.val → u.val = u'.val → g (ix3 h r u) = g (ix3 h r' u') := by
    rintro ⟨r, _⟩ ⟨r', _⟩ ⟨u, _⟩ ⟨u', _⟩ rfl rfl; rfl
  by_cases hc : 64 * (r.val / 64) ≤ w.val ∧ w.val < 64 * (r.val / 64) + 576
  · rw [dif_pos hc]
    pointwise [tableOf]
    split_ifs <;> first
      | (exfalso; omega)
      | (refine e _ _ _ _ ?_ ?_ <;> dsimp only <;> omega)
  · rw [dif_neg hc]
    pointwise [tableOf]
    split_ifs <;> first
      | exact negInf_eq
      | (exfalso; omega)

/-- The four arrays joined, each known. -/
theorem joined {x0 x1 x2 x3 y0 y1 y2 y3 : FVec Ideal S8x64x768 .f32} (h0 : x0 = y0) (h1 : x1 = y1) (h2 : x2 = y2) (h3 : x3 = y3) :
    concatenate S8x256x768 1 [⟨S8x64x768, x0⟩, ⟨S8x64x768, x1⟩, ⟨S8x64x768, x2⟩, ⟨S8x64x768, x3⟩] concatenates_S8x64x768_S8x64x768_S8x64x768_S8x64x768_S8x256x768_d1
      = concatenate S8x256x768 1 [⟨S8x64x768, y0⟩, ⟨S8x64x768, y1⟩, ⟨S8x64x768, y2⟩, ⟨S8x64x768, y3⟩] concatenates_S8x64x768_S8x64x768_S8x64x768_S8x64x768_S8x256x768_d1 := by
  rw [h0, h1, h2, h3]

/-- The host operations before the region. -/
abbrev hostLine : List (HloOp τ sig (Elt Ideal)) :=
  [hostOps0, hostOps0_1, hostOps0_2, hostOps0_3, hostOps0_4, hostOps0_5, hostOps0_6, hostOps0_7, hostOps0_8, hostOps0_9, hostOps0_10, hostOps0_11, hostOps0_12, hostOps0_13, hostOps0_14].flatten

theorem upto_26 : (StableHlo.upto hostLine (fun b => m (c, b)) 54 (Proc.devRef .tc main_v26) : FVec Ideal S8x64x768 .f32)
    = pad S8x64x768 ![0, 0, 0] ![0, 0, 192] ![0, 0, 0] (bandBias (argB m c)) (id (constant (F := Ideal) S_ .f32 0xFF800000#32)) pads_S8x64x576_S8x64x768_000_000_01920 h_S_ := by
  unfold hostLine
  after_reads_simp
  all_goals try simp -implicitDefEqProofs only [StableHlo.TRef.toBuf, StableHlo.TRef.ofBuf, cast_cast, cast_eq]
  rfl

theorem upto_27 : (StableHlo.upto hostLine (fun b => m (c, b)) 54 (Proc.devRef .tc main_v27) : FVec Ideal S8x64x768 .f32)
    = pad S8x64x768 ![0, 0, 64] ![0, 0, 128] ![0, 0, 0] (bandBias (argB m c)) (id (constant (F := Ideal) S_ .f32 0xFF800000#32)) pads_S8x64x576_S8x64x768_000_000_641280 h_S_ := by
  unfold hostLine
  after_reads_simp
  all_goals try simp -implicitDefEqProofs only [StableHlo.TRef.toBuf, StableHlo.TRef.ofBuf, cast_cast, cast_eq]
  rfl

theorem upto_28 : (StableHlo.upto hostLine (fun b => m (c, b)) 54 (Proc.devRef .tc main_v28) : FVec Ideal S8x64x768 .f32)
    = pad S8x64x768 ![0, 0, 128] ![0, 0, 64] ![0, 0, 0] (bandBias (argB m c)) (id (constant (F := Ideal) S_ .f32 0xFF800000#32)) pads_S8x64x576_S8x64x768_000_000_128640 h_S_ := by
  unfold hostLine
  after_reads_simp
  all_goals try simp -implicitDefEqProofs only [StableHlo.TRef.toBuf, StableHlo.TRef.ofBuf, cast_cast, cast_eq]
  rfl

theorem upto_29 : (StableHlo.upto hostLine (fun b => m (c, b)) 54 (Proc.devRef .tc main_v29) : FVec Ideal S8x64x768 .f32)
    = pad S8x64x768 ![0, 0, 192] ![0, 0, 0] ![0, 0, 0] (bandBias (argB m c)) (id (constant (F := Ideal) S_ .f32 0xFF800000#32)) pads_S8x64x576_S8x64x768_000_000_19200 h_S_ := by
  unfold hostLine
  after_reads_simp
  all_goals try simp -implicitDefEqProofs only [StableHlo.TRef.toBuf, StableHlo.TRef.ofBuf, cast_cast, cast_eq]
  rfl

theorem V_table : (V m c main_v30 : FVec Ideal S8x256x768 .f32) = tableOf (bandBias (argB m c)) := by
  unfold V
  after_reads_simp
  exact joined (upto_26 m c) (upto_27 m c) (upto_28 m c) (upto_29 m c)

end Cert.KernelIdeal.Hand

end
-- ==== Proof.Value.Blocks.lean ====
module

public import proofs.«01_k».proof.Proof.Value.Host
public import Idealize.ShloMosaic.Lib.Pipeline.ValueKit.Geometry

@[expose] public section

set_option maxRecDepth 16384

noncomputable section

/-! # What the blocks of a grid point hold

Point `t` is at heads `2 * (t / 8)` and the next, batch entry `t / 4 % 2` and queries `512 * (t % 4)` on. -/

namespace Cert.KernelIdeal.Hand

open Cert.KernelIdeal Cert.KernelIdeal.Gen
open Idealize.ShloMosaic Idealize.SL
open Cert.Band Finset

theorem c0_val (t : Fin cfg0.N) : (grid0.coords t 0).val = t.val / 8 := by
  have h : t.val < 32 := lt_of_lt_of_eq t.isLt N_0
  have e0 : (grid0.coords t 0).val = t.val / 8 % 4 := Pipeline.Grid.coords_val t 0 (by decide) rfl
  omega

theorem c1_val (t : Fin cfg0.N) : (grid0.coords t 1).val = t.val / 4 % 2 := Pipeline.Grid.coords_val t 1 (by decide) rfl

theorem c2_val (t : Fin cfg0.N) : (grid0.coords t 2).val = t.val % 4 := by
  have e0 : (grid0.coords t 2).val = t.val / 1 % 4 := Pipeline.Grid.coords_val t 2 (by decide) rfl
  omega

theorem ofNat_small {n : ℕ} (h : n < 4) : (BitVec.ofNat 32 n).toNat = n := by
  rw [BitVec.toNat_ofNat]; omega

theorem index_row (t : Fin cfg0.N) : cc0_transform_0 (grid0.coords t) = ![t.val / 4 % 2, t.val % 4, t.val / 8] := by
  have h : t.val < 32 := lt_of_lt_of_eq t.isLt N_0
  unfold cc0_transform_0
  dsimp only
  rw [c0_val, c1_val, c2_val, ofNat_small (by omega), ofNat_small (by omega), ofNat_small (by omega)]

theorem index_whole (t : Fin cfg0.N) : cc0_transform_1 (grid0.coords t) = ![t.val / 4 % 2, 0, t.val / 8] := by
  have h : t.val < 32 := lt_of_lt_of_eq t.isLt N_0
  unfold cc0_transform_1
  dsimp only
  rw [c0_val, c1_val, ofNat_small (n := t.val / 4 % 2) (by omega), ofNat_small (n := t.val / 8) (by omega)]
  rfl

theorem index_table (t : Fin cfg0.N) : cc0_transform_3 (grid0.coords t) = ![t.val / 8, 0, 0] := by
  have h : t.val < 32 := lt_of_lt_of_eq t.isLt N_0
  unfold cc0_transform_3
  dsimp only
  rw [c0_val, ofNat_small (by omega)]
  rfl

theorem e0_0 (t : Fin cfg0.N) : win0_0.index t = ![t.val / 4 % 2, t.val % 4, t.val / 8] := index_row t
theorem e0_1 (t : Fin cfg0.N) : win0_1.index t = ![t.val / 4 % 2, 0, t.val / 8] := index_whole t
theorem e0_2 (t : Fin cfg0.N) : win0_2.index t = ![t.val / 4 % 2, 0, t.val / 8] := index_whole t
theorem e0_3 (t : Fin cfg0.N) : win0_3.index t = ![t.val / 8, 0, 0] := index_table t
theorem e0_4 (t : Fin cfg0.N) : win0_4.index t = ![t.val / 4 % 2, t.val % 4, t.val / 8] := index_row t
theorem e0_5 (t : Fin cfg0.N) : win0_5.index t = ![t.val / 4 % 2, t.val % 4, t.val / 8] := index_row t
theorem e0_6 (t : Fin cfg0.N) : win0_6.index t = ![t.val / 4 % 2, 0, t.val / 8] := index_whole t
theorem e0_7 (t : Fin cfg0.N) : win0_7.index t = ![t.val / 4 % 2, 0, t.val / 8] := index_whole t

variable (m : (ℓ : Loc nD τ sig) → Buf (Elt Ideal) ℓ) (c : Dev nD)

/-- The arrays of device `c`, by position. -/
def D : Data := dataOf (argQ m c) (argK m c) (argV m c) (bandBias (argB m c)) (argD m c)

theorem D_q {b t l : ℕ} (hb : b < 2) (ht : t < 2048) (hl : l < 512) : (D m c).q b t l = argQ m c (ix3 ⟨b, hb⟩ ⟨t, ht⟩ ⟨l, hl⟩) :=
  at3_of _ hb ht hl

theorem V_k' {b s l : ℕ} (hb : b < 2) (hs : s < 2560) (hl : l < 512) :
    (V m c main_v4 : FVec Ideal S2x2560x512 .bf16) (ix3 ⟨b, hb⟩ ⟨s, hs⟩ ⟨l, hl⟩) = (D m c).k b s l := by
  rw [V_k]
  unfold D dataOf
  dsimp only
  by_cases h : 512 ≤ s
  · rw [dif_pos h, if_pos h, at3_of _ hb (by omega) hl]
  · rw [dif_neg h, if_neg h]

theorem V_v' {b s l : ℕ} (hb : b < 2) (hs : s < 2560) (hl : l < 512) :
    (V m c main_v6 : FVec Ideal S2x2560x512 .bf16) (ix3 ⟨b, hb⟩ ⟨s, hs⟩ ⟨l, hl⟩) = (D m c).v b s l := by
  rw [V_v]
  unfold D dataOf
  dsimp only
  by_cases h : 512 ≤ s
  · rw [dif_pos h, if_pos h, at3_of _ hb (by omega) hl]
  · rw [dif_neg h, if_neg h]

/-- An index of three axes is its three places. -/
theorem ix3_eta {n0 n1 n2 : ℕ} (i : (⟨3, ![n0, n1, n2]⟩ : Shape).Idx) {a b d : ℕ} (ha : a < n0) (hb : b < n1) (hd : d < n2)
    (h0 : (i 0).val = a) (h1 : (i 1).val = b) (h2 : (i 2).val = d) : i = ix3 ⟨a, ha⟩ ⟨b, hb⟩ ⟨d, hd⟩ := by
  subst h0 h1 h2
  funext x
  fin_cases x <;> rfl

theorem iblk_q (t : Fin cfg0.N) (r : Fin 512) (l : Fin 128) :
    (iblk m c 0 t : Vec Ideal S1x512x128 .bf16) (ix3 0 r l) = (D m c).q (t.val / 4 % 2) (512 * (t.val % 4) + r.val) (128 * (t.val / 8) + l.val) * eighth := by
  have h : t.val < 32 := lt_of_lt_of_eq t.isLt N_0
  have hr := r.isLt
  have hl := l.isLt
  rw [D_q m c (by omega) (by omega) (by omega), ← V_q]
  refine congrArg (V m c main_v2 : FVec Ideal S2x2048x512 .bf16) (ix3_eta (((cfg0.win 0).blk t).view.emb (ix3 0 r l)) _ _ _ ?_ ?_ ?_)
  · blk_simp [e0_0]
    exact Nat.add_zero _
  · blk_simp [e0_0]
    change _ + r.val = _
    omega
  · blk_simp [e0_0]
    change _ + l.val = _
    omega

theorem iblk_k (t : Fin cfg0.N) (r : Fin 2560) (l : Fin 128) :
    (iblk m c 1 t : Vec Ideal S1x2560x128 .bf16) (ix3 0 r l) = (D m c).k (t.val / 4 % 2) r.val (128 * (t.val / 8) + l.val) := by
  have h : t.val < 32 := lt_of_lt_of_eq t.isLt N_0
  have hr := r.isLt
  have hl := l.isLt
  rw [← V_k' m c (by omega) (by omega) (by omega)]
  refine congrArg (V m c main_v4 : FVec Ideal S2x2560x512 .bf16) (ix3_eta (((cfg0.win 1).blk t).view.emb (ix3 0 r l)) _ _ _ ?_ ?_ ?_)
  · blk_simp [e0_1]
    exact Nat.add_zero _
  · blk_simp [e0_1]
  · blk_simp [e0_1]
    change _ + l.val = _
    omega

theorem iblk_v (t : Fin cfg0.N) (r : Fin 2560) (l : Fin 128) :
    (iblk m c 2 t : Vec Ideal S1x2560x128 .bf16) (ix3 0 r l) = (D m c).v (t.val / 4 % 2) r.val (128 * (t.val / 8) + l.val) := by
  have h : t.val < 32 := lt_of_lt_of_eq t.isLt N_0
  have hr := r.isLt
  have hl := l.isLt
  rw [← V_v' m c (by omega) (by omega) (by omega)]
  refine congrArg (V m c main_v6 : FVec Ideal S2x2560x512 .bf16) (ix3_eta (((cfg0.win 2).blk t).view.emb (ix3 0 r l)) _ _ _ ?_ ?_ ?_)
  · blk_simp [e0_2]
    exact Nat.add_zero _
  · blk_simp [e0_2]
  · blk_simp [e0_2]
    change _ + l.val = _
    omega

theorem D_d {b t l : ℕ} (hb : b < 2) (ht : t < 2048) (hl : l < 1024) : (D m c).d b t l = (V m c main_arg4 : FVec Ideal S2x2048x1024 .f32) (ix3 ⟨b, hb⟩ ⟨t, ht⟩ ⟨l, hl⟩) := by
  rw [V_main_arg4]
  exact at3_of _ hb ht hl

theorem iblk_d (t : Fin cfg0.N) (r : Fin 512) (l : Fin 128) :
    (iblk m c 4 t : Vec Ideal S1x512x128 .f32) (ix3 0 r l) = (D m c).d (t.val / 4 % 2) (512 * (t.val % 4) + r.val) (128 * (t.val / 8) + l.val) := by
  have h : t.val < 32 := lt_of_lt_of_eq t.isLt N_0
  have hr := r.isLt
  have hl := l.isLt
  rw [D_d m c (by omega) (by omega) (by omega)]
  refine congrArg (V m c main_arg4 : FVec Ideal S2x2048x1024 .f32) (ix3_eta (((cfg0.win 4).blk t).view.emb (ix3 0 r l)) _ _ _ ?_ ?_ ?_)
  · blk_simp [e0_4]
    exact Nat.add_zero _
  · blk_simp [e0_4]
    change _ + r.val = _
    omega
  · blk_simp [e0_4]
    change _ + l.val = _
    omega

theorem iblk_t (t : Fin cfg0.N) (h : Fin 2) (r : Fin 256) (w : Fin 768) :
    (iblk m c 3 t : Vec Ideal S2x256x768 .f32) (ix3 h r w) =
      if 64 * (r.val / 64) ≤ w.val ∧ w.val < 64 * (r.val / 64) + 576 then (D m c).bias (2 * (t.val / 8) + h.val) (r.val % 64) (w.val - 64 * (r.val / 64)) else ⊥ := by
  have ht : t.val < 32 := lt_of_lt_of_eq t.isLt N_0
  have hh := h.isLt
  have hr := r.isLt
  have hw := w.isLt
  have e : (iblk m c 3 t : Vec Ideal S2x256x768 .f32) (ix3 h r w)
      = (V m c main_v30 : FVec Ideal S8x256x768 .f32) (ix3 ⟨2 * (t.val / 8) + h.val, by omega⟩ ⟨r.val, r.isLt⟩ ⟨w.val, w.isLt⟩) := by
    refine congrArg (V m c main_v30 : FVec Ideal S8x256x768 .f32) (ix3_eta (((cfg0.win 3).blk t).view.emb (ix3 h r w)) _ _ _ ?_ ?_ ?_)
    · blk_simp [e0_3]
      change _ + h.val = _
      omega
    · blk_simp [e0_3]
    · blk_simp [e0_3]
  rw [e, V_table, tableOf_apply]
  by_cases hc : 64 * (r.val / 64) ≤ w.val ∧ w.val < 64 * (r.val / 64) + 576
  · rw [dif_pos hc, if_pos hc]
    have hc' : w.val - 64 * (r.val / 64) < 576 := by omega
    exact (at3_of (bandBias (argB m c)) (by omega) (by omega) hc').symm
  · rw [dif_neg hc, if_neg hc]

/-! ## The two blocks of a point -/

theorem start0 (t : Fin cfg0.N) : start (grid0.coords t) 0#32 = BitVec.ofNat 32 (512 * (t.val % 4)) := by
  unfold start
  rw [c2_val]
  have h : t.val % 4 < 4 := Nat.mod_lt _ (by omega)
  generalize t.val % 4 = i at h
  interval_cases i <;> decide

theorem start1 (t : Fin cfg0.N) : start (grid0.coords t) 1#32 = BitVec.ofNat 32 (512 * (t.val % 4) + 256) := by
  unfold start
  rw [c2_val]
  have h : t.val % 4 < 4 := Nat.mod_lt _ (by omega)
  generalize t.val % 4 = i at h
  interval_cases i <;> decide

theorem off0 (t : Fin cfg0.N) : k0_off1 (grid0.coords t) 0#32 = ![0, 512 * (t.val % 4), 0] := by
  have e : k0_off1 (grid0.coords t) 0#32 = ![0, (start (grid0.coords t) 0#32).toNat, 0] := rfl
  rw [e, start0, BitVec.toNat_ofNat, Nat.mod_eq_of_lt (by omega)]

theorem off1 (t : Fin cfg0.N) : k0_off1 (grid0.coords t) 1#32 = ![0, 512 * (t.val % 4) + 256, 0] := by
  have e : k0_off1 (grid0.coords t) 1#32 = ![0, (start (grid0.coords t) 1#32).toNat, 0] := rfl
  rw [e, start1, BitVec.toNat_ofNat, Nat.mod_eq_of_lt (by omega)]

theorem win0_emb (t : Fin cfg0.N) (w : Fin 768) (l : Fin 128) :
    (win0R (grid0.coords t)).emb (ix3 0 w l) = ix3 (n0 := 1) (n1 := 2560) (n2 := 128) 0 ⟨512 * (t.val % 4) + w.val, by omega⟩ l := by
  funext a
  apply Fin.ext
  change k0_off1 (grid0.coords t) 0#32 a + 1 * _ = _
  rw [off0]
  fin_cases a
  · rfl
  · change 512 * (t.val % 4) + 1 * w.val = 512 * (t.val % 4) + w.val
    omega
  · change 0 + 1 * l.val = l.val
    omega

theorem win1_emb (t : Fin cfg0.N) (w : Fin 768) (l : Fin 128) :
    (win1R (grid0.coords t)).emb (ix3 0 w l) = ix3 (n0 := 1) (n1 := 2560) (n2 := 128) 0 ⟨512 * (t.val % 4) + 256 + w.val, by omega⟩ l := by
  funext a
  apply Fin.ext
  change k0_off1 (grid0.coords t) 1#32 a + 1 * _ = _
  rw [off1]
  fin_cases a
  · rfl
  · change 512 * (t.val % 4) + 256 + 1 * w.val = 512 * (t.val % 4) + 256 + w.val
    omega
  · change 0 + 1 * l.val = l.val
    omega

theorem half0_emb (r : Fin 256) (l : Fin 128) : half0R.emb (ix3 0 r l) = ix3 (n0 := 1) (n1 := 512) (n2 := 128) 0 ⟨r.val, by omega⟩ l := by
  funext a
  apply Fin.ext
  fin_cases a
  · rfl
  · change 0 + 1 * r.val = r.val
    omega
  · change 0 + 1 * l.val = l.val
    omega

theorem half1_emb (r : Fin 256) (l : Fin 128) : half1R.emb (ix3 0 r l) = ix3 (n0 := 1) (n1 := 512) (n2 := 128) 0 ⟨256 + r.val, by omega⟩ l := by
  funext a
  apply Fin.ext
  fin_cases a
  · rfl
  · change 256 + 1 * r.val = 256 + r.val
    omega
  · change 0 + 1 * l.val = l.val
    omega

theorem tab0_emb (r : Fin 256) (w : Fin 768) : tab0R.emb (ix3 0 r w) = ix3 (n0 := 2) (n1 := 256) (n2 := 768) 0 r w := by
  funext a
  apply Fin.ext
  fin_cases a
  · rfl
  · change 0 + 1 * r.val = r.val
    omega
  · change 0 + 1 * w.val = w.val
    omega

theorem tab1_emb (r : Fin 256) (w : Fin 768) : tab1R.emb (ix3 0 r w) = ix3 (n0 := 2) (n1 := 256) (n2 := 768) 1 r w := by
  funext a
  apply Fin.ext
  fin_cases a
  · rfl
  · change 0 + 1 * r.val = r.val
    omega
  · change 0 + 1 * w.val = w.val
    omega

/-- The first block of point `t` reads the arrays from row `512 * (t % 4)` on, -/
theorem reads0 (t : Fin cfg0.N) : Reads (D m c) (t.val / 4 % 2) (t.val / 8) (512 * (t.val % 4)) (start (grid0.coords t) 0#32)
    (View.ld (iblk m c 1 t) (win0R (grid0.coords t))) (View.ld (iblk m c 2 t) (win0R (grid0.coords t)))
    (View.ld (iblk m c 0 t) half0R) (View.ld (iblk m c 4 t) half0R) (View.ld (iblk m c 3 t) tab0R) (View.ld (iblk m c 3 t) tab1R) where
  whole := by omega
  fits := by omega
  st_eq := start0 t
  k_eq w l := (congrArg (iblk m c 1 t : Vec Ideal S1x2560x128 .bf16) (win0_emb t w l)).trans (iblk_k m c t _ l)
  v_eq w l := (congrArg (iblk m c 2 t : Vec Ideal S1x2560x128 .bf16) (win0_emb t w l)).trans (iblk_v m c t _ l)
  q_eq r l := (congrArg (iblk m c 0 t : Vec Ideal S1x512x128 .bf16) (half0_emb r l)).trans (iblk_q m c t _ l)
  d_eq r l := (congrArg (iblk m c 4 t : Vec Ideal S1x512x128 .f32) (half0_emb r l)).trans (iblk_d m c t _ l)
  t0_eq r w := (congrArg (iblk m c 3 t : Vec Ideal S2x256x768 .f32) (tab0_emb r w)).trans (iblk_t m c t 0 r w)
  t1_eq r w := (congrArg (iblk m c 3 t : Vec Ideal S2x256x768 .f32) (tab1_emb r w)).trans (iblk_t m c t 1 r w)

/-- and the second 256 rows further. -/
theorem reads1 (t : Fin cfg0.N) : Reads (D m c) (t.val / 4 % 2) (t.val / 8) (512 * (t.val % 4) + 256) (start (grid0.coords t) 1#32)
    (View.ld (iblk m c 1 t) (win1R (grid0.coords t))) (View.ld (iblk m c 2 t) (win1R (grid0.coords t)))
    (View.ld (iblk m c 0 t) half1R) (View.ld (iblk m c 4 t) half1R) (View.ld (iblk m c 3 t) tab0R) (View.ld (iblk m c 3 t) tab1R) where
  whole := by omega
  fits := by omega
  st_eq := start1 t
  k_eq w l := (congrArg (iblk m c 1 t : Vec Ideal S1x2560x128 .bf16) (win1_emb t w l)).trans (iblk_k m c t _ l)
  v_eq w l := (congrArg (iblk m c 2 t : Vec Ideal S1x2560x128 .bf16) (win1_emb t w l)).trans (iblk_v m c t _ l)
  q_eq r l := ((congrArg (iblk m c 0 t : Vec Ideal S1x512x128 .bf16) (half1_emb r l)).trans (iblk_q m c t _ l)).trans
    (by rw [Nat.add_assoc])
  d_eq r l := ((congrArg (iblk m c 4 t : Vec Ideal S1x512x128 .f32) (half1_emb r l)).trans (iblk_d m c t _ l)).trans
    (by rw [Nat.add_assoc])
  t0_eq r w := (congrArg (iblk m c 3 t : Vec Ideal S2x256x768 .f32) (tab0_emb r w)).trans (iblk_t m c t 0 r w)
  t1_eq r w := (congrArg (iblk m c 3 t : Vec Ideal S2x256x768 .f32) (tab1_emb r w)).trans (iblk_t m c t 1 r w)

end Cert.KernelIdeal.Hand

end
-- ==== Proof.Value.Arrays.lean ====
module

public import proofs.«01_k».proof.Proof.Value.Blocks

@[expose] public section

set_option maxRecDepth 16384

noncomputable section

/-! # The three arrays the kernel leaves -/

namespace Cert.KernelIdeal.Hand

open Cert.KernelIdeal Cert.KernelIdeal.Gen
open Idealize.ShloMosaic Idealize.SL
open Cert.Band Finset

theorem mem_win0 (t : Fin cfg0.N) (s : Fin 2560) (l : Fin 128) :
    (ix3 (n0 := 1) (n1 := 2560) (n2 := 128) 0 s l) ∈ (win0R (grid0.coords t)).set ↔ 512 * (t.val % 4) ≤ s.val ∧ s.val < 512 * (t.val % 4) + 768 := by
  rw [Rect.mem_set_unit, off0]
  have hl := l.isLt
  refine ⟨fun h => h 1, fun h a => ?_⟩
  fin_cases a
  · exact ⟨Nat.le_refl 0, Nat.lt_of_lt_of_eq Nat.zero_lt_one rfl⟩
  · exact h
  · exact ⟨Nat.zero_le _, by change l.val < 0 + 128; omega⟩

theorem mem_win1 (t : Fin cfg0.N) (s : Fin 2560) (l : Fin 128) :
    (ix3 (n0 := 1) (n1 := 2560) (n2 := 128) 0 s l) ∈ (win1R (grid0.coords t)).set
      ↔ 512 * (t.val % 4) + 256 ≤ s.val ∧ s.val < 512 * (t.val % 4) + 256 + 768 := by
  rw [Rect.mem_set_unit, off1]
  have hl := l.isLt
  refine ⟨fun h => h 1, fun h a => ?_⟩
  fin_cases a
  · exact ⟨Nat.le_refl 0, Nat.lt_of_lt_of_eq Nat.zero_lt_one rfl⟩
  · exact h
  · exact ⟨Nat.zero_le _, by change l.val < 0 + 128; omega⟩

theorem accP_apply (old : Vec Ideal S1x768x128 .f32) (d : FVec Ideal S768x128 .f32) (w : Fin 768) (l : Fin 128) :
    accP old d (ix3 0 w l) = old (ix3 0 w l) + d (ix2 w l) := by
  pointwise [accP]

/-- A window of a running gradient with a part added: the rest of it stays. -/
theorem over0 (t : Fin cfg0.N) (d : Vec Ideal S1x2560x128 .f32) (a : FVec Ideal S768x128 .f32) (A : ℕ → EReal) (l : Fin 128)
    (ha : ∀ w : Fin 768, a (ix2 w l) = A (512 * (t.val % 4) + w.val))
    (h0 : ∀ s, ¬(512 * (t.val % 4) ≤ s ∧ s < 512 * (t.val % 4) + 768) → A s = 0) (s : Fin 2560) :
    (win0R (grid0.coords t)).overlay d (accP (View.ld d (win0R (grid0.coords t))) a) (ix3 0 s l) = d (ix3 0 s l) + A s.val := by
  have hs := s.isLt
  by_cases hm : 512 * (t.val % 4) ≤ s.val ∧ s.val < 512 * (t.val % 4) + 768
  · obtain ⟨w, hw⟩ : ∃ w : Fin 768, s = ⟨512 * (t.val % 4) + w.val, by omega⟩ :=
      ⟨⟨s.val - 512 * (t.val % 4), by omega⟩, Fin.ext (by dsimp only; omega)⟩
    rw [hw, ← win0_emb t w l, Rect.overlay_emb]
    refine (accP_apply _ a w l).trans ?_
    rw [ha w]
    rfl
  · rw [Rect.overlay_of_not_mem _ _ _ (fun h => hm ((mem_win0 t s l).mp h)), h0 _ hm, add_zero]

theorem over1 (t : Fin cfg0.N) (d : Vec Ideal S1x2560x128 .f32) (a : FVec Ideal S768x128 .f32) (A : ℕ → EReal) (l : Fin 128)
    (ha : ∀ w : Fin 768, a (ix2 w l) = A (512 * (t.val % 4) + 256 + w.val))
    (h0 : ∀ s, ¬(512 * (t.val % 4) + 256 ≤ s ∧ s < 512 * (t.val % 4) + 256 + 768) → A s = 0) (s : Fin 2560) :
    (win1R (grid0.coords t)).overlay d (accP (View.ld d (win1R (grid0.coords t))) a) (ix3 0 s l) = d (ix3 0 s l) + A s.val := by
  have hs := s.isLt
  by_cases hm : 512 * (t.val % 4) + 256 ≤ s.val ∧ s.val < 512 * (t.val % 4) + 256 + 768
  · obtain ⟨w, hw⟩ : ∃ w : Fin 768, s = ⟨512 * (t.val % 4) + 256 + w.val, by omega⟩ :=
      ⟨⟨s.val - (512 * (t.val % 4) + 256), by omega⟩, Fin.ext (by dsimp only; omega)⟩
    rw [hw, ← win1_emb t w l, Rect.overlay_emb]
    refine (accP_apply _ a w l).trans ?_
    rw [ha w]
    rfl
  · rw [Rect.overlay_of_not_mem _ _ _ (fun h => hm ((mem_win1 t s l).mp h)), h0 _ hm, add_zero]

/-- What a point adds to a running gradient: the contributions of its 512 queries, each zero off its band. -/
theorem stepK_apply (t : Fin cfg0.N) (d : Vec Ideal S1x2560x128 .f32) (a b : FVec Ideal S768x128 .f32) (F : ℕ → ℕ → EReal) (l : Fin 128)
    (ha : ∀ w : Fin 768, a (ix2 w l) = ∑ r ∈ range 256, F (512 * (t.val % 4) + r) (512 * (t.val % 4) + w.val))
    (hb : ∀ w : Fin 768, b (ix2 w l) = ∑ r ∈ range 256, F (512 * (t.val % 4) + 256 + r) (512 * (t.val % 4) + 256 + w.val))
    (h0 : ∀ r s, ¬Data.Sees r s → F r s = 0) (s : Fin 2560) :
    stepK (grid0.coords t) d a b (ix3 0 s l) = d (ix3 0 s l) + ∑ r ∈ range 512, F (512 * (t.val % 4) + r) s.val := by
  unfold stepK
  rw [over1 t _ b (fun s => ∑ r ∈ range 256, F (512 * (t.val % 4) + 256 + r) s) l hb
      (fun s hs => sum_eq_zero fun r hr => h0 _ _ fun hh => hs (by
        have := mem_range.mp hr; obtain ⟨x, y, z⟩ := hh; omega)),
    over0 t d a (fun s => ∑ r ∈ range 256, F (512 * (t.val % 4) + r) s) l ha
      (fun s hs => sum_eq_zero fun r hr => h0 _ _ fun hh => hs (by
        have := mem_range.mp hr; obtain ⟨x, y, z⟩ := hh; omega)),
    show (512 : ℕ) = 256 + 256 from rfl, sum_range_add, add_assoc]
  simp only [Nat.add_assoc]

variable (m : (ℓ : Loc nD τ sig) → Buf (Elt Ideal) ℓ) (c : Dev nD)

/-- What query `r` adds to the gradient of key `s` at lane `l`, and to that of the value. -/
def addK (b l r s : ℕ) : EReal := (D m c).dscore b (l / 64) r s * ((D m c).q b r l * eighth)
def addV (b l r s : ℕ) : EReal := (D m c).prob b (l / 64) r s * (D m c).d b r l

theorem addK_out (b l r s : ℕ) (h : ¬Data.Sees r s) : addK m c b l r s = 0 := by
  unfold addK; rw [Data.dscore_out _ _ _ h, zero_mul]

theorem addV_out (b l r s : ℕ) (h : ¬Data.Sees r s) : addV m c b l r s = 0 := by
  unfold addV; rw [Data.prob_out _ _ _ h, zero_mul]

theorem dkOut_apply (t : Fin cfg0.N) (d : Vec Ideal S1x2560x128 .f32) (s : Fin 2560) (l : Fin 128) :
    dkOut (grid0.coords t) (iblk m c 0 t) (iblk m c 1 t) (iblk m c 2 t) (iblk m c 3 t) (iblk m c 4 t) d (ix3 0 s l)
      = d (ix3 0 s l) + ∑ r ∈ range 512, addK m c (t.val / 4 % 2) (128 * (t.val / 8) + l.val) (512 * (t.val % 4) + r) s.val :=
  stepK_apply t d _ _ (addK m c (t.val / 4 % 2) (128 * (t.val / 8) + l.val)) l
    (fun w => dkP_apply (reads0 m c t) w l) (fun w => dkP_apply (reads1 m c t) w l) (addK_out m c _ _) s

theorem dvOut_apply (t : Fin cfg0.N) (d : Vec Ideal S1x2560x128 .f32) (s : Fin 2560) (l : Fin 128) :
    dvOut (grid0.coords t) (iblk m c 0 t) (iblk m c 1 t) (iblk m c 3 t) (iblk m c 4 t) d (ix3 0 s l)
      = d (ix3 0 s l) + ∑ r ∈ range 512, addV m c (t.val / 4 % 2) (128 * (t.val / 8) + l.val) (512 * (t.val % 4) + r) s.val :=
  stepK_apply t d _ _ (addV m c (t.val / 4 % 2) (128 * (t.val / 8) + l.val)) l
    (fun w => dvP_apply (reads0 m c t) w l) (fun w => dvP_apply (reads1 m c t) w l) (addV_out m c _ _) s

theorem zero_bits : Ideal.ofBits FTy.f32 0#32 = (0 : EReal) := by
  simp [Ideal.ofBits, Ideal.ieee]

theorem zeroK (s : Fin 2560) (l : Fin 128) : k0_pay3 (F := Ideal) (ix3 0 s l) = 0 := by
  pointwise [k0_pay3]
  try exact zero_bits

theorem zeroV (s : Fin 2560) (l : Fin 128) : k0_pay4 (F := Ideal) (ix3 0 s l) = 0 := by
  pointwise [k0_pay4]
  try exact zero_bits

/-- After a point, the running gradient holds the contributions of the batch entry's queries so far. -/
theorem dkAt_apply (n : ℕ) : ∀ (h : n < cfg0.N) (s : Fin 2560) (l : Fin 128),
    dkAt m c n h (ix3 0 s l) = ∑ r ∈ range (512 * (n % 4 + 1)), addK m c (n / 4 % 2) (128 * (n / 8) + l.val) r s.val := by
  induction n with
  | zero =>
    intro h s l
    refine (congrFun (dkAt_reset m c ⟨0, h⟩ rfl) _).trans ((dkOut_apply m c ⟨0, h⟩ _ s l).trans ?_)
    rw [zeroK, zero_add]
    exact sum_congr rfl fun r _ => by dsimp only; rw [show 512 * (0 % 4) + r = r by omega]
  | succ n ih =>
    intro h s l
    by_cases h0 : (n + 1) % 4 = 0
    · refine (congrFun (dkAt_reset m c ⟨n + 1, h⟩ h0) _).trans ((dkOut_apply m c ⟨n + 1, h⟩ _ s l).trans ?_)
      rw [zeroK, zero_add]
      dsimp only
      rw [h0]
      exact sum_congr rfl fun r _ => by rw [show 512 * 0 + r = r by omega]
    · refine (congrFun (dkAt_step m c ⟨n + 1, h⟩ h0) _).trans ((dkOut_apply m c ⟨n + 1, h⟩ _ s l).trans ?_)
      dsimp only
      have e : dkAt m c (n + 1 - 1) (Nat.lt_of_le_of_lt (Nat.sub_le _ _) h) (ix3 0 s l)
          = ∑ r ∈ range (512 * (n % 4 + 1)), addK m c (n / 4 % 2) (128 * (n / 8) + l.val) r s.val := ih _ s l
      rw [e, show (n + 1) / 4 % 2 = n / 4 % 2 by omega, show (n + 1) / 8 = n / 8 by omega, show (n + 1) % 4 = n % 4 + 1 by omega,
        show 512 * (n % 4 + 1 + 1) = 512 * (n % 4 + 1) + 512 by omega, sum_range_add]

theorem dvAt_apply (n : ℕ) : ∀ (h : n < cfg0.N) (s : Fin 2560) (l : Fin 128),
    dvAt m c n h (ix3 0 s l) = ∑ r ∈ range (512 * (n % 4 + 1)), addV m c (n / 4 % 2) (128 * (n / 8) + l.val) r s.val := by
  induction n with
  | zero =>
    intro h s l
    refine (congrFun (dvAt_reset m c ⟨0, h⟩ rfl) _).trans ((dvOut_apply m c ⟨0, h⟩ _ s l).trans ?_)
    rw [zeroV, zero_add]
    exact sum_congr rfl fun r _ => by dsimp only; rw [show 512 * (0 % 4) + r = r by omega]
  | succ n ih =>
    intro h s l
    by_cases h0 : (n + 1) % 4 = 0
    · refine (congrFun (dvAt_reset m c ⟨n + 1, h⟩ h0) _).trans ((dvOut_apply m c ⟨n + 1, h⟩ _ s l).trans ?_)
      rw [zeroV, zero_add]
      dsimp only
      rw [h0]
      exact sum_congr rfl fun r _ => by rw [show 512 * 0 + r = r by omega]
    · refine (congrFun (dvAt_step m c ⟨n + 1, h⟩ h0) _).trans ((dvOut_apply m c ⟨n + 1, h⟩ _ s l).trans ?_)
      dsimp only
      have e : dvAt m c (n + 1 - 1) (Nat.lt_of_le_of_lt (Nat.sub_le _ _) h) (ix3 0 s l)
          = ∑ r ∈ range (512 * (n % 4 + 1)), addV m c (n / 4 % 2) (128 * (n / 8) + l.val) r s.val := ih _ s l
      rw [e, show (n + 1) / 4 % 2 = n / 4 % 2 by omega, show (n + 1) / 8 = n / 8 by omega, show (n + 1) % 4 = n % 4 + 1 by omega,
        show 512 * (n % 4 + 1 + 1) = 512 * (n % 4 + 1) + 512 by omega, sum_range_add]

theorem mem_half1 (r : Fin 512) (l : Fin 128) : (ix3 (n0 := 1) (n1 := 512) (n2 := 128) 0 r l) ∈ half1R.set ↔ 256 ≤ r.val := by
  rw [Rect.mem_set_unit]
  have hl := l.isLt
  have hr := r.isLt
  refine ⟨fun h => (h 1).1, fun h a => ?_⟩
  fin_cases a
  · exact ⟨Nat.le_refl 0, Nat.lt_of_lt_of_eq Nat.zero_lt_one rfl⟩
  · exact ⟨h, by change r.val < 256 + 256; omega⟩
  · exact ⟨Nat.zero_le _, by change l.val < 0 + 128; omega⟩

/-- The gradient of a point's queries. -/
theorem dqAt_apply (t : Fin cfg0.N) (r : Fin 512) (l : Fin 128) :
    dqAt m c t (ix3 0 r l) = (D m c).dq (t.val / 4 % 2) (512 * (t.val % 4) + r.val) (128 * (t.val / 8) + l.val) := by
  unfold dqAt dqOut
  have hr := r.isLt
  by_cases hm : 256 ≤ r.val
  · obtain ⟨x, hx⟩ : ∃ x : Fin 256, r = ⟨256 + x.val, by omega⟩ := ⟨⟨r.val - 256, by omega⟩, Fin.ext (by dsimp only; omega)⟩
    rw [hx, ← half1_emb x l, Rect.overlay_emb]
    refine (dqP_apply (reads1 m c t) x l).trans ?_
    rw [Nat.add_assoc]
  · rw [Rect.overlay_of_not_mem _ _ _ (fun h => hm ((mem_half1 r l).mp h))]
    obtain ⟨x, hx⟩ : ∃ x : Fin 256, r = ⟨x.val, by omega⟩ := ⟨⟨r.val, by omega⟩, rfl⟩
    rw [hx, ← half0_emb x l, Rect.overlay_emb]
    exact dqP_apply (reads0 m c t) x l

end Cert.KernelIdeal.Hand

end
-- ==== Proof.Value.Final.lean ====
module

public import proofs.«01_k».proof.Proof.Value.Arrays

@[expose] public section

set_option maxRecDepth 16384

noncomputable section

/-! # The run of the kernel, read -/

namespace Cert.KernelIdeal.Hand

open Cert.KernelIdeal Cert.KernelIdeal.Gen
open Idealize.ShloMosaic Idealize.ShloMosaic.TcCoe Idealize.SL Idealize.SL.Sem
open Cert.Band Finset

variable (m : (ℓ : Loc nD τ sig) → Buf (Elt Ideal) ℓ) (c : Dev nD)

/-- The three gradients, as arrays. -/
def GQ : FVec Ideal S2x2048x512 .f32 := fun i => (D m c).dq (i 0).val (i 1).val (i 2).val
def GK : FVec Ideal S2x2560x512 .f32 := fun i => (D m c).dk (i 0).val (i 1).val (i 2).val
def GV : FVec Ideal S2x2560x512 .f32 := fun i => (D m c).dv (i 0).val (i 1).val (i 2).val

theorem flushed_q (t : Fin cfg0.N) : (dats m 0 c).flushed 5 t = ((cfg0.win 5).blk t).view.read (Elt Ideal) (GQ m c) := by
  show (cfg0.win 5).cut (grid0.coords t) ((dats m 0 c).after 5 t) = _
  rw [after0_5]
  funext y
  have e : ∀ y : S1x512x128.Idx, dqAt m c t y = GQ m c (((cfg0.win 5).blk t).view.emb y) := fun y => by
    have h0 : (y 0).val < 1 := (y 0).isLt
    obtain ⟨r, l, rfl⟩ : ∃ (r : Fin 512) (l : Fin 128), y = ix3 0 r l :=
      ⟨⟨(y 1).val, (y 1).isLt⟩, ⟨(y 2).val, (y 2).isLt⟩, ix3_eta y (by omega) _ _ (by omega) rfl rfl⟩
    rw [dqAt_apply]
    unfold GQ
    have a0 : ((((cfg0.win 5).blk t).view.emb (ix3 0 r l)) 0).val = t.val / 4 % 2 := by
      blk_simp [e0_5]; exact Nat.add_zero _
    have a1 : ((((cfg0.win 5).blk t).view.emb (ix3 0 r l)) 1).val = 512 * (t.val % 4) + r.val := by
      blk_simp [e0_5]; change _ + r.val = _; omega
    have a2 : ((((cfg0.win 5).blk t).view.emb (ix3 0 r l)) 2).val = 128 * (t.val / 8) + l.val := by
      blk_simp [e0_5]; change _ + l.val = _; omega
    exact congr (congr (congrArg (D m c).dq a0.symm) a1.symm) a2.symm
  exact e y

theorem cover_q (i : S2x2048x512.Idx) : ∃ t : Fin cfg0.N, (cfg0.win 5).flush t = true ∧ i ∈ ((cfg0.win 5).blk t).view.set := by
  have h0 : (i 0).val < 2 := (i 0).isLt
  have h1 : (i 1).val < 2048 := (i 1).isLt
  have h2 : (i 2).val < 512 := (i 2).isLt
  have hN : cfg0.N = 32 := N_0
  refine ⟨⟨8 * ((i 2).val / 128) + 4 * (i 0).val + (i 1).val / 512, by omega⟩, flush0_5 _, ?_⟩
  generalize ht : (⟨8 * ((i 2).val / 128) + 4 * (i 0).val + (i 1).val / 512, _⟩ : Fin cfg0.N) = t
  have ht' : t.val = 8 * ((i 2).val / 128) + 4 * (i 0).val + (i 1).val / 512 := by rw [← ht]
  refine Finset.mem_map.mpr ⟨ix3 0 ⟨(i 1).val % 512, Nat.mod_lt _ (by omega)⟩ ⟨(i 2).val % 128, Nat.mod_lt _ (by omega)⟩, mem_univ _, ?_⟩
  refine (ix3_eta (((cfg0.win 5).blk t).view.emb (ix3 0 _ _)) h0 h1 h2 ?_ ?_ ?_).trans (ix3_eta i h0 h1 h2 rfl rfl rfl).symm
  · blk_simp [e0_5]; change _ + 0 = _; omega
  · blk_simp [e0_5]; change _ + (i 1).val % 512 = _; omega
  · blk_simp [e0_5]; change _ + (i 2).val % 128 = _; omega

theorem flushed_k (t : Fin cfg0.N) (hf : (cfg0.win 6).flush t = true) :
    (dats m 0 c).flushed 6 t = ((cfg0.win 6).blk t).view.read (Elt Ideal) (GK m c) := by
  have h3 : t.val % 4 = 3 := (flush0_6 t).mp hf
  show (cfg0.win 6).cut (grid0.coords t) ((dats m 0 c).after 6 t) = _
  rw [after0_6]
  funext y
  have e : ∀ y : S1x2560x128.Idx, dkAt m c t.val t.isLt y = GK m c (((cfg0.win 6).blk t).view.emb y) := fun y => by
    have h0 : (y 0).val < 1 := (y 0).isLt
    obtain ⟨s, l, rfl⟩ : ∃ (s : Fin 2560) (l : Fin 128), y = ix3 0 s l :=
      ⟨⟨(y 1).val, (y 1).isLt⟩, ⟨(y 2).val, (y 2).isLt⟩, ix3_eta y (by omega) _ _ (by omega) rfl rfl⟩
    rw [dkAt_apply, h3]
    unfold GK
    have a0 : ((((cfg0.win 6).blk t).view.emb (ix3 0 s l)) 0).val = t.val / 4 % 2 := by
      blk_simp [e0_6]; exact Nat.add_zero _
    have a1 : ((((cfg0.win 6).blk t).view.emb (ix3 0 s l)) 1).val = s.val := by
      blk_simp [e0_6]
    have a2 : ((((cfg0.win 6).blk t).view.emb (ix3 0 s l)) 2).val = 128 * (t.val / 8) + l.val := by
      blk_simp [e0_6]; change _ + l.val = _; omega
    have e1 : (D m c).dk (t.val / 4 % 2) s.val (128 * (t.val / 8) + l.val)
        = (D m c).dk ((((cfg0.win 6).blk t).view.emb (ix3 0 s l)) 0).val ((((cfg0.win 6).blk t).view.emb (ix3 0 s l)) 1).val
            ((((cfg0.win 6).blk t).view.emb (ix3 0 s l)) 2).val :=
      congr (congr (congrArg (D m c).dk a0.symm) a1.symm) a2.symm
    exact e1
  exact e y

theorem cover_k (i : S2x2560x512.Idx) : ∃ t : Fin cfg0.N, (cfg0.win 6).flush t = true ∧ i ∈ ((cfg0.win 6).blk t).view.set := by
  have h0 : (i 0).val < 2 := (i 0).isLt
  have h1 : (i 1).val < 2560 := (i 1).isLt
  have h2 : (i 2).val < 512 := (i 2).isLt
  have hN : cfg0.N = 32 := N_0
  refine ⟨⟨8 * ((i 2).val / 128) + 4 * (i 0).val + 3, by omega⟩, (flush0_6 _).mpr (by dsimp only; omega), ?_⟩
  generalize ht : (⟨8 * ((i 2).val / 128) + 4 * (i 0).val + 3, _⟩ : Fin cfg0.N) = t
  have ht' : t.val = 8 * ((i 2).val / 128) + 4 * (i 0).val + 3 := by rw [← ht]
  refine Finset.mem_map.mpr ⟨ix3 0 ⟨(i 1).val, h1⟩ ⟨(i 2).val % 128, Nat.mod_lt _ (by omega)⟩, mem_univ _, ?_⟩
  refine (ix3_eta (((cfg0.win 6).blk t).view.emb (ix3 0 _ _)) h0 h1 h2 ?_ ?_ ?_).trans (ix3_eta i h0 h1 h2 rfl rfl rfl).symm
  · blk_simp [e0_6]; change _ + 0 = _; omega
  · blk_simp [e0_6]
  · blk_simp [e0_6]; change _ + (i 2).val % 128 = _; omega

theorem flushed_v (t : Fin cfg0.N) (hf : (cfg0.win 7).flush t = true) :
    (dats m 0 c).flushed 7 t = ((cfg0.win 7).blk t).view.read (Elt Ideal) (GV m c) := by
  have h3 : t.val % 4 = 3 := (flush0_7 t).mp hf
  show (cfg0.win 7).cut (grid0.coords t) ((dats m 0 c).after 7 t) = _
  rw [after0_7]
  funext y
  have e : ∀ y : S1x2560x128.Idx, dvAt m c t.val t.isLt y = GV m c (((cfg0.win 7).blk t).view.emb y) := fun y => by
    have h0 : (y 0).val < 1 := (y 0).isLt
    obtain ⟨s, l, rfl⟩ : ∃ (s : Fin 2560) (l : Fin 128), y = ix3 0 s l :=
      ⟨⟨(y 1).val, (y 1).isLt⟩, ⟨(y 2).val, (y 2).isLt⟩, ix3_eta y (by omega) _ _ (by omega) rfl rfl⟩
    rw [dvAt_apply, h3]
    unfold GV
    have a0 : ((((cfg0.win 7).blk t).view.emb (ix3 0 s l)) 0).val = t.val / 4 % 2 := by
      blk_simp [e0_7]; exact Nat.add_zero _
    have a1 : ((((cfg0.win 7).blk t).view.emb (ix3 0 s l)) 1).val = s.val := by
      blk_simp [e0_7]
    have a2 : ((((cfg0.win 7).blk t).view.emb (ix3 0 s l)) 2).val = 128 * (t.val / 8) + l.val := by
      blk_simp [e0_7]; change _ + l.val = _; omega
    have e1 : (D m c).dv (t.val / 4 % 2) s.val (128 * (t.val / 8) + l.val)
        = (D m c).dv ((((cfg0.win 7).blk t).view.emb (ix3 0 s l)) 0).val ((((cfg0.win 7).blk t).view.emb (ix3 0 s l)) 1).val
            ((((cfg0.win 7).blk t).view.emb (ix3 0 s l)) 2).val :=
      congr (congr (congrArg (D m c).dv a0.symm) a1.symm) a2.symm
    exact e1
  exact e y

theorem cover_v (i : S2x2560x512.Idx) : ∃ t : Fin cfg0.N, (cfg0.win 7).flush t = true ∧ i ∈ ((cfg0.win 7).blk t).view.set := by
  have h0 : (i 0).val < 2 := (i 0).isLt
  have h1 : (i 1).val < 2560 := (i 1).isLt
  have h2 : (i 2).val < 512 := (i 2).isLt
  have hN : cfg0.N = 32 := N_0
  refine ⟨⟨8 * ((i 2).val / 128) + 4 * (i 0).val + 3, by omega⟩, (flush0_7 _).mpr (by dsimp only; omega), ?_⟩
  generalize ht : (⟨8 * ((i 2).val / 128) + 4 * (i 0).val + 3, _⟩ : Fin cfg0.N) = t
  have ht' : t.val = 8 * ((i 2).val / 128) + 4 * (i 0).val + 3 := by rw [← ht]
  refine Finset.mem_map.mpr ⟨ix3 0 ⟨(i 1).val, h1⟩ ⟨(i 2).val % 128, Nat.mod_lt _ (by omega)⟩, mem_univ _, ?_⟩
  refine (ix3_eta (((cfg0.win 7).blk t).view.emb (ix3 0 _ _)) h0 h1 h2 ?_ ?_ ?_).trans (ix3_eta i h0 h1 h2 rfl rfl rfl).symm
  · blk_simp [e0_7]; change _ + 0 = _; omega
  · blk_simp [e0_7]
  · blk_simp [e0_7]; change _ + (i 2).val % 128 = _; omega

/-- The run ends with the three gradients in the result arrays, and the arguments as they were. -/
theorem run_value (ρ : Dev nD → PrngReg) : θ_run defs (onTc (τ := τ) (main (F := Ideal))) ⟨m, fun _ => 0, ρ⟩ fun r => ∀ c : Dev nD,
      r.2.mem ((c : Thread nD τ).loc main_v31_0) = GQ m c
      ∧ r.2.mem ((c : Thread nD τ).loc main_v31_1) = GK m c
      ∧ r.2.mem ((c : Thread nD τ).loc main_v31_2) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main_quiescent m ρ)
  have e5 := (Pipeline.Dat.toRForget_arrAt_iff (dats m 0 c) (fgt := forgets0) (w := 5) rfl cfg0.N _).mp ((h.1 c).1 5)
  have e6 := (Pipeline.Dat.toRForget_arrAt_iff (dats m 0 c) (fgt := forgets0) (w := 6) rfl cfg0.N _).mp ((h.1 c).1 6)
  have e7 := (Pipeline.Dat.toRForget_arrAt_iff (dats m 0 c) (fgt := forgets0) (w := 7) rfl cfg0.N _).mp ((h.1 c).1 7)
  exact ⟨e5.trans ((dats m 0 c).arrAt_eq_of_cover 5 (GQ m c) (fun t _ => flushed_q m c t) cover_q),
    e6.trans ((dats m 0 c).arrAt_eq_of_cover 6 (GK m c) (flushed_k m c) cover_k),
    e7.trans ((dats m 0 c).arrAt_eq_of_cover 7 (GV m c) (flushed_v m c) cover_v), args_of m h.1 c⟩

end Cert.KernelIdeal.Hand

end
-- ==== Proof.Value.RefBand.lean ====
module

public import proofs.«01_k».proof.Proof.Gen.ReferenceIdeal.Read
public import proofs.«01_k».proof.Proof.Gen.ReferenceIdeal
public import proofs.«01_k».proof.Proof.Value.Spec
public import Idealize.ShloMosaic.Lib.Pointwise
public import Idealize.ShloMosaic.Lib.Pipeline.Value

@[expose] public section

set_option maxRecDepth 16384

noncomputable section

/-! The reference's bands: nine shifted copies of the padded keys (or values), joined. -/

namespace Cert.ReferenceIdeal.Hand
open Idealize Idealize.ShloMosaic Cert.Band
open Cert.ReferenceIdeal Cert.ReferenceIdeal.Gen Cert.ReferenceIdeal.Read

/-- An array behind 512 rows of zeros. -/
def padAt (x : FVec Ideal S2x2048x512 .f32) (b s l : ℕ) : EReal := if 512 ≤ s then at3 x b (s - 512) l else 0

theorem padAt_lo (x : FVec Ideal S2x2048x512 .f32) (b s l : ℕ) (hs : s < 512) : padAt x b s l = 0 := if_neg (by omega)

theorem padAt_hi (x : FVec Ideal S2x2048x512 .f32) {b s l : ℕ} (hb : b < 2) (hs : 512 ≤ s) (ht : s - 512 < 2048) (hl : l < 512) :
    padAt x b s l = x (ix3 ⟨b, hb⟩ ⟨s - 512, ht⟩ ⟨l, hl⟩) := (if_pos hs).trans (at3_of x hb ht hl)

/-- Nine pieces of 64 rows joined along the third axis, read at row `64 j + r`. -/
theorem join_apply (p0 p1 p2 p3 p4 p5 p6 p7 p8 : FVec Ideal S2x32x64x8x64 .f32)
    (h : Shape.Concatenates [S2x32x64x8x64, S2x32x64x8x64, S2x32x64x8x64, S2x32x64x8x64, S2x32x64x8x64,
      S2x32x64x8x64, S2x32x64x8x64, S2x32x64x8x64, S2x32x64x8x64] S2x32x576x8x64 2)
    (b : Fin 2) (n : Fin 32) (u : Fin 576) (g : Fin 8) (x : Fin 64) (j : Fin 9) (r : Fin 64)
    (hj : u.val / 64 = j.val) (hr : r.val = u.val % 64) :
    concatenate S2x32x576x8x64 2 [⟨S2x32x64x8x64, p0⟩, ⟨S2x32x64x8x64, p1⟩, ⟨S2x32x64x8x64, p2⟩,
      ⟨S2x32x64x8x64, p3⟩, ⟨S2x32x64x8x64, p4⟩, ⟨S2x32x64x8x64, p5⟩, ⟨S2x32x64x8x64, p6⟩,
      ⟨S2x32x64x8x64, p7⟩, ⟨S2x32x64x8x64, p8⟩] h (ix5 b n u g x)
      = ![p0, p1, p2, p3, p4, p5, p6, p7, p8] j (ix5 b n r g x) := by
  refine concatenate_ofFn_apply (s₁ := S2x32x64x8x64) (t := S2x32x576x8x64) 2
    ![p0, p1, p2, p3, p4, p5, p6, p7, p8] h rfl 64 rfl (ix5 b n u g x) j hj (ix5 b n r g x) hr ?_
  intro a ha
  match a with
  | ⟨0, _⟩ => rfl
  | ⟨1, _⟩ => rfl
  | ⟨2, _⟩ => exact absurd rfl ha
  | ⟨3, _⟩ => rfl
  | ⟨4, _⟩ => rfl

/-- Nine pieces, each a shifted copy of one array, joined. -/
theorem join_shifted (p0 p1 p2 p3 p4 p5 p6 p7 p8 : FVec Ideal S2x32x64x8x64 .f32) (y : FVec Ideal S2x40x64x8x64 .f32)
    (h : Shape.Concatenates [S2x32x64x8x64, S2x32x64x8x64, S2x32x64x8x64, S2x32x64x8x64, S2x32x64x8x64,
      S2x32x64x8x64, S2x32x64x8x64, S2x32x64x8x64, S2x32x64x8x64] S2x32x576x8x64 2)
    (b : Fin 2) (n : Fin 32) (u : Fin 576) (g : Fin 8) (x : Fin 64)
    (h0 : p0 (ix5 b n ⟨u.val % 64, by omega⟩ g x) = y (ix5 b ⟨n.val + 0, by omega⟩ ⟨u.val % 64, by omega⟩ g x))
    (h1 : p1 (ix5 b n ⟨u.val % 64, by omega⟩ g x) = y (ix5 b ⟨n.val + 1, by omega⟩ ⟨u.val % 64, by omega⟩ g x))
    (h2 : p2 (ix5 b n ⟨u.val % 64, by omega⟩ g x) = y (ix5 b ⟨n.val + 2, by omega⟩ ⟨u.val % 64, by omega⟩ g x))
    (h3 : p3 (ix5 b n ⟨u.val % 64, by omega⟩ g x) = y (ix5 b ⟨n.val + 3, by omega⟩ ⟨u.val % 64, by omega⟩ g x))
    (h4 : p4 (ix5 b n ⟨u.val % 64, by omega⟩ g x) = y (ix5 b ⟨n.val + 4, by omega⟩ ⟨u.val % 64, by omega⟩ g x))
    (h5 : p5 (ix5 b n ⟨u.val % 64, by omega⟩ g x) = y (ix5 b ⟨n.val + 5, by omega⟩ ⟨u.val % 64, by omega⟩ g x))
    (h6 : p6 (ix5 b n ⟨u.val % 64, by omega⟩ g x) = y (ix5 b ⟨n.val + 6, by omega⟩ ⟨u.val % 64, by omega⟩ g x))
    (h7 : p7 (ix5 b n ⟨u.val % 64, by omega⟩ g x) = y (ix5 b ⟨n.val + 7, by omega⟩ ⟨u.val % 64, by omega⟩ g x))
    (h8 : p8 (ix5 b n ⟨u.val % 64, by omega⟩ g x) = y (ix5 b ⟨n.val + 8, by omega⟩ ⟨u.val % 64, by omega⟩ g x)) :
    concatenate S2x32x576x8x64 2 [⟨S2x32x64x8x64, p0⟩, ⟨S2x32x64x8x64, p1⟩, ⟨S2x32x64x8x64, p2⟩,
      ⟨S2x32x64x8x64, p3⟩, ⟨S2x32x64x8x64, p4⟩, ⟨S2x32x64x8x64, p5⟩, ⟨S2x32x64x8x64, p6⟩,
      ⟨S2x32x64x8x64, p7⟩, ⟨S2x32x64x8x64, p8⟩] h (ix5 b n u g x)
      = y (ix5 b ⟨n.val + u.val / 64, by omega⟩ ⟨u.val % 64, by omega⟩ g x) := by
  obtain ⟨j, hj⟩ : ∃ j : Fin 9, u.val / 64 = j.val := ⟨⟨u.val / 64, by omega⟩, rfl⟩
  have hu : u.val % 64 < 64 := by omega
  have hn : n.val + j.val < 40 := by omega
  have e : (ix5 b ⟨n.val + u.val / 64, by omega⟩ ⟨u.val % 64, hu⟩ g x : S2x40x64x8x64.Idx)
      = ix5 b ⟨n.val + j.val, hn⟩ ⟨u.val % 64, hu⟩ g x := by
    congr 2
    exact congrArg (n.val + ·) hj
  rw [e]
  refine (join_apply p0 p1 p2 p3 p4 p5 p6 p7 p8 h b n u g x j ⟨u.val % 64, hu⟩ hj rfl).trans ?_
  fin_cases j
  · exact h0
  · exact h1
  · exact h2
  · exact h3
  · exact h4
  · exact h5
  · exact h6
  · exact h7
  · exact h8

/-- One shifted copy, read. -/
theorem shifted (y : FVec Ideal S2x40x64x8x64 .f32) (b : Fin 2) (n : Fin 32) (r : Fin 64) (g : Fin 8) (x : Fin 64)
    (i : S2x40x64x8x64.Idx) (o : ℕ) (ho : o + n.val < 40)
    (h0 : (i 0).val = b.val) (h1 : (i 1).val = o + n.val) (h2 : (i 2).val = r.val) (h3 : (i 3).val = g.val) (h4 : (i 4).val = x.val) :
    y i = y (ix5 b ⟨n.val + o, by omega⟩ r g x) := by
  refine congrArg y (funext fun a => Fin.ext ?_)
  match a with
  | ⟨0, _⟩ => exact h0
  | ⟨1, _⟩ => exact h1.trans (Nat.add_comm _ _)
  | ⟨2, _⟩ => exact h2
  | ⟨3, _⟩ => exact h3
  | ⟨4, _⟩ => exact h4

theorem v29_at (x1 : FVec Ideal S2x2048x512 .f32) (b : Fin 2) (n : Fin 32) (r : Fin 64) (g : Fin 8) (x : Fin 64) :
    val_main_v29 (F := Ideal) x1 (ix5 b n r g x) = val_main_v28 (F := Ideal) x1 (ix5 b ⟨n.val + 0, by omega⟩ r g x) :=
  (val_main_v29_apply (F := Ideal) x1 (ix5 b n r g x)).trans (shifted (val_main_v28 (F := Ideal) x1) b n r g x
    (idx_main_v29 (ix5 b n r g x)) 0 (by omega) rfl (Nat.zero_add _).symm rfl rfl rfl)

theorem v30_at (x1 : FVec Ideal S2x2048x512 .f32) (b : Fin 2) (n : Fin 32) (r : Fin 64) (g : Fin 8) (x : Fin 64) :
    val_main_v30 (F := Ideal) x1 (ix5 b n r g x) = val_main_v28 (F := Ideal) x1 (ix5 b ⟨n.val + 1, by omega⟩ r g x) :=
  (val_main_v30_apply (F := Ideal) x1 (ix5 b n r g x)).trans (shifted (val_main_v28 (F := Ideal) x1) b n r g x
    (idx_main_v30 (ix5 b n r g x)) 1 (by omega) rfl rfl rfl rfl rfl)

theorem v31_at (x1 : FVec Ideal S2x2048x512 .f32) (b : Fin 2) (n : Fin 32) (r : Fin 64) (g : Fin 8) (x : Fin 64) :
    val_main_v31 (F := Ideal) x1 (ix5 b n r g x) = val_main_v28 (F := Ideal) x1 (ix5 b ⟨n.val + 2, by omega⟩ r g x) :=
  (val_main_v31_apply (F := Ideal) x1 (ix5 b n r g x)).trans (shifted (val_main_v28 (F := Ideal) x1) b n r g x
    (idx_main_v31 (ix5 b n r g x)) 2 (by omega) rfl rfl rfl rfl rfl)

theorem v32_at (x1 : FVec Ideal S2x2048x512 .f32) (b : Fin 2) (n : Fin 32) (r : Fin 64) (g : Fin 8) (x : Fin 64) :
    val_main_v32 (F := Ideal) x1 (ix5 b n r g x) = val_main_v28 (F := Ideal) x1 (ix5 b ⟨n.val + 3, by omega⟩ r g x) :=
  (val_main_v32_apply (F := Ideal) x1 (ix5 b n r g x)).trans (shifted (val_main_v28 (F := Ideal) x1) b n r g x
    (idx_main_v32 (ix5 b n r g x)) 3 (by omega) rfl rfl rfl rfl rfl)

theorem v33_at (x1 : FVec Ideal S2x2048x512 .f32) (b : Fin 2) (n : Fin 32) (r : Fin 64) (g : Fin 8) (x : Fin 64) :
    val_main_v33 (F := Ideal) x1 (ix5 b n r g x) = val_main_v28 (F := Ideal) x1 (ix5 b ⟨n.val + 4, by omega⟩ r g x) :=
  (val_main_v33_apply (F := Ideal) x1 (ix5 b n r g x)).trans (shifted (val_main_v28 (F := Ideal) x1) b n r g x
    (idx_main_v33 (ix5 b n r g x)) 4 (by omega) rfl rfl rfl rfl rfl)

theorem v34_at (x1 : FVec Ideal S2x2048x512 .f32) (b : Fin 2) (n : Fin 32) (r : Fin 64) (g : Fin 8) (x : Fin 64) :
    val_main_v34 (F := Ideal) x1 (ix5 b n r g x) = val_main_v28 (F := Ideal) x1 (ix5 b ⟨n.val + 5, by omega⟩ r g x) :=
  (val_main_v34_apply (F := Ideal) x1 (ix5 b n r g x)).trans (shifted (val_main_v28 (F := Ideal) x1) b n r g x
    (idx_main_v34 (ix5 b n r g x)) 5 (by omega) rfl rfl rfl rfl rfl)

theorem v35_at (x1 : FVec Ideal S2x2048x512 .f32) (b : Fin 2) (n : Fin 32) (r : Fin 64) (g : Fin 8) (x : Fin 64) :
    val_main_v35 (F := Ideal) x1 (ix5 b n r g x) = val_main_v28 (F := Ideal) x1 (ix5 b ⟨n.val + 6, by omega⟩ r g x) :=
  (val_main_v35_apply (F := Ideal) x1 (ix5 b n r g x)).trans (shifted (val_main_v28 (F := Ideal) x1) b n r g x
    (idx_main_v35 (ix5 b n r g x)) 6 (by omega) rfl rfl rfl rfl rfl)

theorem v36_at (x1 : FVec Ideal S2x2048x512 .f32) (b : Fin 2) (n : Fin 32) (r : Fin 64) (g : Fin 8) (x : Fin 64) :
    val_main_v36 (F := Ideal) x1 (ix5 b n r g x) = val_main_v28 (F := Ideal) x1 (ix5 b ⟨n.val + 7, by omega⟩ r g x) :=
  (val_main_v36_apply (F := Ideal) x1 (ix5 b n r g x)).trans (shifted (val_main_v28 (F := Ideal) x1) b n r g x
    (idx_main_v36 (ix5 b n r g x)) 7 (by omega) rfl rfl rfl rfl rfl)

theorem v37_at (x1 : FVec Ideal S2x2048x512 .f32) (b : Fin 2) (n : Fin 32) (r : Fin 64) (g : Fin 8) (x : Fin 64) :
    val_main_v37 (F := Ideal) x1 (ix5 b n r g x) = val_main_v28 (F := Ideal) x1 (ix5 b ⟨n.val + 8, by omega⟩ r g x) :=
  (val_main_v37_apply (F := Ideal) x1 (ix5 b n r g x)).trans (shifted (val_main_v28 (F := Ideal) x1) b n r g x
    (idx_main_v37 (ix5 b n r g x)) 8 (by omega) rfl rfl rfl rfl rfl)

/-- The band of the keys: place `u` of chunk `n` is row `u % 64` of chunk `n + u / 64`. -/
theorem v38_apply (x1 : FVec Ideal S2x2048x512 .f32) (b : Fin 2) (n : Fin 32) (u : Fin 576) (g : Fin 8) (x : Fin 64) :
    val_main_v38 (F := Ideal) x1 (ix5 b n u g x)
      = val_main_v28 (F := Ideal) x1 (ix5 b ⟨n.val + u.val / 64, by omega⟩ ⟨u.val % 64, by omega⟩ g x) := by
  unfold val_main_v38
  exact join_shifted (val_main_v29 (F := Ideal) x1) (val_main_v30 (F := Ideal) x1) (val_main_v31 (F := Ideal) x1) (val_main_v32 (F := Ideal) x1) (val_main_v33 (F := Ideal) x1) (val_main_v34 (F := Ideal) x1) (val_main_v35 (F := Ideal) x1) (val_main_v36 (F := Ideal) x1) (val_main_v37 (F := Ideal) x1)
    (val_main_v28 (F := Ideal) x1) _ b n u g x
    (v29_at x1 b n ⟨u.val % 64, by omega⟩ g x) (v30_at x1 b n ⟨u.val % 64, by omega⟩ g x) (v31_at x1 b n ⟨u.val % 64, by omega⟩ g x) (v32_at x1 b n ⟨u.val % 64, by omega⟩ g x) (v33_at x1 b n ⟨u.val % 64, by omega⟩ g x) (v34_at x1 b n ⟨u.val % 64, by omega⟩ g x) (v35_at x1 b n ⟨u.val % 64, by omega⟩ g x) (v36_at x1 b n ⟨u.val % 64, by omega⟩ g x) (v37_at x1 b n ⟨u.val % 64, by omega⟩ g x)

/-- The padded keys, in chunks. -/
theorem v23_apply (x1 : FVec Ideal S2x2048x512 .f32) (b : Fin 2) (s : Fin 2560) (g : Fin 8) (x : Fin 64) :
    val_main_v23 (F := Ideal) x1 (ix4 b s g x) = padAt x1 b.val s.val (64 * g.val + x.val) := by
  have e : g.val * 64 + x.val = 64 * g.val + x.val := by omega
  have h1 : 64 * g.val + x.val < 512 := by omega
  refine Eq.trans (b := if h : s.val < 512 then 0 else x1 (ix3 b ⟨s.val - 512, by omega⟩ ⟨g.val * 64 + x.val, by omega⟩)) ?_ ?_
  · pointwise [val_main_v23, val_main_v22, val_main_v20, val_main_cst]
  · by_cases hs : s.val < 512
    · exact (dif_pos hs).trans (padAt_lo x1 _ _ _ hs).symm
    · refine (dif_neg hs).trans (Eq.trans ?_ (padAt_hi x1 b.isLt (by omega) (by omega) h1).symm)
      exact congrArg x1 (congrArg (ix3 b _) (Fin.ext e))

theorem v28_apply (x1 : FVec Ideal S2x2048x512 .f32) (b : Fin 2) (n : Fin 40) (r : Fin 64) (g : Fin 8) (x : Fin 64) :
    val_main_v28 (F := Ideal) x1 (ix5 b n r g x)
      = val_main_v23 (F := Ideal) x1 (ix4 b ⟨n.val * 64 + r.val, by omega⟩ g x) := by
  unfold val_main_v28
  generalize val_main_v23 (F := Ideal) x1 = y
  pointwise

theorem v40_at (x2 : FVec Ideal S2x2048x512 .f32) (b : Fin 2) (n : Fin 32) (r : Fin 64) (g : Fin 8) (x : Fin 64) :
    val_main_v40 (F := Ideal) x2 (ix5 b n r g x) = val_main_v39 (F := Ideal) x2 (ix5 b ⟨n.val + 0, by omega⟩ r g x) :=
  (val_main_v40_apply (F := Ideal) x2 (ix5 b n r g x)).trans (shifted (val_main_v39 (F := Ideal) x2) b n r g x
    (idx_main_v40 (ix5 b n r g x)) 0 (by omega) rfl (Nat.zero_add _).symm rfl rfl rfl)

theorem v41_at (x2 : FVec Ideal S2x2048x512 .f32) (b : Fin 2) (n : Fin 32) (r : Fin 64) (g : Fin 8) (x : Fin 64) :
    val_main_v41 (F := Ideal) x2 (ix5 b n r g x) = val_main_v39 (F := Ideal) x2 (ix5 b ⟨n.val + 1, by omega⟩ r g x) :=
  (val_main_v41_apply (F := Ideal) x2 (ix5 b n r g x)).trans (shifted (val_main_v39 (F := Ideal) x2) b n r g x
    (idx_main_v41 (ix5 b n r g x)) 1 (by omega) rfl rfl rfl rfl rfl)

theorem v42_at (x2 : FVec Ideal S2x2048x512 .f32) (b : Fin 2) (n : Fin 32) (r : Fin 64) (g : Fin 8) (x : Fin 64) :
    val_main_v42 (F := Ideal) x2 (ix5 b n r g x) = val_main_v39 (F := Ideal) x2 (ix5 b ⟨n.val + 2, by omega⟩ r g x) :=
  (val_main_v42_apply (F := Ideal) x2 (ix5 b n r g x)).trans (shifted (val_main_v39 (F := Ideal) x2) b n r g x
    (idx_main_v42 (ix5 b n r g x)) 2 (by omega) rfl rfl rfl rfl rfl)

theorem v43_at (x2 : FVec Ideal S2x2048x512 .f32) (b : Fin 2) (n : Fin 32) (r : Fin 64) (g : Fin 8) (x : Fin 64) :
    val_main_v43 (F := Ideal) x2 (ix5 b n r g x) = val_main_v39 (F := Ideal) x2 (ix5 b ⟨n.val + 3, by omega⟩ r g x) :=
  (val_main_v43_apply (F := Ideal) x2 (ix5 b n r g x)).trans (shifted (val_main_v39 (F := Ideal) x2) b n r g x
    (idx_main_v43 (ix5 b n r g x)) 3 (by omega) rfl rfl rfl rfl rfl)

theorem v44_at (x2 : FVec Ideal S2x2048x512 .f32) (b : Fin 2) (n : Fin 32) (r : Fin 64) (g : Fin 8) (x : Fin 64) :
    val_main_v44 (F := Ideal) x2 (ix5 b n r g x) = val_main_v39 (F := Ideal) x2 (ix5 b ⟨n.val + 4, by omega⟩ r g x) :=
  (val_main_v44_apply (F := Ideal) x2 (ix5 b n r g x)).trans (shifted (val_main_v39 (F := Ideal) x2) b n r g x
    (idx_main_v44 (ix5 b n r g x)) 4 (by omega) rfl rfl rfl rfl rfl)

theorem v45_at (x2 : FVec Ideal S2x2048x512 .f32) (b : Fin 2) (n : Fin 32) (r : Fin 64) (g : Fin 8) (x : Fin 64) :
    val_main_v45 (F := Ideal) x2 (ix5 b n r g x) = val_main_v39 (F := Ideal) x2 (ix5 b ⟨n.val + 5, by omega⟩ r g x) :=
  (val_main_v45_apply (F := Ideal) x2 (ix5 b n r g x)).trans (shifted (val_main_v39 (F := Ideal) x2) b n r g x
    (idx_main_v45 (ix5 b n r g x)) 5 (by omega) rfl rfl rfl rfl rfl)

theorem v46_at (x2 : FVec Ideal S2x2048x512 .f32) (b : Fin 2) (n : Fin 32) (r : Fin 64) (g : Fin 8) (x : Fin 64) :
    val_main_v46 (F := Ideal) x2 (ix5 b n r g x) = val_main_v39 (F := Ideal) x2 (ix5 b ⟨n.val + 6, by omega⟩ r g x) :=
  (val_main_v46_apply (F := Ideal) x2 (ix5 b n r g x)).trans (shifted (val_main_v39 (F := Ideal) x2) b n r g x
    (idx_main_v46 (ix5 b n r g x)) 6 (by omega) rfl rfl rfl rfl rfl)

theorem v47_at (x2 : FVec Ideal S2x2048x512 .f32) (b : Fin 2) (n : Fin 32) (r : Fin 64) (g : Fin 8) (x : Fin 64) :
    val_main_v47 (F := Ideal) x2 (ix5 b n r g x) = val_main_v39 (F := Ideal) x2 (ix5 b ⟨n.val + 7, by omega⟩ r g x) :=
  (val_main_v47_apply (F := Ideal) x2 (ix5 b n r g x)).trans (shifted (val_main_v39 (F := Ideal) x2) b n r g x
    (idx_main_v47 (ix5 b n r g x)) 7 (by omega) rfl rfl rfl rfl rfl)

theorem v48_at (x2 : FVec Ideal S2x2048x512 .f32) (b : Fin 2) (n : Fin 32) (r : Fin 64) (g : Fin 8) (x : Fin 64) :
    val_main_v48 (F := Ideal) x2 (ix5 b n r g x) = val_main_v39 (F := Ideal) x2 (ix5 b ⟨n.val + 8, by omega⟩ r g x) :=
  (val_main_v48_apply (F := Ideal) x2 (ix5 b n r g x)).trans (shifted (val_main_v39 (F := Ideal) x2) b n r g x
    (idx_main_v48 (ix5 b n r g x)) 8 (by omega) rfl rfl rfl rfl rfl)

/-- The band of the values: place `u` of chunk `n` is row `u % 64` of chunk `n + u / 64`. -/
theorem v49_apply (x2 : FVec Ideal S2x2048x512 .f32) (b : Fin 2) (n : Fin 32) (u : Fin 576) (g : Fin 8) (x : Fin 64) :
    val_main_v49 (F := Ideal) x2 (ix5 b n u g x)
      = val_main_v39 (F := Ideal) x2 (ix5 b ⟨n.val + u.val / 64, by omega⟩ ⟨u.val % 64, by omega⟩ g x) := by
  unfold val_main_v49
  exact join_shifted (val_main_v40 (F := Ideal) x2) (val_main_v41 (F := Ideal) x2) (val_main_v42 (F := Ideal) x2) (val_main_v43 (F := Ideal) x2) (val_main_v44 (F := Ideal) x2) (val_main_v45 (F := Ideal) x2) (val_main_v46 (F := Ideal) x2) (val_main_v47 (F := Ideal) x2) (val_main_v48 (F := Ideal) x2)
    (val_main_v39 (F := Ideal) x2) _ b n u g x
    (v40_at x2 b n ⟨u.val % 64, by omega⟩ g x) (v41_at x2 b n ⟨u.val % 64, by omega⟩ g x) (v42_at x2 b n ⟨u.val % 64, by omega⟩ g x) (v43_at x2 b n ⟨u.val % 64, by omega⟩ g x) (v44_at x2 b n ⟨u.val % 64, by omega⟩ g x) (v45_at x2 b n ⟨u.val % 64, by omega⟩ g x) (v46_at x2 b n ⟨u.val % 64, by omega⟩ g x) (v47_at x2 b n ⟨u.val % 64, by omega⟩ g x) (v48_at x2 b n ⟨u.val % 64, by omega⟩ g x)

/-- The padded values, in chunks. -/
theorem v25_apply (x2 : FVec Ideal S2x2048x512 .f32) (b : Fin 2) (s : Fin 2560) (g : Fin 8) (x : Fin 64) :
    val_main_v25 (F := Ideal) x2 (ix4 b s g x) = padAt x2 b.val s.val (64 * g.val + x.val) := by
  have e : g.val * 64 + x.val = 64 * g.val + x.val := by omega
  have h1 : 64 * g.val + x.val < 512 := by omega
  refine Eq.trans (b := if h : s.val < 512 then 0 else x2 (ix3 b ⟨s.val - 512, by omega⟩ ⟨g.val * 64 + x.val, by omega⟩)) ?_ ?_
  · pointwise [val_main_v25, val_main_v22, val_main_v21, val_main_cst]
  · by_cases hs : s.val < 512
    · exact (dif_pos hs).trans (padAt_lo x2 _ _ _ hs).symm
    · refine (dif_neg hs).trans (Eq.trans ?_ (padAt_hi x2 b.isLt (by omega) (by omega) h1).symm)
      exact congrArg x2 (congrArg (ix3 b _) (Fin.ext e))

theorem v39_apply (x2 : FVec Ideal S2x2048x512 .f32) (b : Fin 2) (n : Fin 40) (r : Fin 64) (g : Fin 8) (x : Fin 64) :
    val_main_v39 (F := Ideal) x2 (ix5 b n r g x)
      = val_main_v25 (F := Ideal) x2 (ix4 b ⟨n.val * 64 + r.val, by omega⟩ g x) := by
  unfold val_main_v39
  generalize val_main_v25 (F := Ideal) x2 = y
  pointwise

/-- The band of the keys, by row of the padded keys. -/
theorem v38_eq (x1 : FVec Ideal S2x2048x512 .f32) (b : Fin 2) (n : Fin 32) (u : Fin 576) (g : Fin 8) (x : Fin 64) :
    val_main_v38 (F := Ideal) x1 (ix5 b n u g x)
      = padAt x1 b.val (64 * n.val + u.val) (64 * g.val + x.val) := by
  have e : (n.val + u.val / 64) * 64 + u.val % 64 = 64 * n.val + u.val := by omega
  rw [v38_apply, v28_apply, v23_apply]
  exact congrArg (fun s => padAt x1 b.val s (64 * g.val + x.val)) e

/-- The band of the values, by row of the padded values. -/
theorem v49_eq (x2 : FVec Ideal S2x2048x512 .f32) (b : Fin 2) (n : Fin 32) (u : Fin 576) (g : Fin 8) (x : Fin 64) :
    val_main_v49 (F := Ideal) x2 (ix5 b n u g x)
      = padAt x2 b.val (64 * n.val + u.val) (64 * g.val + x.val) := by
  have e : (n.val + u.val / 64) * 64 + u.val % 64 = 64 * n.val + u.val := by omega
  rw [v49_apply, v39_apply, v25_apply]
  exact congrArg (fun s => padAt x2 b.val s (64 * g.val + x.val)) e

end Cert.ReferenceIdeal.Hand

end
-- ==== Proof.Value.Finite.lean ====
module

public import proofs.«01_k».proof.Proof.Value.Spec

@[expose] public section

noncomputable section

/-! # Finite queries, keys and biases

Every query then has a largest score, which is a real number, and the mass of its exponentials is a positive real. -/

namespace Cert.Band.Data
open Finset Idealize Idealize.ShloMosaic Cert.Band

/-- Queries, keys and biases are real numbers. -/
structure Finite (D : Data) : Prop where
  q : ∀ b t l, ∃ r : ℝ, D.q b t l = r
  k : ∀ b s l, ∃ r : ℝ, D.k b s l = r
  bias : ∀ h t u, ∃ r : ℝ, D.bias h t u = r

theorem sum_real {ι : Type} (s : Finset ι) (f : ι → EReal) (hf : ∀ i, ∃ r : ℝ, f i = r) : ∃ r : ℝ, ∑ i ∈ s, f i = r := by
  choose g hg using hf
  classical
  induction s using Finset.induction_on with
  | empty => exact ⟨0, by simp⟩
  | insert a s ha ih =>
    obtain ⟨r, hr⟩ := ih
    exact ⟨g a + r, by rw [sum_insert ha, hr, hg a, EReal.coe_add]⟩

variable {D : Data} (hD : D.Finite) {b h t s : ℕ}
include hD

theorem score_real (hs : Sees t s) : ∃ r : ℝ, D.score b h t s = r := by
  unfold score
  rw [if_pos hs]
  obtain ⟨x, hx⟩ := sum_real (range 64) (fun x => D.q b t (64 * h + x) * D.k b s (64 * h + x)) fun x => by
    obtain ⟨r, hr⟩ := hD.q b t (64 * h + x)
    obtain ⟨r', hr'⟩ := hD.k b s (64 * h + x)
    exact ⟨r * r', by rw [hr, hr', EReal.coe_mul]⟩
  obtain ⟨y, hy⟩ := hD.bias h (t % 64) (s - 64 * (t / 64))
  exact ⟨x * (1 / 8) + y, by rw [hx, hy, eighth_eq, EReal.coe_add, EReal.coe_mul]⟩

theorem sees_self (t : ℕ) : Sees t (t + 512) := ⟨by omega, by omega, by omega⟩

theorem top_real (ht : t < 2048) : ∃ r : ℝ, D.top b h t = r := by
  have lo : ⊥ < D.top b h t := by
    obtain ⟨r, hr⟩ := score_real hD (b := b) (h := h) (sees_self hD t)
    refine lt_of_lt_of_le (b := D.score b h t (t + 512)) (by rw [hr]; exact EReal.bot_lt_coe r) ?_
    exact le_sup (f := D.score b h t) (mem_range.mpr (by omega))
  have hi : D.top b h t < ⊤ := by
    refine (Finset.sup_lt_iff bot_lt_top).mpr fun s _ => ?_
    by_cases hs : Sees t s
    · obtain ⟨r, hr⟩ := score_real hD (b := b) (h := h) hs
      rw [hr]; exact EReal.coe_lt_top r
    · rw [score_out D b h hs]; exact bot_lt_top
  exact ⟨(D.top b h t).toReal, (EReal.coe_toReal hi.ne lo.ne').symm⟩

theorem ex_real (ht : t < 2048) (s : ℕ) : ∃ r : ℝ, 0 ≤ r ∧ D.ex b h t s = r := by
  by_cases hs : Sees t s
  · obtain ⟨x, hx⟩ := score_real hD (b := b) (h := h) hs
    obtain ⟨y, hy⟩ := top_real hD (b := b) (h := h) ht
    refine ⟨Real.exp (x - y), (Real.exp_pos _).le, ?_⟩
    unfold ex
    rw [hx, hy, ← EReal.coe_sub]
    rfl
  · exact ⟨0, le_rfl, by rw [ex_out D b h hs]; rfl⟩

theorem mass_real (ht : t < 2048) : ∃ r : ℝ, 0 < r ∧ D.mass b h t = r := by
  have own : ∃ r : ℝ, 0 < r ∧ D.ex b h t (t + 512) = r := by
    obtain ⟨x, hx⟩ := score_real hD (b := b) (h := h) (sees_self hD t)
    obtain ⟨y, hy⟩ := top_real hD (b := b) (h := h) ht
    refine ⟨Real.exp (x - y), Real.exp_pos _, ?_⟩
    unfold ex
    rw [hx, hy, ← EReal.coe_sub]
    rfl
  obtain ⟨a, ha, hae⟩ := own
  obtain ⟨r, hr⟩ := sum_real (range 2560) (D.ex b h t) fun s => by
    obtain ⟨r, _, hr⟩ := ex_real hD (b := b) (h := h) ht s; exact ⟨r, hr⟩
  have le : (a : EReal) ≤ r := by
    rw [← hr, ← hae]
    exact single_le_sum (f := D.ex b h t) (fun s _ => by
      obtain ⟨r, h0, hr⟩ := ex_real hD (b := b) (h := h) ht s
      rw [hr]; exact_mod_cast h0) (mem_range.mpr (by omega))
  exact ⟨r, lt_of_lt_of_le ha (by exact_mod_cast le), hr⟩

/-- The reciprocal of the mass, in the three ways it is written. -/
theorem mass_inv (ht : t < 2048) : ∃ c : ℝ, 0 ≤ c ∧ Ideal.div 1 (D.mass b h t) = c ∧
    (∀ x, Ideal.div x (D.mass b h t) = x * (c : EReal)) ∧
    Ideal.div 1 (D.mass b h t * D.mass b h t) = (c : EReal) * c := by
  obtain ⟨r, h0, hr⟩ := mass_real hD (b := b) (h := h) ht
  have ne : ((r : ℝ) : EReal) ≠ 0 := by exact_mod_cast h0.ne'
  have inv : ∀ x : ℝ, ((x : EReal))⁻¹ = ((x⁻¹ : ℝ) : EReal) := fun x => (EReal.coe_inv x).symm
  have ne2 : ((r * r : ℝ) : EReal) ≠ 0 := by exact_mod_cast (mul_pos h0 h0).ne'
  refine ⟨r⁻¹, (inv_pos.mpr h0).le, ?_, fun x => ?_, ?_⟩
  · rw [hr, Ideal.div, if_neg ne, inv, one_mul]
  · rw [hr, Ideal.div, if_neg ne, inv]
  · rw [hr, ← EReal.coe_mul, Ideal.div, if_neg ne2, inv, one_mul, mul_inv, EReal.coe_mul]

theorem prob_div (ht : t < 2048) (s : ℕ) : Ideal.div (D.ex b h t s) (D.mass b h t) = D.prob b h t s := by
  obtain ⟨c, _, h1, h2, _⟩ := mass_inv hD (b := b) (h := h) ht
  unfold prob
  rw [h2, h1]

/-- The gradient of a score, as the derivative of a quotient writes it. -/
theorem dscore_quot (ht : t < 2048) (s : ℕ) :
    (Ideal.div (D.dprob b h t s) (D.mass b h t)
        + -(∑ s ∈ range 2560, D.dprob b h t s * Ideal.div 1 (D.mass b h t * D.mass b h t) * D.ex b h t s)) * D.ex b h t s
      = D.dscore b h t s := by
  obtain ⟨c, h0, h1, h2, h3⟩ := mass_inv hD (b := b) (h := h) ht
  have c0 : (0 : EReal) ≤ (c : EReal) := by exact_mod_cast h0
  have c1 : (c : EReal) ≠ ⊤ := EReal.coe_ne_top c
  have em : ∑ s ∈ range 2560, D.dprob b h t s * Ideal.div 1 (D.mass b h t * D.mass b h t) * D.ex b h t s
      = D.mean b h t * (c : EReal) := by
    unfold mean prob
    rw [sum_mul_of_nonneg _ _ c0 c1]
    refine sum_congr rfl fun s _ => ?_
    rw [h3, h1]
    ac_rfl
  rw [em, h2, ← neg_mul, ← EReal.right_distrib_of_nonneg_of_ne_top c0 c1]
  unfold dscore prob
  rw [h1, sub_eq_add_neg, mul_comm, mul_assoc, mul_comm _ (c : EReal)]

end Cert.Band.Data

end
-- ==== Proof.Value.RefScore.lean ====
module

public import proofs.«01_k».proof.Proof.Value.RefBand
public import proofs.«01_k».proof.Proof.Value.Finite
public import Idealize.ShloMosaic.Lib.WordCmp

@[expose] public section

set_option maxRecDepth 16384
set_option maxHeartbeats 400000

noncomputable section

/-! # The reference's probabilities and their gradients -/

namespace Cert.ReferenceIdeal.Hand

open Idealize Idealize.ShloMosaic Cert.Band Finset
open Cert.ReferenceIdeal Cert.ReferenceIdeal.Gen Cert.ReferenceIdeal.Read

variable (x0 x1 x2 : FVec Ideal S2x2048x512 .f32) (x3 : FVec Ideal S8x257 .f32) (x4 : FVec Ideal S2x2048x1024 .f32)

/-- The reference's arrays, by position. -/
def RD : Data := dataOf x0 x1 x2 (val_main_v18 (F := Ideal) x3) x4

theorem negInf_eq : Ideal.ofBits FTy.f32 4286578688#32 = (⊥ : EReal) := by
  simp [Ideal.ofBits, Ideal.ieee]

theorem zero_eq : Ideal.ofBits FTy.f32 0#32 = (0 : EReal) := by
  simp [Ideal.ofBits, Ideal.ieee]

theorem one_eq : Ideal.ofBits FTy.f32 1065353216#32 = (1 : EReal) := by
  simp [Ideal.ofBits, Ideal.ieee]
  rw [← EReal.coe_mul, ← EReal.coe_one]
  norm_num

variable (b : Fin 2) (n : Fin 32) (h : Fin 8) (r : Fin 64) (u : Fin 576) (x : Fin 64)

/-- The mask's word: key `64 n - 512 + u` is not before the first. -/
theorem mask_word : IntOp.cmpi CmpIPredicate.sge
    (IntOp.addi (IntOp.subi (IntOp.muli (BitVec.ofNat 32 n.val) 64#32) 512#32) (BitVec.ofNat 32 u.val)) 0#32
      = if 512 ≤ 64 * n.val + u.val then 1#1 else 0#1 := by
  have hn := n.isLt
  have hu := u.isLt
  rw [Idealize.ShloMosaic.WordCmp.cmpi_sge_zero]
  have e : (IntOp.addi (IntOp.subi (IntOp.muli (BitVec.ofNat 32 n.val) 64#32) 512#32) (BitVec.ofNat 32 u.val)).toNat
      = (64 * n.val + u.val + (2 ^ 32 - 512)) % 2 ^ 32 := by
    simp only [IntOp.addi, IntOp.subi, IntOp.muli, BitVec.toNat_add, BitVec.toNat_sub, BitVec.toNat_mul, BitVec.toNat_ofNat]
    omega
  rw [e]
  by_cases hs : 512 ≤ 64 * n.val + u.val
  · rw [if_pos hs, decide_eq_true (by omega)]; rfl
  · rw [if_neg hs, decide_eq_false (by omega)]; rfl

theorem v70_1_eq : val_main_v70_1 (F := Ideal) (ix5 b n h r u) = if 512 ≤ 64 * n.val + u.val then 1#1 else 0#1 := by
  refine Eq.trans ?_ (mask_word n u)
  pointwise [val_main_v70_1, val_main_v69, val_main_v68, val_main_v67, val_main_v66, val_main_v65, val_main_v64, val_main_v63, val_main_v62, val_main_v61, val_main_v60, val_main_v59, val_main_v58, val_main_v57, val_main_v56, val_main_c_8, val_main_c_9, val_main_c_10]

theorem sees_iff : Data.Sees (64 * n.val + r.val) (64 * n.val + u.val) ↔ 512 ≤ 64 * n.val + u.val := by
  have hn := r.isLt
  have hu := u.isLt
  have e : (64 * n.val + r.val) / 64 = n.val := by omega
  unfold Data.Sees
  rw [e]
  constructor
  · exact fun h => h.2.2
  · exact fun h => ⟨by omega, by omega, h⟩

theorem select_mask (a c : EReal) : Scalar.select (val_main_v70_1 (F := Ideal) (ix5 b n h r u)) a c
    = if Data.Sees (64 * n.val + r.val) (64 * n.val + u.val) then a else c := by
  rw [v70_1_eq]
  by_cases hs : 512 ≤ 64 * n.val + u.val
  · rw [if_pos hs, if_pos ((sees_iff n r u).mpr hs)]; rfl
  · rw [if_neg hs, if_neg (fun hh => hs ((sees_iff n r u).mp hh))]; rfl

theorem v27_eq : val_main_v27 (F := Ideal) x0 (ix5 b n r h x) = at3 x0 b.val (64 * n.val + r.val) (64 * h.val + x.val) := by
  refine Eq.trans (b := x0 (ix3 b ⟨n.val * 64 + r.val, by omega⟩ ⟨h.val * 64 + x.val, by omega⟩)) ?_ ?_
  · pointwise [val_main_v27, val_main_v19]
  · rw [at3_of x0 b.isLt (by omega) (by omega)]
    have e : n.val * 64 + r.val = 64 * n.val + r.val := by omega
    have e' : h.val * 64 + x.val = 64 * h.val + x.val := by omega
    exact congrArg x0 (congr (congrArg (ix3 b) (Fin.ext e)) (Fin.ext e'))

theorem v50_eq : val_main_v50 (F := Ideal) x0 x1 (ix5 b n h r u)
    = ∑ x ∈ range 64, at3 x0 b.val (64 * n.val + r.val) (64 * h.val + x) * padAt x1 b.val (64 * n.val + u.val) (64 * h.val + x) := by
  rw [← Fin.sum_univ_eq_sum_range (fun x => at3 x0 b.val (64 * n.val + r.val) (64 * h.val + x)
    * padAt x1 b.val (64 * n.val + u.val) (64 * h.val + x)) 64]
  refine Eq.trans (b := ∑ x, val_main_v27 (F := Ideal) x0 (ix5 b n r h x) * val_main_v38 (F := Ideal) x1 (ix5 b n u h x)) ?_ ?_
  · unfold val_main_v50
    generalize val_main_v27 (F := Ideal) x0 = y
    generalize val_main_v38 (F := Ideal) x1 = z
    pointwise
  · exact sum_congr rfl fun x _ => by rw [v27_eq, v38_eq]

theorem v55_eq : val_main_v55 (F := Ideal) x0 x1 x3 (ix5 b n h r u)
    = val_main_v50 (F := Ideal) x0 x1 (ix5 b n h r u) * eighth + val_main_v18 (F := Ideal) x3 (ix3 h r u) := by
  unfold val_main_v55 val_main_v52
  generalize val_main_v50 (F := Ideal) x0 x1 = y
  generalize e : val_main_v18 (F := Ideal) x3 = z
  unfold eighth
  pointwise [val_main_v51, val_main_cst_7, val_main_v54, val_main_v53, e]

theorem call1_eq : val_main_call1_v2 (F := Ideal) (ix5 b n h r u) = (⊥ : EReal) := by
  refine Eq.trans ?_ negInf_eq
  pointwise [val_main_call1_v2, val_main_call1_v0, val_main_cst_11, id]

/-- The masked scores. -/
theorem v70_eq : val_main_v70_0 (F := Ideal) x0 x1 x3 (ix5 b n h r u)
    = (RD x0 x1 x2 x3 x4).score b.val h.val (64 * n.val + r.val) (64 * n.val + u.val) := by
  have hr : (64 * n.val + r.val) % 64 = r.val := by omega
  have hu : 64 * n.val + u.val - 64 * ((64 * n.val + r.val) / 64) = u.val := by omega
  refine Eq.trans (b := Scalar.select (val_main_v70_1 (F := Ideal) (ix5 b n h r u)) (val_main_v55 (F := Ideal) x0 x1 x3 (ix5 b n h r u))
    (val_main_call1_v2 (F := Ideal) (ix5 b n h r u))) rfl ?_
  rw [select_mask, call1_eq, v55_eq, v50_eq]
  unfold Data.score
  rw [hr, hu]
  have eb : (RD x0 x1 x2 x3 x4).bias h.val r.val u.val = val_main_v18 (F := Ideal) x3 (ix3 h r u) :=
    at3_of (val_main_v18 (F := Ideal) x3) h.isLt r.isLt u.isLt
  rw [eb]
  rfl

theorem window_lo : 64 * n.val ≤ 64 * ((64 * n.val + r.val) / 64) := by omega
theorem window_hi : 64 * ((64 * n.val + r.val) / 64) + 576 ≤ 64 * n.val + 576 := by omega
theorem window_in : 64 * n.val + 576 ≤ 2560 := by omega

/-- The largest score of a query. -/
theorem v71_eq : val_main_v71 (F := Ideal) x0 x1 x3 (ix4 b n h r) = (RD x0 x1 x2 x3 x4).top b.val h.val (64 * n.val + r.val) := by
  rw [← Data.top_window (D := RD x0 x1 x2 x3 x4) (window_lo n r) (window_hi n r) (window_in n)]
  refine Eq.trans (b := univ.fold max (Ideal.ofBits FTy.f32 4286578688#32) (fun u => val_main_v70_0 (F := Ideal) x0 x1 x3 (ix5 b n h r u))) ?_ ?_
  · unfold val_main_v71
    generalize val_main_v70_0 (F := Ideal) x0 x1 x3 = y
    pointwise [val_main_cst_12]
  · rw [negInf_eq]
    exact congrArg (univ.fold max ⊥) (funext fun u => v70_eq x0 x1 x2 x3 x4 b n h r u)

theorem v78_eq : val_main_v78 (F := Ideal) x0 x1 x3 (ix4 b n h r) = (RD x0 x1 x2 x3 x4).top b.val h.val (64 * n.val + r.val) := by
  rw [val_main_v78_apply, val_main_v77_apply, val_main_cst_14_apply, v71_eq x0 x1 x2 x3 x4, Ideal.maximumf_def, Ideal.ofBits_def,
    negInf_eq, max_eq_right bot_le]

theorem v89_eq : val_main_v89 (F := Ideal) x0 x1 x3 (ix5 b n h r u) = (RD x0 x1 x2 x3 x4).top b.val h.val (64 * n.val + r.val) := by
  rw [← v78_eq x0 x1 x2 x3 x4 b n h r]
  unfold val_main_v89 val_main_v88
  generalize val_main_v78 (F := Ideal) x0 x1 x3 = z
  pointwise

theorem exp_eq (y z : FVec Ideal S2x32x8x64x576 .f32) (i : S2x32x8x64x576.Idx) : Host.exp (subf y z) i = Ideal.exp (y i - z i) := rfl

theorem v91_eq : val_main_v91 (F := Ideal) x0 x1 x3 (ix5 b n h r u)
    = (RD x0 x1 x2 x3 x4).ex b.val h.val (64 * n.val + r.val) (64 * n.val + u.val) := by
  unfold val_main_v91 val_main_v90
  rw [exp_eq, v70_eq x0 x1 x2 x3 x4, v89_eq x0 x1 x2 x3 x4]
  unfold Data.ex
  with_reducible rfl

theorem v92_eq : val_main_v92 (F := Ideal) x0 x1 x3 (ix4 b n h r) = (RD x0 x1 x2 x3 x4).mass b.val h.val (64 * n.val + r.val) := by
  rw [← Data.mass_window (D := RD x0 x1 x2 x3 x4) (window_lo n r) (window_hi n r) (window_in n)]
  refine Eq.trans (b := Ideal.ofBits FTy.f32 0#32 + ∑ u, val_main_v91 (F := Ideal) x0 x1 x3 (ix5 b n h r u)) ?_ ?_
  · unfold val_main_v92
    generalize val_main_v91 (F := Ideal) x0 x1 x3 = y
    pointwise [val_main_cst_20]
  · rw [zero_eq, zero_add]
    exact sum_congr rfl fun u _ => v91_eq x0 x1 x2 x3 x4 b n h r u

theorem v104_eq : val_main_v104 (F := Ideal) x4 (ix5 b n h x r) = at3 x4 b.val (64 * n.val + r.val) (64 * h.val + x.val) := by
  refine Eq.trans (b := x4 (ix3 b ⟨n.val * 64 + r.val, by omega⟩ ⟨h.val * 64 + x.val, by omega⟩)) ?_ ?_
  · pointwise [val_main_v104, val_main_v103, val_main_v102]
  · rw [at3_of x4 b.isLt (by omega) (by omega)]
    have e : n.val * 64 + r.val = 64 * n.val + r.val := by omega
    have e' : h.val * 64 + x.val = 64 * h.val + x.val := by omega
    exact congrArg x4 (congr (congrArg (ix3 b) (Fin.ext e)) (Fin.ext e'))

/-- The gradient of the probabilities. -/
theorem v105_eq : val_main_v105 (F := Ideal) x2 x4 (ix5 b n h r u)
    = (RD x0 x1 x2 x3 x4).dprob b.val h.val (64 * n.val + r.val) (64 * n.val + u.val) := by
  refine Eq.trans (b := ∑ x, val_main_v104 (F := Ideal) x4 (ix5 b n h x r) * val_main_v49 (F := Ideal) x2 (ix5 b n u h x)) ?_ ?_
  · unfold val_main_v105
    generalize val_main_v104 (F := Ideal) x4 = y
    generalize val_main_v49 (F := Ideal) x2 = z
    pointwise
  · rw [Data.dprob, ← Fin.sum_univ_eq_sum_range (fun x => (RD x0 x1 x2 x3 x4).d b.val (64 * n.val + r.val) (64 * h.val + x)
      * (RD x0 x1 x2 x3 x4).v b.val (64 * n.val + u.val) (64 * h.val + x)) 64]
    exact sum_congr rfl fun x _ => by rw [v104_eq, v49_eq]; rfl

end Cert.ReferenceIdeal.Hand

end
-- ==== Proof.Value.RefGrad.lean ====
module

public import proofs.«01_k».proof.Proof.Value.RefScore

@[expose] public section

set_option maxRecDepth 16384
set_option maxHeartbeats 400000

noncomputable section

/-! # The reference's gradients, chunk by chunk -/

namespace Cert.ReferenceIdeal.Hand

open Idealize Idealize.ShloMosaic Cert.Band Finset
open Cert.ReferenceIdeal Cert.ReferenceIdeal.Gen Cert.ReferenceIdeal.Read

variable (x0 x1 x2 : FVec Ideal S2x2048x512 .f32) (x3 : FVec Ideal S8x257 .f32) (x4 : FVec Ideal S2x2048x1024 .f32)
variable (b : Fin 2) (n : Fin 32) (h : Fin 8) (r : Fin 64) (u : Fin 576) (x : Fin 64)

theorem v93_eq : val_main_v93 (F := Ideal) x0 x1 x3 (ix5 b n h r 0) = (RD x0 x1 x2 x3 x4).mass b.val h.val (64 * n.val + r.val) := by
  rw [← v92_eq x0 x1 x2 x3 x4 b n h r]
  unfold val_main_v93
  generalize val_main_v92 (F := Ideal) x0 x1 x3 = z
  pointwise

theorem v94_eq : val_main_v94 (F := Ideal) x0 x1 x3 (ix5 b n h r u) = (RD x0 x1 x2 x3 x4).mass b.val h.val (64 * n.val + r.val) := by
  rw [← v93_eq x0 x1 x2 x3 x4 b n h r]
  unfold val_main_v94
  generalize val_main_v93 (F := Ideal) x0 x1 x3 = z
  pointwise

theorem v114_eq : val_main_v114 (F := Ideal) x0 x1 x3 (ix5 b n h r u) = (RD x0 x1 x2 x3 x4).mass b.val h.val (64 * n.val + r.val) := by
  rw [← v93_eq x0 x1 x2 x3 x4 b n h r]
  unfold val_main_v114
  generalize val_main_v93 (F := Ideal) x0 x1 x3 = z
  pointwise

theorem v98_eq : val_main_v98 (F := Ideal) x0 x1 x3 (ix5 b n h r 0)
    = Ideal.div 1 ((RD x0 x1 x2 x3 x4).mass b.val h.val (64 * n.val + r.val) * (RD x0 x1 x2 x3 x4).mass b.val h.val (64 * n.val + r.val)) := by
  rw [val_main_v98_apply, val_main_v97_apply, val_main_cst_21_apply, val_main_v96_apply, v93_eq x0 x1 x2 x3 x4, Ideal.hostDivf_def,
    Ideal.ofBits_def, Ideal.mulf_def, one_eq]

theorem v108_eq : val_main_v108 (F := Ideal) x0 x1 x3 (ix5 b n h r u)
    = Ideal.div 1 ((RD x0 x1 x2 x3 x4).mass b.val h.val (64 * n.val + r.val) * (RD x0 x1 x2 x3 x4).mass b.val h.val (64 * n.val + r.val)) := by
  rw [← v98_eq x0 x1 x2 x3 x4 b n h r]
  unfold val_main_v108
  generalize val_main_v98 (F := Ideal) x0 x1 x3 = z
  pointwise

theorem v110_eq : val_main_v110 (F := Ideal) x0 x1 x2 x3 x4 (ix5 b n h r u)
    = (RD x0 x1 x2 x3 x4).dprob b.val h.val (64 * n.val + r.val) (64 * n.val + u.val)
      * Ideal.div 1 ((RD x0 x1 x2 x3 x4).mass b.val h.val (64 * n.val + r.val) * (RD x0 x1 x2 x3 x4).mass b.val h.val (64 * n.val + r.val))
      * (RD x0 x1 x2 x3 x4).ex b.val h.val (64 * n.val + r.val) (64 * n.val + u.val) := by
  rw [val_main_v110_apply, val_main_v109_apply, v105_eq x0 x1 x2 x3 x4, v108_eq x0 x1 x2 x3 x4, v91_eq x0 x1 x2 x3 x4,
    Ideal.mulf_def, Ideal.mulf_def]

/-- The sum the derivative of the quotient takes off. -/
theorem v111_eq : val_main_v111 (F := Ideal) x0 x1 x2 x3 x4 (ix4 b n h r)
    = ∑ s ∈ range 2560, (RD x0 x1 x2 x3 x4).dprob b.val h.val (64 * n.val + r.val) s
      * Ideal.div 1 ((RD x0 x1 x2 x3 x4).mass b.val h.val (64 * n.val + r.val) * (RD x0 x1 x2 x3 x4).mass b.val h.val (64 * n.val + r.val))
      * (RD x0 x1 x2 x3 x4).ex b.val h.val (64 * n.val + r.val) s := by
  rw [← sum_window _ (64 * n.val) 576 2560 (window_in n) fun s hs => by
    rw [Data.ex_out _ _ _ (Data.not_sees_of_window (window_lo n r) (window_hi n r) hs), mul_zero]]
  refine Eq.trans (b := Ideal.ofBits FTy.f32 0#32 + ∑ u, val_main_v110 (F := Ideal) x0 x1 x2 x3 x4 (ix5 b n h r u)) ?_ ?_
  · unfold val_main_v111
    generalize val_main_v110 (F := Ideal) x0 x1 x2 x3 x4 = y
    pointwise [val_main_cst_22]
  · rw [zero_eq, zero_add]
    exact sum_congr rfl fun u _ => v110_eq x0 x1 x2 x3 x4 b n h r u

theorem v113_eq : val_main_v113 (F := Ideal) x0 x1 x2 x3 x4 (ix5 b n h r 0) = -(val_main_v111 (F := Ideal) x0 x1 x2 x3 x4 (ix4 b n h r)) := by
  unfold val_main_v113 val_main_v112
  generalize val_main_v111 (F := Ideal) x0 x1 x2 x3 x4 = y
  pointwise

theorem v117_eq : val_main_v117 (F := Ideal) x0 x1 x2 x3 x4 (ix5 b n h r u) = -(val_main_v111 (F := Ideal) x0 x1 x2 x3 x4 (ix4 b n h r)) := by
  rw [← v113_eq]
  refine Eq.trans (b := Ideal.ofBits FTy.f32 0#32 + ∑ k : Fin 1, val_main_v113 (F := Ideal) x0 x1 x2 x3 x4 (ix5 b n h r k)) ?_ ?_
  · unfold val_main_v117 val_main_v116
    generalize val_main_v113 (F := Ideal) x0 x1 x2 x3 x4 = y
    pointwise [val_main_cst_23]
  · rw [zero_eq, zero_add, Fin.sum_univ_one]

theorem call2_eq : val_main_call2_v0 (F := Ideal) (ix5 b n h r u) = (0 : EReal) := by
  rw [val_main_call2_v0_apply, val_main_call2_cst_apply, Ideal.ofBits_def, zero_eq]

variable (hF : (RD x0 x1 x2 x3 x4).Finite)
include hF

/-- The probabilities. -/
theorem v95_eq : val_main_v95 (F := Ideal) x0 x1 x3 (ix5 b n h r u)
    = (RD x0 x1 x2 x3 x4).prob b.val h.val (64 * n.val + r.val) (64 * n.val + u.val) := by
  rw [val_main_v95_apply, v91_eq x0 x1 x2 x3 x4, v94_eq x0 x1 x2 x3 x4, Ideal.hostDivf_def]
  exact Data.prob_div hF (by omega) _

/-- The gradient of the scores. -/
theorem v120_eq : val_main_v120 (F := Ideal) x0 x1 x2 x3 x4 (ix5 b n h r u)
    = (RD x0 x1 x2 x3 x4).dscore b.val h.val (64 * n.val + r.val) (64 * n.val + u.val) := by
  rw [val_main_v120_apply, select_mask, call2_eq, val_main_v119_apply, val_main_v118_apply, val_main_v115_apply,
    v105_eq x0 x1 x2 x3 x4, v114_eq x0 x1 x2 x3 x4, v117_eq, v111_eq, v91_eq x0 x1 x2 x3 x4,
    Ideal.mulf_def, Ideal.addf_def, Ideal.hostDivf_def, Data.dscore_quot hF (by omega)]
  by_cases hs : Data.Sees (64 * n.val + r.val) (64 * n.val + u.val)
  · rw [if_pos hs]
  · rw [if_neg hs, Data.dscore_out _ _ _ hs]

theorem v122_eq : val_main_v122 (F := Ideal) x0 x1 x2 x3 x4 (ix5 b n h r u)
    = (RD x0 x1 x2 x3 x4).dscore b.val h.val (64 * n.val + r.val) (64 * n.val + u.val) * eighth := by
  rw [val_main_v122_apply, v120_eq x0 x1 x2 x3 x4 b n h r u hF, val_main_v121_apply, val_main_cst_24_apply, Ideal.mulf_def, Ideal.ofBits_def]
  rfl

/-- A chunk's share of the keys' gradient. -/
theorem v124_eq : val_main_v124 (F := Ideal) x0 x1 x2 x3 x4 (ix5 b n u h x)
    = ∑ r : Fin 64, (RD x0 x1 x2 x3 x4).dscore b.val h.val (64 * n.val + r.val) (64 * n.val + u.val)
      * ((RD x0 x1 x2 x3 x4).q b.val (64 * n.val + r.val) (64 * h.val + x.val) * eighth) := by
  refine Eq.trans (b := ∑ r : Fin 64, val_main_v122 (F := Ideal) x0 x1 x2 x3 x4 (ix5 b n h r u) * val_main_v27 (F := Ideal) x0 (ix5 b n r h x)) ?_ ?_
  · unfold val_main_v124 val_main_v123
    generalize val_main_v122 (F := Ideal) x0 x1 x2 x3 x4 = y
    generalize val_main_v27 (F := Ideal) x0 = z
    pointwise
  · refine sum_congr rfl fun r _ => ?_
    rw [v122_eq x0 x1 x2 x3 x4 b n h r u hF, v27_eq, mul_assoc, mul_comm eighth]
    rfl

/-- A chunk's share of the values' gradient. -/
theorem v107_eq : val_main_v107 (F := Ideal) x0 x1 x3 x4 (ix5 b n u h x)
    = ∑ r : Fin 64, (RD x0 x1 x2 x3 x4).prob b.val h.val (64 * n.val + r.val) (64 * n.val + u.val)
      * (RD x0 x1 x2 x3 x4).d b.val (64 * n.val + r.val) (64 * h.val + x.val) := by
  refine Eq.trans (b := ∑ r : Fin 64, val_main_v104 (F := Ideal) x4 (ix5 b n h x r) * val_main_v95 (F := Ideal) x0 x1 x3 (ix5 b n h r u)) ?_ ?_
  · unfold val_main_v107 val_main_v106
    generalize val_main_v95 (F := Ideal) x0 x1 x3 = y
    generalize val_main_v104 (F := Ideal) x4 = z
    pointwise
  · refine sum_congr rfl fun r _ => ?_
    rw [v95_eq x0 x1 x2 x3 x4 b n h r u hF, v104_eq, mul_comm]
    rfl

/-- The queries' gradient. -/
theorem v126_eq : val_main_v126 (F := Ideal) x0 x1 x2 x3 x4 (ix5 b n r h x)
    = (RD x0 x1 x2 x3 x4).dq b.val (64 * n.val + r.val) (64 * h.val + x.val) := by
  have hl : (64 * h.val + x.val) / 64 = h.val := by omega
  rw [← Data.dq_window (D := RD x0 x1 x2 x3 x4) (window_lo n r) (window_hi n r) (window_in n), hl,
    sum_mul_of_nonneg _ _ eighth_nonneg eighth_ne_top]
  refine Eq.trans (b := ∑ u : Fin 576, val_main_v122 (F := Ideal) x0 x1 x2 x3 x4 (ix5 b n h r u) * val_main_v38 (F := Ideal) x1 (ix5 b n u h x)) ?_ ?_
  · unfold val_main_v126 val_main_v125
    generalize val_main_v122 (F := Ideal) x0 x1 x2 x3 x4 = y
    generalize val_main_v38 (F := Ideal) x1 = z
    pointwise
  · refine sum_congr rfl fun u _ => ?_
    rw [v122_eq x0 x1 x2 x3 x4 b n h r u hF, v38_eq, mul_assoc, mul_comm eighth, ← mul_assoc]
    rfl

end Cert.ReferenceIdeal.Hand

end
-- ==== Proof.Value.RefSum.lean ====
module

public import proofs.«01_k».proof.Proof.Value.RefGrad

@[expose] public section

set_option maxRecDepth 16384
set_option maxHeartbeats 400000

noncomputable section

/-! # The reference's overlapping bands, added up -/

namespace Cert.ReferenceIdeal.Hand

open Idealize Idealize.ShloMosaic Cert.Band Finset
open Cert.ReferenceIdeal Cert.ReferenceIdeal.Gen Cert.ReferenceIdeal.Read

/-- Of the sum over the chunks of queries, the part whose band holds the row `8 - j` chunks after its start. -/
def part (F : ℕ → EReal) (n j : ℕ) : EReal := ∑ c ∈ range 32, if c + j = n then F c else 0

theorem part_in (F : ℕ → EReal) {n j : ℕ} (h : j ≤ n ∧ n - j < 32) : part F n j = F (n - j) := by
  unfold part
  rw [sum_eq_single (n - j) (fun c _ hc => if_neg fun e => hc (by omega)) (fun hc => absurd (mem_range.mpr h.2) hc)]
  exact if_pos (by omega)

theorem part_out (F : ℕ → EReal) {n j : ℕ} (h : ¬(j ≤ n ∧ n - j < 32)) : part F n j = 0 := by
  refine sum_eq_zero fun c hc => if_neg fun e => h ?_
  have := mem_range.mp hc
  exact ⟨by omega, by omega⟩

/-- The nine parts are the whole sum. -/
theorem sum_part (F : ℕ → EReal) (n : ℕ) (h0 : ∀ c, ¬(c ≤ n ∧ n ≤ c + 8) → F c = 0) :
    part F n 8 + part F n 7 + part F n 6 + part F n 5 + part F n 4 + part F n 3 + part F n 2 + part F n 1 + part F n 0
      = ∑ c ∈ range 32, F c := by
  have e : ∑ j ∈ range 9, part F n j = ∑ c ∈ range 32, F c := by
    unfold part
    rw [sum_comm]
    refine sum_congr rfl fun c _ => ?_
    by_cases hc : c ≤ n ∧ n ≤ c + 8
    · rw [sum_eq_single (n - c) (fun j _ hj => if_neg fun e => hj (by omega))
        (fun hj => absurd (mem_range.mpr (by omega)) hj)]
      exact if_pos (by omega)
    · rw [h0 c hc]
      exact sum_eq_zero fun _ _ => by split <;> rfl
  rw [← e]
  simp only [sum_range_succ, sum_range_zero, zero_add]
  ac_rfl

/-- A sum over the chunks and the rows of each is the sum over the rows. -/
theorem sum_chunks (f : ℕ → EReal) : ∑ c ∈ range 32, ∑ r : Fin 64, f (64 * c + r.val) = ∑ t ∈ range 2048, f t := by
  have step : ∀ m : ℕ, ∑ c ∈ range m, ∑ r : Fin 64, f (64 * c + r.val) = ∑ t ∈ range (64 * m), f t := by
    intro m
    induction m with
    | zero => simp
    | succ m ih =>
      rw [sum_range_succ, ih, Nat.mul_succ, sum_range_add, Fin.sum_univ_eq_sum_range (fun r => f (64 * m + r)) 64]
  exact step 32

section Overlap

variable (y : FVec Ideal S2x32x576x8x64 .f32) (b : Fin 2) (n : Fin 40) (r : Fin 64) (h : Fin 8) (x : Fin 64) (f : ℕ → ℕ → EReal)
  (hy : ∀ (n : Fin 32) (u : Fin 576), y (ix5 b n u h x) = ∑ r : Fin 64, f (64 * n.val + r.val) (64 * n.val + u.val))

/-- What a chunk of queries gives the row. -/
def chunkSum (f : ℕ → ℕ → EReal) (n r c : ℕ) : EReal := ∑ r' : Fin 64, f (64 * c + r'.val) (64 * n + r)

include hy in
theorem piece_eq (j k : ℕ) (hj : j ≤ 8) (hk : k = 64 * j) :
    (if hh : j ≤ n.val ∧ n.val - j < 32 then y (ix5 b ⟨n.val - j, hh.2⟩ ⟨k + r.val, by omega⟩ h x) else 0)
      = part (chunkSum f n.val r.val) n.val j := by
  by_cases hh : j ≤ n.val ∧ n.val - j < 32
  · rw [dif_pos hh, part_in _ hh, hy]
    have e : 64 * (n.val - j) + (k + r.val) = 64 * n.val + r.val := by omega
    unfold chunkSum
    refine sum_congr rfl fun r' _ => ?_
    exact congrArg (f (64 * (n.val - j) + r'.val)) e
  · rw [dif_neg hh, part_out _ hh]

include hy in
theorem piece_zero :
    (if hh : n.val < 32 then y (ix5 b ⟨n.val, hh⟩ ⟨r.val, by omega⟩ h x) else 0) = part (chunkSum f n.val r.val) n.val 0 := by
  by_cases hh : n.val < 32
  · rw [dif_pos hh, part_in _ ⟨Nat.zero_le _, hh⟩, hy]
    rfl
  · rw [dif_neg hh, part_out _ (fun h => hh h.2)]

/-- All the chunks' shares of a row. -/
theorem chunks_eq (h0 : ∀ t s, ¬Data.Sees t s → f t s = 0) (n r : ℕ) (hr : r < 64) :
    part (chunkSum f n r) n 8 + part (chunkSum f n r) n 7 + part (chunkSum f n r) n 6 + part (chunkSum f n r) n 5
      + part (chunkSum f n r) n 4 + part (chunkSum f n r) n 3 + part (chunkSum f n r) n 2 + part (chunkSum f n r) n 1
      + part (chunkSum f n r) n 0 = ∑ t ∈ range 2048, f t (64 * n + r) := by
  rw [sum_part _ n fun c hc => ?_]
  · exact sum_chunks fun t => f t (64 * n + r)
  · refine sum_eq_zero fun r' _ => h0 _ _ fun hs => hc ?_
    have hr' := r'.isLt
    have e : (64 * c + r'.val) / 64 = c := by omega
    obtain ⟨h1, h2, _⟩ := hs
    rw [e] at h1 h2
    exact ⟨by omega, by omega⟩

end Overlap

variable (x0 x1 x2 : FVec Ideal S2x2048x512 .f32) (x3 : FVec Ideal S8x257 .f32) (x4 : FVec Ideal S2x2048x1024 .f32)
variable (hF : (RD x0 x1 x2 x3 x4).Finite)
variable (b : Fin 2) (n : Fin 40) (h : Fin 8) (r : Fin 64) (x : Fin 64)

include hF

theorem v179_eq : val_main_v179 (F := Ideal) x0 x1 x2 x3 x4 (ix5 b n r h x)
    = (RD x0 x1 x2 x3 x4).dk b.val (64 * n.val + r.val) (64 * h.val + x.val) := by
  have hl : (64 * h.val + x.val) / 64 = h.val := by omega
  have hy : ∀ (n : Fin 32) (u : Fin 576), val_main_v124 (F := Ideal) x0 x1 x2 x3 x4 (ix5 b n u h x)
      = ∑ r : Fin 64, (fun t s => (RD x0 x1 x2 x3 x4).dscore b.val h.val t s * ((RD x0 x1 x2 x3 x4).q b.val t (64 * h.val + x.val) * eighth))
        (64 * n.val + r.val) (64 * n.val + u.val) := fun n u => v124_eq x0 x1 x2 x3 x4 b n h u x hF
  unfold Data.dk
  rw [hl]
  refine Eq.trans ?_ (chunks_eq (fun t s => (RD x0 x1 x2 x3 x4).dscore b.val h.val t s * ((RD x0 x1 x2 x3 x4).q b.val t (64 * h.val + x.val) * eighth))
    (fun t s hs => by rw [Data.dscore_out _ _ _ hs, zero_mul]) n.val r.val r.isLt)
  generalize (fun t s => (RD x0 x1 x2 x3 x4).dscore b.val h.val t s * ((RD x0 x1 x2 x3 x4).q b.val t (64 * h.val + x.val) * eighth)) = f at hy ⊢
  unfold val_main_v179 val_main_v177 val_main_v175 val_main_v173 val_main_v171 val_main_v169 val_main_v167 val_main_v165
    val_main_v163 val_main_v164 val_main_v166 val_main_v168 val_main_v170 val_main_v172 val_main_v174 val_main_v176 val_main_v178
    val_main_v154 val_main_v155 val_main_v156 val_main_v157 val_main_v158 val_main_v159 val_main_v160 val_main_v161 val_main_v162
  generalize val_main_v124 (F := Ideal) x0 x1 x2 x3 x4 = y at hy ⊢
  rw [← piece_eq y b n r h x f hy 8 512 (by omega) rfl, ← piece_eq y b n r h x f hy 7 448 (by omega) rfl,
    ← piece_eq y b n r h x f hy 6 384 (by omega) rfl, ← piece_eq y b n r h x f hy 5 320 (by omega) rfl,
    ← piece_eq y b n r h x f hy 4 256 (by omega) rfl, ← piece_eq y b n r h x f hy 3 192 (by omega) rfl,
    ← piece_eq y b n r h x f hy 2 128 (by omega) rfl, ← piece_eq y b n r h x f hy 1 64 (by omega) rfl,
    ← piece_zero y b n r h x f hy]
  pointwise [val_main_cst_34, val_main_cst_35, val_main_cst_36, val_main_cst_37, val_main_cst_38, val_main_cst_39, val_main_cst_40, val_main_cst_41, val_main_cst_42]

theorem v152_eq : val_main_v152 (F := Ideal) x0 x1 x3 x4 (ix5 b n r h x)
    = (RD x0 x1 x2 x3 x4).dv b.val (64 * n.val + r.val) (64 * h.val + x.val) := by
  have hl : (64 * h.val + x.val) / 64 = h.val := by omega
  have hy : ∀ (n : Fin 32) (u : Fin 576), val_main_v107 (F := Ideal) x0 x1 x3 x4 (ix5 b n u h x)
      = ∑ r : Fin 64, (fun t s => (RD x0 x1 x2 x3 x4).prob b.val h.val t s * (RD x0 x1 x2 x3 x4).d b.val t (64 * h.val + x.val))
        (64 * n.val + r.val) (64 * n.val + u.val) := fun n u => v107_eq x0 x1 x2 x3 x4 b n h u x hF
  unfold Data.dv
  rw [hl]
  refine Eq.trans ?_ (chunks_eq (fun t s => (RD x0 x1 x2 x3 x4).prob b.val h.val t s * (RD x0 x1 x2 x3 x4).d b.val t (64 * h.val + x.val))
    (fun t s hs => by rw [Data.prob_out _ _ _ hs, zero_mul]) n.val r.val r.isLt)
  generalize (fun t s => (RD x0 x1 x2 x3 x4).prob b.val h.val t s * (RD x0 x1 x2 x3 x4).d b.val t (64 * h.val + x.val)) = f at hy ⊢
  unfold val_main_v152 val_main_v150 val_main_v148 val_main_v146 val_main_v144 val_main_v142 val_main_v140 val_main_v138
    val_main_v136 val_main_v137 val_main_v139 val_main_v141 val_main_v143 val_main_v145 val_main_v147 val_main_v149 val_main_v151
    val_main_v127 val_main_v128 val_main_v129 val_main_v130 val_main_v131 val_main_v132 val_main_v133 val_main_v134 val_main_v135
  generalize val_main_v107 (F := Ideal) x0 x1 x3 x4 = y at hy ⊢
  rw [← piece_eq y b n r h x f hy 8 512 (by omega) rfl, ← piece_eq y b n r h x f hy 7 448 (by omega) rfl,
    ← piece_eq y b n r h x f hy 6 384 (by omega) rfl, ← piece_eq y b n r h x f hy 5 320 (by omega) rfl,
    ← piece_eq y b n r h x f hy 4 256 (by omega) rfl, ← piece_eq y b n r h x f hy 3 192 (by omega) rfl,
    ← piece_eq y b n r h x f hy 2 128 (by omega) rfl, ← piece_eq y b n r h x f hy 1 64 (by omega) rfl,
    ← piece_zero y b n r h x f hy]
  pointwise [val_main_cst_25, val_main_cst_26, val_main_cst_27, val_main_cst_28, val_main_cst_29, val_main_cst_30, val_main_cst_31, val_main_cst_32, val_main_cst_33]

omit hF in
theorem sitofp_zero : (FloatOps.sitofp (F := Ideal) FTy.f32 0#32) = (0 : EReal) := by
  simp [FloatOps.sitofp]

/-- The queries' gradient, read. -/
theorem v188_eq (t : Fin 2048) (l : Fin 512) : val_main_v188 (F := Ideal) x0 x1 x2 x3 x4 (ix3 b t l) = (RD x0 x1 x2 x3 x4).dq b.val t.val l.val := by
  have e1 : 64 * (t.val / 64) + t.val % 64 = t.val := by omega
  have e2 : 64 * (l.val / 64) + l.val % 64 = l.val := by omega
  have e : val_main_v126 (F := Ideal) x0 x1 x2 x3 x4 (ix5 b ⟨t.val / 64, by omega⟩ ⟨t.val % 64, by omega⟩ ⟨l.val / 64, by omega⟩ ⟨l.val % 64, by omega⟩)
      = (RD x0 x1 x2 x3 x4).dq b.val t.val l.val := by
    rw [v126_eq x0 x1 x2 x3 x4 b _ _ _ _ hF]
    dsimp only
    rw [e1, e2]
  rw [← e]
  unfold val_main_v188 val_main_v181
  generalize val_main_v126 (F := Ideal) x0 x1 x2 x3 x4 = y
  pointwise

theorem v189_eq (s : Fin 2560) (l : Fin 512) : val_main_v189 (F := Ideal) x0 x1 x2 x3 x4 (ix3 b s l) = (RD x0 x1 x2 x3 x4).dk b.val s.val l.val := by
  have e2 : 64 * (l.val / 64) + l.val % 64 = l.val := by omega
  refine Eq.trans (b := if h : 512 ≤ s.val ∧ s.val - 512 < 2048 then
    val_main_v179 (F := Ideal) x0 x1 x2 x3 x4 (ix5 b ⟨(512 + (s.val - 512)) / 64, by omega⟩ ⟨(512 + (s.val - 512)) % 64, by omega⟩
      ⟨l.val / 64, by omega⟩ ⟨l.val % 64, by omega⟩) else FloatOps.sitofp (F := Ideal) FTy.f32 0#32) ?_ ?_
  · unfold val_main_v189 val_main_v187 val_main_v185 val_main_v180
    generalize val_main_v179 (F := Ideal) x0 x1 x2 x3 x4 = y
    pointwise [val_main_call3_v0, val_main_c_43]
  · by_cases hs : 512 ≤ s.val
    · have hh : 512 ≤ s.val ∧ s.val - 512 < 2048 := ⟨hs, by omega⟩
      have e1 : 64 * ((512 + (s.val - 512)) / 64) + (512 + (s.val - 512)) % 64 = s.val := by omega
      rw [dif_pos hh, v179_eq x0 x1 x2 x3 x4 hF]
      dsimp only
      rw [e1, e2]
    · rw [dif_neg (fun hh => hs hh.1), sitofp_zero]
      refine (sum_eq_zero fun t _ => ?_).symm
      rw [Data.dscore_out _ _ _ (fun hh => hs hh.2.2), zero_mul]

theorem v190_eq (s : Fin 2560) (l : Fin 512) : val_main_v190 (F := Ideal) x0 x1 x3 x4 (ix3 b s l) = (RD x0 x1 x2 x3 x4).dv b.val s.val l.val := by
  have e2 : 64 * (l.val / 64) + l.val % 64 = l.val := by omega
  refine Eq.trans (b := if h : 512 ≤ s.val ∧ s.val - 512 < 2048 then
    val_main_v152 (F := Ideal) x0 x1 x3 x4 (ix5 b ⟨(512 + (s.val - 512)) / 64, by omega⟩ ⟨(512 + (s.val - 512)) % 64, by omega⟩
      ⟨l.val / 64, by omega⟩ ⟨l.val % 64, by omega⟩) else FloatOps.sitofp (F := Ideal) FTy.f32 0#32) ?_ ?_
  · unfold val_main_v190 val_main_v186 val_main_v183 val_main_v153
    generalize val_main_v152 (F := Ideal) x0 x1 x3 x4 = y
    pointwise [val_main_call4_v0, val_main_c_44]
  · by_cases hs : 512 ≤ s.val
    · have hh : 512 ≤ s.val ∧ s.val - 512 < 2048 := ⟨hs, by omega⟩
      have e1 : 64 * ((512 + (s.val - 512)) / 64) + (512 + (s.val - 512)) % 64 = s.val := by omega
      rw [dif_pos hh, v152_eq x0 x1 x2 x3 x4 hF]
      dsimp only
      rw [e1, e2]
    · rw [dif_neg (fun hh => hs hh.1), sitofp_zero]
      refine (sum_eq_zero fun t _ => ?_).symm
      rw [Data.prob_out _ _ _ (fun hh => hs hh.2.2), zero_mul]

end Cert.ReferenceIdeal.Hand

end
-- ==== Proof.Value.Claim.lean ====
module

public import proofs.«01_k».proof.Defs
public import proofs.«01_k».proof.Proof.Value.Final
public import proofs.«01_k».proof.Proof.Value.RefSum
public import proofs.«01_k».proof.Proof.Gen.ReferenceIdeal.Run
public import Idealize.ShloMosaic.Lib.ReduceAll
public import Idealize.ShloMosaic.Lib.Claim

@[expose] public section

set_option maxRecDepth 16384

noncomputable section

/-! # The kernel computes what the reference computes -/

namespace Cert.Pre_finite_scores

open Idealize Idealize.ShloMosaic

theorem facts : Facts where
  bcast_S_S2x2048x512 := by decide
  reducesTo_S2x2048x512_S_d0_1_2 := by decide
  h_S_ := by decide
  bcast_S_S8x257 := by decide
  reducesTo_S8x257_S_d0_1 := by decide

instance : Subsingleton S_.Idx := ⟨fun _ _ => funext fun a => a.elim0⟩

theorem inf_eq : Ideal.ofBits FTy.f32 0x7F800000#32 = (⊤ : EReal) := by
  simp [Ideal.ofBits, Ideal.ieee]

/-- A value whose magnitude is below infinity is a real number. -/
theorem real_of_abs {x : EReal} (h : max x (-x) < ⊤) : ∃ r : ℝ, x = r := by
  have h1 : x ≠ ⊤ := fun e => by rw [e] at h; simp at h
  have h2 : x ≠ ⊥ := fun e => by rw [e] at h; simp at h
  exact ⟨x.toReal, (EReal.coe_toReal h1 h2).symm⟩

/-- One test of the precondition: every element of the array is real. -/
theorem real_of_test {s : Shape} (x : FVec Ideal s .f32) (hb : S_.BroadcastsInDim s (![] : Fin 0 → Fin s.rank)) {axes : List (Fin s.rank)}
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu = fun _ => 1#1) (i : s.Idx) : ∃ r : ℝ, x i = r := by
  have e := Host.reduce_andi_all _ _ hr hu (fun a => a.elim0) (congrFun h _) i
  have e' : BitVec.ofBool (decide (max (x i) (-(x i)) < Ideal.ofBits FTy.f32 0x7F800000#32)) = 1#1 := e
  rw [inf_eq] at e'
  by_cases hh : max (x i) (-(x i)) < ⊤
  · exact real_of_abs hh
  · rw [decide_eq_false hh] at e'
    exact absurd e' (by decide)

variable [Facts]

theorem real_of_pre (q k v : FVec Ideal S2x2048x512 .f32) (bias : FVec Ideal S8x257 .f32) (d : FVec Ideal S2x2048x1024 .f32)
    (h : (fn (F := Ideal) q k v bias d).1 = (fun _ => 1#1) ∧ (fn (F := Ideal) q k v bias d).2.1 = (fun _ => 1#1)
      ∧ (fn (F := Ideal) q k v bias d).2.2 = fun _ => 1#1) :
    (∀ i, ∃ r : ℝ, q i = r) ∧ (∀ i, ∃ r : ℝ, k i = r) ∧ ∀ i, ∃ r : ℝ, bias i = r := by
  unfold fn at h
  dsimp only at h
  exact ⟨real_of_test q Facts.bcast_S_S2x2048x512 Facts.reducesTo_S2x2048x512_S_d0_1_2 Facts.h_S_ h.1,
    real_of_test k Facts.bcast_S_S2x2048x512 Facts.reducesTo_S2x2048x512_S_d0_1_2 Facts.h_S_ h.2.1,
    real_of_test bias Facts.bcast_S_S8x257 Facts.reducesTo_S8x257_S_d0_1 Facts.h_S_ h.2.2⟩

end Cert.Pre_finite_scores

namespace Cert.Value

open Idealize Idealize.ShloMosaic Idealize.SL.Sem Cert.Band

/-- The bias tables of the two programs are one. -/
theorem bias_eq (x : FVec Ideal Cert.KernelIdeal.S8x257 .f32) :
    Cert.ReferenceIdeal.Read.val_main_v18 (F := Ideal) x = Cert.KernelIdeal.Hand.bandBias x := rfl

theorem at3_real {n0 n1 n2 : ℕ} (x : (⟨3, ![n0, n1, n2]⟩ : Shape).Idx → EReal) (hx : ∀ i, ∃ r : ℝ, x i = r) (b t l : ℕ) :
    ∃ r : ℝ, at3 x b t l = r := by
  unfold at3
  split
  · exact hx _
  · exact ⟨0, rfl⟩

theorem finite_of (x0 x1 x2 : FVec Ideal Cert.ReferenceIdeal.S2x2048x512 .f32) (x3 : FVec Ideal Cert.ReferenceIdeal.S8x257 .f32)
    (x4 : FVec Ideal Cert.ReferenceIdeal.S2x2048x1024 .f32) (h0 : ∀ i, ∃ r : ℝ, x0 i = r) (h1 : ∀ i, ∃ r : ℝ, x1 i = r)
    (h3 : ∀ i, ∃ r : ℝ, x3 i = r) : (Cert.ReferenceIdeal.Hand.RD x0 x1 x2 x3 x4).Finite where
  q := at3_real x0 h0
  k b s l := by
    change ∃ r : ℝ, (if 512 ≤ s then at3 x1 b (s - 512) l else 0) = r
    split
    · exact at3_real x1 h1 _ _ _
    · exact ⟨0, rfl⟩
  bias := at3_real _ fun i => h3 _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The arrays agree: the positions the two sides speak of are one structure. -/
theorem data_eq (x0 x1 x2 : FVec Ideal Cert.ReferenceIdeal.S2x2048x512 .f32) (x3 : FVec Ideal Cert.ReferenceIdeal.S8x257 .f32)
    (x4 : FVec Ideal Cert.ReferenceIdeal.S2x2048x1024 .f32) (c : Dev Cert.KernelIdeal.nD)
    (h0 : x0 = Cert.KernelIdeal.Hand.argQ m c) (h1 : x1 = Cert.KernelIdeal.Hand.argK m c) (h2 : x2 = Cert.KernelIdeal.Hand.argV m c)
    (h3 : x3 = Cert.KernelIdeal.Hand.argB m c) (h4 : x4 = Cert.KernelIdeal.Hand.argD m c) :
    Cert.ReferenceIdeal.Hand.RD x0 x1 x2 x3 x4 = Cert.KernelIdeal.Hand.D m c := by
  subst h0 h1 h2 h3 h4
  unfold Cert.ReferenceIdeal.Hand.RD
  rw [bias_eq]
  rfl

open Cert.ReferenceIdeal.Read in
/-- The reference's three results, in the arrays of the kernel. -/
theorem results_eq (x0 x1 x2 : FVec Ideal Cert.ReferenceIdeal.S2x2048x512 .f32) (x3 : FVec Ideal Cert.ReferenceIdeal.S8x257 .f32)
    (x4 : FVec Ideal Cert.ReferenceIdeal.S2x2048x1024 .f32) (c : Dev Cert.KernelIdeal.nD)
    (h0 : x0 = Cert.KernelIdeal.Hand.argQ m c) (h1 : x1 = Cert.KernelIdeal.Hand.argK m c) (h2 : x2 = Cert.KernelIdeal.Hand.argV m c)
    (h3 : x3 = Cert.KernelIdeal.Hand.argB m c) (h4 : x4 = Cert.KernelIdeal.Hand.argD m c)
    (hF : (Cert.ReferenceIdeal.Hand.RD x0 x1 x2 x3 x4).Finite) :
    val_main_v188 (F := Ideal) x0 x1 x2 x3 x4 = Cert.KernelIdeal.Hand.GQ m c
    ∧ val_main_v189 (F := Ideal) x0 x1 x2 x3 x4 = Cert.KernelIdeal.Hand.GK m c
    ∧ val_main_v190 (F := Ideal) x0 x1 x3 x4 = Cert.KernelIdeal.Hand.GV m c := by
  have e := data_eq m x0 x1 x2 x3 x4 c h0 h1 h2 h3 h4
  refine ⟨funext fun i => ?_, funext fun i => ?_, funext fun i => ?_⟩
  · rw [Cert.KernelIdeal.Hand.ix3_eta i (i 0).isLt (i 1).isLt (i 2).isLt rfl rfl rfl]
    refine (Cert.ReferenceIdeal.Hand.v188_eq x0 x1 x2 x3 x4 hF (i 0) (i 1) (i 2)).trans ?_
    rw [e]; rfl
  · rw [Cert.KernelIdeal.Hand.ix3_eta i (i 0).isLt (i 1).isLt (i 2).isLt rfl rfl rfl]
    refine (Cert.ReferenceIdeal.Hand.v189_eq x0 x1 x2 x3 x4 hF (i 0) (i 1) (i 2)).trans ?_
    rw [e]; rfl
  · rw [Cert.KernelIdeal.Hand.ix3_eta i (i 0).isLt (i 1).isLt (i 2).isLt rfl rfl rfl]
    refine (Cert.ReferenceIdeal.Hand.v190_eq x0 x1 x2 x3 x4 hF (i 0) (i 1) (i 2)).trans ?_
    rw [e]; rfl

/-- The precondition, read at a device. -/
theorem finite_at (hm : Cert.Pre_finite_scores.Facts) (h : Cert.Pre_KernelIdeal_finite_scores (hPre_finite_scores := hm) m) (c : Dev Cert.KernelIdeal.nD) :
    (∀ i, ∃ r : ℝ, Cert.KernelIdeal.Hand.argQ m c i = r) ∧ (∀ i, ∃ r : ℝ, Cert.KernelIdeal.Hand.argK m c i = r)
      ∧ ∀ i, ∃ r : ℝ, Cert.KernelIdeal.Hand.argB m c i = r :=
  Cert.Pre_finite_scores.real_of_pre _ _ (Cert.KernelIdeal.Hand.argV m c) _ (Cert.KernelIdeal.Hand.argD m c) (h c)

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hag
  refine ⟨Cert.KernelIdeal.Hand.GQ m, Cert.KernelIdeal.Hand.GK m, Cert.KernelIdeal.Hand.GV m, Cert.KernelIdeal.Hand.run_value m g, ?_⟩
  refine (θ_run Cert.ReferenceIdeal.defs _ _).mono (fun r h c => ?_) (Cert.ReferenceIdeal.Value.run (F := Ideal) m' g')
  obtain ⟨r0, r1, r2, ra⟩ := h c
  obtain ⟨a0, a1, a2, a3, a4⟩ := hag c
  obtain ⟨f0, f1, f3⟩ := finite_at m Cert.Pre_finite_scores.facts hpre c
  obtain ⟨e0, e1, e2⟩ := results_eq m _ _ _ _ _ c a0 a1 a2 a3 a4 (finite_of _ _ _ _ _
    (fun i => by rw [a0]; exact f0 i) (fun i => by rw [a1]; exact f1 i) (fun i => by rw [a3]; exact f3 i))
  exact ⟨(r0.trans (Cert.ReferenceIdeal.Read.val_main_v188_eq (StableHlo.launchContents m' c))).trans e0,
    (r1.trans (Cert.ReferenceIdeal.Read.val_main_v189_eq (StableHlo.launchContents m' c))).trans e1,
    (r2.trans (Cert.ReferenceIdeal.Read.val_main_v190_eq (StableHlo.launchContents m' c))).trans e2, ra⟩

end Cert.Value

end
-- ==== Proof.Weight.Kernel.lean ====
module

public import proofs.«01_k».proof.Proof.Gen.Kernel2Ideal.Value
public import Idealize.ShloMosaic.Lib.Pointwise

@[expose] public section

set_option maxRecDepth 16384

noncomputable section

/-! # The gradient of a projection's weights

Point `t` of the grid is at columns `1408 * (t / 2)` on of the saved array and at half `t % 2` of the rows: the first half of the rows
leaves its product in the scratch, the second adds its own and writes the sum. -/

namespace Cert.Kernel2Ideal.Hand

open Cert.Kernel2Ideal Cert.Kernel2Ideal.Gen Cert.Kernel2Ideal.Value
open Idealize.ShloMosaic Idealize.ShloMosaic.TcCoe Idealize.SL.Sem

theorem hz : (![0, 0] : Fin 2 → Nat) = fun _ => 0 := funext fun a => by fin_cases a <;> rfl

theorem ix2_eta {n0 n1 : ℕ} (i : (⟨2, ![n0, n1]⟩ : Shape).Idx) {a b : ℕ} (ha : a < n0) (hb : b < n1)
    (h0 : (i 0).val = a) (h1 : (i 1).val = b) : i = ix2 ⟨a, ha⟩ ⟨b, hb⟩ := by
  subst h0 h1
  funext x
  fin_cases x <;> rfl

theorem pay1_apply (x : Vec Ideal S2048x1408 .bf16) (y : Vec Ideal S2048x1024 .bf16) (r : Fin 1408) (l : Fin 1024) :
    k0_pay1 (F := Ideal) x y (ix2 r l) = ∑ k : Fin 2048, x (ix2 k r) * y (ix2 k l) := by
  pointwise [k0_pay1]

theorem pay2_apply (x : Vec Ideal S2048x1408 .bf16) (y : Vec Ideal S2048x1024 .bf16) (a : Vec Ideal S1408x1024 .f32) (r : Fin 1408) (l : Fin 1024) :
    k0_pay2 (F := Ideal) x y a (ix2 r l) = a (ix2 r l) + ∑ k : Fin 2048, x (ix2 k r) * y (ix2 k l) := by
  pointwise [k0_pay2]

section Terms

variable (c : Dev nD) (i : grid0.Coords) (a0 : Memref sig .tc .vmem S2048x1408 .bf16) (h0 : a0.IsWhole)
  (a1 : Memref sig .tc .vmem S2048x1024 .bf16) (h1 : a1.IsWhole) (a2 : Memref sig .tc .vmem S1408x1024 .bf16) (h2 : a2.IsWhole)
  (a3 : Memref sig .tc .vmem S1408x1024 .f32) (h3 : a3.IsWhole)
  (x0 : Vec Ideal S2048x1408 .bf16) (x1 : Vec Ideal S2048x1024 .bf16)

theorem first_eq (hc0 hc1) : sout0_A_0 (F := Ideal) c i a0 h0 a1 h1 a2 h2 a3 h3 hc0 hc1 x0 x1 = k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_unit_zero hz]
  simp only [View.readAt_eq_ld, h0.read_unread, h1.read_unread, View.ld_unit_zero (S := S2048x1408) hz, View.ld_unit_zero (S := S2048x1024) hz]

theorem second_eq (hc0 hc1) (xs : Vec Ideal S1408x1024 .f32) :
    out0_B_2 (F := Ideal) c i a0 h0 a1 h1 a2 h2 a3 h3 hc0 hc1 x0 x1 xs = k0_pay2 x0 x1 xs := by
  unfold out0_B_2
  rw [View.read_writes_eq_canon _ _ _ (cover0_B_2 c i a0 h0 a1 h1 a2 h2 a3 h3 hc0 hc1 x0 x1 xs)]
  unfold kernelRun0_B
  dsimp only
  sl_unfold_words
  rw [View.canon_unit_zero hz]
  simp only [View.readAt_eq_ld, h0.read_unread, h1.read_unread, h3.read_unread, View.ld_unit_zero (S := S2048x1408) hz,
    View.ld_unit_zero (S := S2048x1024) hz, View.ld_unit_zero (S := S1408x1024) hz]

end Terms

variable (m : (ℓ : Loc nD τ sig) → Buf (Elt Ideal) ℓ)

/-- The saved array. -/
abbrev argZ (c : Dev nD) : FVec Ideal S4096x2816 .bf16 := m ((c : Thread nD τ).loc main_arg0)

/-- The gradient that comes in. -/
abbrev argD (c : Dev nD) : FVec Ideal S4096x1024 .bf16 := m ((c : Thread nD τ).loc main_arg1)

theorem idx0 : ∀ t : Fin cfg0.N, win0_0.index t (0 : Fin 2) = t.val % 2 ∧ win0_0.index t (1 : Fin 2) = t.val / 2 :=
  (by decide +kernel : ∀ t : Fin grid0.N, _)

theorem idx1 : ∀ t : Fin cfg0.N, win0_1.index t (0 : Fin 2) = t.val % 2 ∧ win0_1.index t (1 : Fin 2) = 0 :=
  (by decide +kernel : ∀ t : Fin grid0.N, _)

theorem iblk_z (c : Dev nD) (t : Fin cfg0.N) (k : Fin 2048) (r : Fin 1408) (hk : 2048 * (t.val % 2) + k.val < 4096)
    (hr : 1408 * (t.val / 2) + r.val < 2816) :
    (iblk m c 0 t : Vec Ideal S2048x1408 .bf16) (ix2 k r) = argZ m c (ix2 ⟨2048 * (t.val % 2) + k.val, hk⟩ ⟨1408 * (t.val / 2) + r.val, hr⟩) := by
  obtain ⟨e0, e1⟩ := idx0 t
  refine (congrArg (V m c main_arg0 : FVec Ideal S4096x2816 .bf16) (ix2_eta (((cfg0.win 0).blk t).view.emb (ix2 k r)) hk hr ?_ ?_)).trans
    (congrFun (V_main_arg0 m c) _)
  · change win0_0.index t (0 : Fin 2) * 2048 + 1 * k.val = _
    omega
  · change win0_0.index t (1 : Fin 2) * 1408 + 1 * r.val = _
    omega

theorem iblk_d (c : Dev nD) (t : Fin cfg0.N) (k : Fin 2048) (l : Fin 1024) (hk : 2048 * (t.val % 2) + k.val < 4096) :
    (iblk m c 1 t : Vec Ideal S2048x1024 .bf16) (ix2 k l) = argD m c (ix2 ⟨2048 * (t.val % 2) + k.val, hk⟩ l) := by
  obtain ⟨e0, e1⟩ := idx1 t
  refine (congrArg (V m c main_arg1 : FVec Ideal S4096x1024 .bf16) (ix2_eta (((cfg0.win 1).blk t).view.emb (ix2 k l)) hk l.isLt ?_ ?_)).trans
    (congrFun (V_main_arg1 m c) _)
  · change win0_1.index t (0 : Fin 2) * 2048 + 1 * k.val = _
    omega
  · change win0_1.index t (1 : Fin 2) * 1024 + 1 * l.val = _
    omega

/-- A sum over all rows is the sums over its two halves. -/
theorem sum_halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the kernel leaves: the product of the saved array, transposed, with the gradient. -/
theorem G2_apply (c : Dev nD) (r : Fin 2816) (l : Fin 1024) :
    (G2 m c : FVec Ideal S2816x1024 .bf16) (ix2 r l) = ∑ k : Fin 4096, argZ m c (ix2 k r) * argD m c (ix2 k l) := by
  have hr := r.isLt
  have hl := l.isLt
  have hN : cfg0.N = 4 := N_0
  have hp : pt2Of (ix2 r l) = 2 * (r.val / 1408) + 1 := by
    change 2 * (1 * (r.val / 1408 - 0) + 1 * (l.val / 1024 - 0)) + 1 = _
    omega
  have hlt : 2 * (r.val / 1408) + 1 < cfg0.N := by omega
  unfold G2
  rw [dif_pos (by rw [hp]; exact hlt), fold0_congr m c _ _ (2 * (r.val / 1408) + 1) (by omega) hp, ← outsAt0_sweep m c _ hlt,
    outsAt0_succ m c _ hlt, stAt0_B m c ⟨2 * (r.val / 1408) + 1, hlt⟩ _ (by dsimp only; omega) (by dsimp only; omega),
    outsAt0_A m c ⟨2 * (r.val / 1408), by omega⟩ (by dsimp only; omega) (by dsimp only; omega)]
  dsimp only
  rw [second_eq, first_eq]
  have hm : r.val % 1408 < 1408 := Nat.mod_lt _ (by decide)
  rw [ix2_eta (loc2Of (ix2 r l)) hm l.isLt rfl (Nat.mod_eq_of_lt hl), pay2_apply, pay1_apply, ← sum_halves]
  congr 1
  · refine Finset.sum_congr rfl fun k _ => ?_
    have hk := k.isLt
    rw [iblk_z m c _ k _ (by dsimp only; omega) (by dsimp only; omega), iblk_d m c _ k _ (by dsimp only; omega)]
    congr 3 <;> congr 1 <;> dsimp only <;> omega
  · refine Finset.sum_congr rfl fun k _ => ?_
    have hk := k.isLt
    rw [iblk_z m c _ k _ (by dsimp only; omega) (by dsimp only; omega), iblk_d m c _ k _ (by dsimp only; omega)]
    congr 3 <;> congr 1 <;> dsimp only <;> omega

end Cert.Kernel2Ideal.Hand

end
-- ==== Proof.Weight.Claim.lean ====
module

public import proofs.«01_k».proof.Defs
public import proofs.«01_k».proof.Proof.Weight.Kernel
public import proofs.«01_k».proof.Proof.Gen.Reference2Ideal.Read
public import proofs.«01_k».proof.Proof.Gen.Reference2Ideal.Run
public import Idealize.ShloMosaic.Lib.Claim

@[expose] public section

set_option maxRecDepth 16384

noncomputable section

/-! # The gradient of the weights is the reference's -/

namespace Cert.Weight

open Idealize Idealize.ShloMosaic Idealize.SL.Sem

open Cert.Reference2Ideal.Read in
/-- The reference's result at one index. -/
theorem ref_apply (z : FVec Ideal Cert.Reference2Ideal.S4096x2816 .bf16) (d : FVec Ideal Cert.Reference2Ideal.S4096x1024 .bf16)
    (r : Fin 2816) (l : Fin 1024) :
    val_main_v7 (F := Ideal) z d (ix2 r l) = ∑ k : Fin 4096, z (ix2 k r) * d (ix2 k l) := by
  change val_main_v6 (F := Ideal) z d (ix2 r l) = _
  rw [val_main_v6_apply, val_main_v5_apply]
  refine Finset.sum_congr rfl fun k _ => ?_
  refine (mul_comm _ _).trans (congrArg₂ (fun a b : EReal => a * b) (congrArg z ?_) (congrArg d ?_))
  · funext x
    fin_cases x <;> rfl
  · funext x
    fin_cases x <;> rfl

theorem algebraic : Cert.algebraic_Kernel2Ideal_Reference2Ideal (hKernel2Ideal := Cert.Kernel2Ideal.Gen.facts)
    (hReference2Ideal := Cert.Reference2Ideal.Gen.facts) := by
  intro m g m' g' _ hag
  refine ⟨Cert.Kernel2Ideal.Value.G2 m, Cert.Kernel2Ideal.Value.run m g, ?_⟩
  refine (θ_run Cert.Reference2Ideal.defs _ _).mono (fun r h c => ?_) (Cert.Reference2Ideal.Value.run (F := Ideal) m' g')
  obtain ⟨r0, ra⟩ := h c
  obtain ⟨a0, a1⟩ := hag c
  refine ⟨r0.trans (funext fun i => ?_), ra⟩
  rw [Cert.Kernel2Ideal.Hand.ix2_eta i (i 0).isLt (i 1).isLt rfl rfl]
  refine (congrFun (Cert.Reference2Ideal.Read.val_main_v7_eq _ _) _).trans ((ref_apply _ _ _ _).trans ?_)
  rw [a0, a1]
  exact (Cert.Kernel2Ideal.Hand.G2_apply m c _ _).symm

end Cert.Weight

end
-- ==== Proof.Gate.Kernel.lean ====
module

public import proofs.«01_k».proof.Proof.Gen.Kernel3Ideal.Value
public import Idealize.ShloMosaic.Lib.Pointwise
public import Idealize.ShloMosaic.Lib.Pipeline.ValueKit
public import Idealize.ShloMosaic.Lib.StableHlo.ReadAt

@[expose] public section

set_option maxRecDepth 16384

noncomputable section

/-! # The feed-forward gate, forward and its two factors' gradients

Point `t` of the grid is at rows `512 * t` on. The first copies the two weights whole into the scratch, where every point reads them;
each writes its rows of the three results in four chunks of columns. -/

namespace Cert.Kernel3Ideal.Hand

open Cert.Kernel3Ideal Cert.Kernel3Ideal.Gen Cert.Kernel3Ideal.Value
open Idealize.ShloMosaic Idealize.ShloMosaic.TcCoe Idealize.SL.Sem

theorem hz : (![0, 0] : Fin 2 → Nat) = fun _ => 0 := funext fun a => by fin_cases a <;> rfl

/-- What one whole store leaves. -/
theorem canon_whole {s : Shape} {e : EltTy} {Val : EltTy → Type} [∀ e, Nonempty (Val e)] (w : s.Idx → Val e) :
    View.canon [(⟨Rect.whole s, w⟩ : View.Piece Val s e)] = w := by
  funext j
  refine Eq.trans ?_ (View.canon_cons_emb (Rect.whole s) w [] j)
  congr 1
  funext a
  apply Fin.ext
  change _ = 0 + 1 * _
  rw [Nat.zero_add, Nat.one_mul]

/-- A load out of what one whole store left. -/
theorem readCov_whole {sig : RefSig} {κ : Kind} {sp : Space} {s : Shape} {e : EltTy} {Val : EltTy → Type} [∀ e, Nonempty (Val e)]
    (v : View sig κ sp s e) (w : s.Idx → Val e) (r : Rect s) :
    v.readCov [(⟨Rect.whole s, w⟩ : View.Piece Val s e)] r.toLoadRect = View.ld w r := by
  rw [View.readCov_eq_canon', canon_whole]

/-- The sigmoid. -/
def sgm (a : EReal) : EReal := Ideal.div 1 (1 + Ideal.exp (0 - a))

/-- The gate: the preactivation at its sigmoid. -/
def act (a : EReal) : EReal := a * sgm a

/-- The gate's derivative at `a`, at the other factor `b`. -/
def der (a b : EReal) : EReal := b * (sgm a * (1 + a * (1 - sgm a)))

/-- A block of rows against the rows of a weight. -/
def mm (x : FVec Ideal S512x1024 .bf16) (w : FVec Ideal S2816x1024 .bf16) (r : Fin 512) (l : Fin 2816) : EReal :=
  ∑ k : Fin 1024, x (ix2 r k) * w (ix2 l k)

theorem ix2_eta {n0 n1 : ℕ} (i : (⟨2, ![n0, n1]⟩ : Shape).Idx) {a b : ℕ} (ha : a < n0) (hb : b < n1)
    (h0 : (i 0).val = a) (h1 : (i 1).val = b) : i = ix2 ⟨a, ha⟩ ⟨b, hb⟩ := by
  subst h0 h1
  funext x
  fin_cases x <;> rfl

/-- An index in a chunk of columns. -/
theorem mem_cols {o n : ℕ} (inb : ∀ a, (![0, o] : Fin 2 → ℕ) a + (![512, n] : Fin 2 → ℕ) a ≤ S512x2816.size a) (y : S512x2816.Idx)
    (h0 : (y 0).val < 512) (h1 : o ≤ (y 1).val) (h2 : (y 1).val < o + n) : y ∈ (Rect.unit (s := S512x2816) ![0, o] ![512, n] inb).set :=
  Rect.mem_set_unit.2 fun a => match a with
    | ⟨0, _⟩ => ⟨Nat.zero_le _, by change (y 0).val < 0 + 512; omega⟩
    | ⟨1, _⟩ => ⟨h1, h2⟩

/-- An output written in its four column chunks, at one index. -/
theorem cols_apply (g : Fin 512 → Fin 2816 → EReal) (p0 p1 p2 : FVec Ideal S512x768 .bf16) (p3 : FVec Ideal S512x512 .bf16)
    (e0 : ∀ (r : Fin 512) (l : Fin 768), p0 (ix2 r l) = g r ⟨l.val, by omega⟩)
    (e1 : ∀ (r : Fin 512) (l : Fin 768), p1 (ix2 r l) = g r ⟨768 + l.val, by omega⟩)
    (e2 : ∀ (r : Fin 512) (l : Fin 768), p2 (ix2 r l) = g r ⟨1536 + l.val, by omega⟩)
    (e3 : ∀ (r : Fin 512) (l : Fin 512), p3 (ix2 r l) = g r ⟨2304 + l.val, by omega⟩) :
    View.canon [(⟨Rect.unit ![0, 2304] ![512, 512] inb_S512x2816_S512x512_0_2304, p3⟩ : View.Piece (Elt Ideal) S512x2816 .bf16),
      ⟨Rect.unit ![0, 1536] ![512, 768] inb_S512x2816_S512x768_0_1536, p2⟩,
      ⟨Rect.unit ![0, 768] ![512, 768] inb_S512x2816_S512x768_0_768, p1⟩,
      ⟨Rect.unit ![0, 0] ![512, 768] inb_S512x2816_S512x768_0_0, p0⟩] = (fun y => g (y 0) (y 1) : FVec Ideal S512x2816 .bf16) := by
  funext y
  have hy0 : (y 0).val < 512 := (y 0).isLt
  have hy1 : (y 1).val < 2816 := (y 1).isLt
  refine View.canon_apply_of_pieces (Val := Elt Ideal) (e := .bf16) (fun y => g (y 0) (y 1)) _ ?_ y ?_
  · intro pc hpc x
    rcases List.mem_cons.mp hpc with rfl | hpc
    · refine ((congrArg p3 (ix2_eta x (x 0).isLt (x 1).isLt rfl rfl)).trans (e3 _ _)).trans (congrArg₂ g (Fin.ext ?_) (Fin.ext ?_))
      · change (x 0).val = 0 + 1 * (x 0).val
        omega
      · change 2304 + (x 1).val = 2304 + 1 * (x 1).val
        omega
    rcases List.mem_cons.mp hpc with rfl | hpc
    · refine ((congrArg p2 (ix2_eta x (x 0).isLt (x 1).isLt rfl rfl)).trans (e2 _ _)).trans (congrArg₂ g (Fin.ext ?_) (Fin.ext ?_))
      · change (x 0).val = 0 + 1 * (x 0).val
        omega
      · change 1536 + (x 1).val = 1536 + 1 * (x 1).val
        omega
    rcases List.mem_cons.mp hpc with rfl | hpc
    · refine ((congrArg p1 (ix2_eta x (x 0).isLt (x 1).isLt rfl rfl)).trans (e1 _ _)).trans (congrArg₂ g (Fin.ext ?_) (Fin.ext ?_))
      · change (x 0).val = 0 + 1 * (x 0).val
        omega
      · change 768 + (x 1).val = 768 + 1 * (x 1).val
        omega
    rcases List.mem_cons.mp hpc with rfl | hpc
    · refine ((congrArg p0 (ix2_eta x (x 0).isLt (x 1).isLt rfl rfl)).trans (e0 _ _)).trans (congrArg₂ g (Fin.ext ?_) (Fin.ext ?_))
      · change (x 0).val = 0 + 1 * (x 0).val
        omega
      · change (x 1).val = 0 + 1 * (x 1).val
        omega
    · exact absurd hpc List.not_mem_nil
  · by_cases h3 : 2304 ≤ (y 1).val
    · refine ⟨_, List.mem_cons_self, mem_cols inb_S512x2816_S512x512_0_2304 y hy0 (by omega) (by omega)⟩
    by_cases h2 : 1536 ≤ (y 1).val
    · refine ⟨_, List.mem_cons_of_mem _ List.mem_cons_self, mem_cols inb_S512x2816_S512x768_0_1536 y hy0 (by omega) (by omega)⟩
    by_cases h1 : 768 ≤ (y 1).val
    · refine ⟨_, List.mem_cons_of_mem _ (List.mem_cons_of_mem _ List.mem_cons_self), mem_cols inb_S512x2816_S512x768_0_768 y hy0 (by omega) (by omega)⟩
    · refine ⟨_, List.mem_cons_of_mem _ (List.mem_cons_of_mem _ (List.mem_cons_of_mem _ List.mem_cons_self)), mem_cols inb_S512x2816_S512x768_0_0 y hy0 (by omega) (by omega)⟩

section Terms

variable (c : Dev nD) (i : grid0.Coords) (a1 : Memref sig .tc .vmem S512x1024 .bf16) (h1 : a1.IsWhole)
  (a4 : Memref sig .tc .vmem S512x2816 .bf16) (h4 : a4.IsWhole) (a5 : Memref sig .tc .vmem S512x2816 .bf16) (h5 : a5.IsWhole)
  (a6 : Memref sig .tc .vmem S512x2816 .bf16) (h6 : a6.IsWhole)
  (a7 : Memref sig .tc .vmem S2816x1024 .bf16) (h7 : a7.IsWhole) (a8 : Memref sig .tc .vmem S2816x1024 .bf16) (h8 : a8.IsWhole)
  (x0 : Vec Ideal S512x1024 .bf16) (w0 w1 : Vec Ideal S2816x1024 .bf16) (f0 : HbBuf0 (F := Ideal) c hbM0_0) (f1 : HbBuf0 (F := Ideal) c hbM0_1)

theorem outA1 (hc0) : out0_A_1 (F := Ideal) c i a1 h1 a4 h4 a5 h5 a6 h6 a7 h7 a8 h8 hc0 x0 f0 f1
    = fun y => act (mm x0 f0 (y 0) (y 1)) := by
  unfold out0_A_1
  rw [View.read_writes_junk_eq_canon]
  unfold kernelRun0_A
  dsimp only
  sl_unfold_words
  simp only [View.readAt_eq_ld, h1.read_unread, readCov_whole, View.ld_unit_zero (S := S512x1024) hz]
  refine cols_apply (fun r l => act (mm x0 f0 r l)) _ _ _ _ (fun r l => ?_) (fun r l => ?_) (fun r l => ?_) (fun r l => ?_)
  · pointwise [k0_pay10, k0_pay8, k0_pay7, k0_pay3, act, sgm, mm]
    rfl
  · pointwise [k0_pay17, k0_pay16, k0_pay15, k0_pay5, act, sgm, mm]
    rfl
  · pointwise [k0_pay24, k0_pay23, k0_pay22, k0_pay13, act, sgm, mm]
    rfl
  · pointwise [k0_pay31, k0_pay28, k0_pay27, k0_pay20, act, sgm, mm]
    rfl

theorem outA2 (hc0) : out0_A_2 (F := Ideal) c i a1 h1 a4 h4 a5 h5 a6 h6 a7 h7 a8 h8 hc0 x0 f0 f1
    = fun y => der (mm x0 f0 (y 0) (y 1)) (mm x0 f1 (y 0) (y 1)) := by
  unfold out0_A_2
  rw [View.read_writes_junk_eq_canon]
  unfold kernelRun0_A
  dsimp only
  sl_unfold_words
  simp only [View.readAt_eq_ld, h1.read_unread, readCov_whole, View.ld_unit_zero (S := S512x1024) hz]
  refine cols_apply (fun r l => der (mm x0 f0 r l) (mm x0 f1 r l)) _ _ _ _ (fun r l => ?_) (fun r l => ?_) (fun r l => ?_) (fun r l => ?_)
  · pointwise [k0_pay11, k0_pay7, k0_pay3, k0_pay4, der, sgm, mm]
    rfl
  · pointwise [k0_pay18, k0_pay15, k0_pay16, k0_pay5, k0_pay6, der, sgm, mm]
    rfl
  · pointwise [k0_pay25, k0_pay22, k0_pay23, k0_pay13, k0_pay14, der, sgm, mm]
    rfl
  · pointwise [k0_pay1, k0_pay29, k0_pay27, k0_pay28, k0_pay20, k0_pay21, der, sgm, mm]
    rfl

theorem outA3 (hc0) : out0_A_3 (F := Ideal) c i a1 h1 a4 h4 a5 h5 a6 h6 a7 h7 a8 h8 hc0 x0 f0 f1
    = fun y => act (mm x0 f0 (y 0) (y 1)) * mm x0 f1 (y 0) (y 1) := by
  unfold out0_A_3
  rw [View.read_writes_junk_eq_canon]
  unfold kernelRun0_A
  dsimp only
  sl_unfold_words
  simp only [View.readAt_eq_ld, h1.read_unread, readCov_whole, View.ld_unit_zero (S := S512x1024) hz]
  refine cols_apply (fun r l => act (mm x0 f0 r l) * mm x0 f1 r l) _ _ _ _ (fun r l => ?_) (fun r l => ?_) (fun r l => ?_) (fun r l => ?_)
  · pointwise [k0_pay12, k0_pay9, k0_pay8, k0_pay7, k0_pay3, k0_pay4, act, sgm, mm]
    rfl
  · pointwise [k0_pay19, k0_pay16, k0_pay15, k0_pay5, k0_pay6, act, sgm, mm]
    rfl
  · pointwise [k0_pay26, k0_pay23, k0_pay22, k0_pay13, k0_pay14, act, sgm, mm]
    rfl
  · pointwise [k0_pay2, k0_pay30, k0_pay28, k0_pay27, k0_pay20, k0_pay21, act, sgm, mm]
    rfl

theorem outB1 (hc0) : out0_B_1 (F := Ideal) c i a1 h1 a4 h4 a5 h5 a6 h6 a7 h7 a8 h8 hc0 x0 w0 w1 f0 f1
    = fun y => act (mm x0 w0 (y 0) (y 1)) := by
  unfold out0_B_1
  rw [View.read_writes_junk_eq_canon]
  unfold kernelRun0_B
  dsimp only
  sl_unfold_words
  simp only [View.readAt_eq_ld, h1.read_unread, h7.read_unread, h8.read_unread, View.ld_unit_zero (S := S512x1024) hz]
  refine cols_apply (fun r l => act (mm x0 w0 r l)) _ _ _ _ (fun r l => ?_) (fun r l => ?_) (fun r l => ?_) (fun r l => ?_)
  · pointwise [k0_pay10, k0_pay8, k0_pay7, k0_pay3, act, sgm, mm]
  · pointwise [k0_pay17, k0_pay16, k0_pay15, k0_pay5, act, sgm, mm]
  · pointwise [k0_pay24, k0_pay23, k0_pay22, k0_pay13, act, sgm, mm]
  · pointwise [k0_pay31, k0_pay28, k0_pay27, k0_pay20, act, sgm, mm]

theorem outB2 (hc0) : out0_B_2 (F := Ideal) c i a1 h1 a4 h4 a5 h5 a6 h6 a7 h7 a8 h8 hc0 x0 w0 w1 f0 f1
    = fun y => der (mm x0 w0 (y 0) (y 1)) (mm x0 w1 (y 0) (y 1)) := by
  unfold out0_B_2
  rw [View.read_writes_junk_eq_canon]
  unfold kernelRun0_B
  dsimp only
  sl_unfold_words
  simp only [View.readAt_eq_ld, h1.read_unread, h7.read_unread, h8.read_unread, View.ld_unit_zero (S := S512x1024) hz]
  refine cols_apply (fun r l => der (mm x0 w0 r l) (mm x0 w1 r l)) _ _ _ _ (fun r l => ?_) (fun r l => ?_) (fun r l => ?_) (fun r l => ?_)
  · pointwise [k0_pay11, k0_pay7, k0_pay3, k0_pay4, der, sgm, mm]
  · pointwise [k0_pay18, k0_pay15, k0_pay16, k0_pay5, k0_pay6, der, sgm, mm]
  · pointwise [k0_pay25, k0_pay22, k0_pay23, k0_pay13, k0_pay14, der, sgm, mm]
  · pointwise [k0_pay1, k0_pay29, k0_pay27, k0_pay28, k0_pay20, k0_pay21, der, sgm, mm]

theorem outB3 (hc0) : out0_B_3 (F := Ideal) c i a1 h1 a4 h4 a5 h5 a6 h6 a7 h7 a8 h8 hc0 x0 w0 w1 f0 f1
    = fun y => act (mm x0 w0 (y 0) (y 1)) * mm x0 w1 (y 0) (y 1) := by
  unfold out0_B_3
  rw [View.read_writes_junk_eq_canon]
  unfold kernelRun0_B
  dsimp only
  sl_unfold_words
  simp only [View.readAt_eq_ld, h1.read_unread, h7.read_unread, h8.read_unread, View.ld_unit_zero (S := S512x1024) hz]
  refine cols_apply (fun r l => act (mm x0 w0 r l) * mm x0 w1 r l) _ _ _ _ (fun r l => ?_) (fun r l => ?_) (fun r l => ?_) (fun r l => ?_)
  · pointwise [k0_pay12, k0_pay9, k0_pay8, k0_pay7, k0_pay3, k0_pay4, act, sgm, mm]
  · pointwise [k0_pay19, k0_pay16, k0_pay15, k0_pay5, k0_pay6, act, sgm, mm]
  · pointwise [k0_pay26, k0_pay23, k0_pay22, k0_pay13, k0_pay14, act, sgm, mm]
  · pointwise [k0_pay2, k0_pay30, k0_pay28, k0_pay27, k0_pay20, k0_pay21, act, sgm, mm]

theorem soutA0 (hc0) : sout0_A_0 (F := Ideal) c i a1 h1 a4 h4 a5 h5 a6 h6 a7 h7 a8 h8 hc0 x0 f0 f1 = f0 := by
  unfold sout0_A_0
  rw [View.read_writes_junk_eq_canon]
  unfold kernelRun0_A
  dsimp only
  sl_unfold_words
  exact canon_whole _

theorem soutB0 (hc0) : sout0_B_0 (F := Ideal) c i a1 h1 a4 h4 a5 h5 a6 h6 a7 h7 a8 h8 hc0 x0 w0 w1 f0 f1 = w0 := rfl

theorem soutA1 (hc0) : sout0_A_1 (F := Ideal) c i a1 h1 a4 h4 a5 h5 a6 h6 a7 h7 a8 h8 hc0 x0 f0 f1 = f1 := by
  unfold sout0_A_1
  rw [View.read_writes_junk_eq_canon]
  unfold kernelRun0_A
  dsimp only
  sl_unfold_words
  exact canon_whole _

theorem soutB1 (hc0) : sout0_B_1 (F := Ideal) c i a1 h1 a4 h4 a5 h5 a6 h6 a7 h7 a8 h8 hc0 x0 w0 w1 f0 f1 = w1 := rfl

end Terms

variable (m : (ℓ : Loc nD τ sig) → Buf (Elt Ideal) ℓ)

/-- The rows that come in. -/
abbrev argH (c : Dev nD) : FVec Ideal S4096x1024 .bf16 := m ((c : Thread nD τ).loc main_arg0)

/-- The gate's weight. -/
abbrev argG (c : Dev nD) : FVec Ideal S4x704x1024 .bf16 := m ((c : Thread nD τ).loc main_arg1)

/-- The other factor's weight. -/
abbrev argU (c : Dev nD) : FVec Ideal S4x704x1024 .bf16 := m ((c : Thread nD τ).loc main_arg2)

/-- The rows against a weight given in four chunks of its own rows. -/
def up (h : FVec Ideal S4096x1024 .bf16) (w : FVec Ideal S4x704x1024 .bf16) (r : Fin 4096) (l : Fin 2816) : EReal :=
  ∑ k : Fin 1024, h (ix2 r k) * w (ix3 ⟨l.val / 704, by omega⟩ ⟨l.val % 704, Nat.mod_lt _ (by decide)⟩ k)

/-- What one point leaves: the three results at its rows, the weights in the scratch. -/
def at' (c : Dev nD) (t : Fin cfg0.N) : Vec Ideal S512x2816 .bf16 × Vec Ideal S512x2816 .bf16 × Vec Ideal S512x2816 .bf16
    × Vec Ideal S2816x1024 .bf16 × Vec Ideal S2816x1024 .bf16 :=
  (fun y => act (mm (iblk m c 0 t) (V m c main_v0) (y 0) (y 1)),
    fun y => der (mm (iblk m c 0 t) (V m c main_v0) (y 0) (y 1)) (mm (iblk m c 0 t) (V m c main_v1) (y 0) (y 1)),
    fun y => act (mm (iblk m c 0 t) (V m c main_v0) (y 0) (y 1)) * mm (iblk m c 0 t) (V m c main_v1) (y 0) (y 1),
    V m c main_v0, V m c main_v1)

theorem outs_eq (c : Dev nD) : ∀ (n : ℕ) (hn : n < cfg0.N), outsAt0 m c n hn = at' m c ⟨n, hn⟩
  | 0, hn => by
    refine (outsAt0_A m c ⟨0, hn⟩ rfl).trans ?_
    unfold at'
    rw [outA1, outA2, outA3, soutA0, soutA1]
  | n + 1, hn => by
    have hN : cfg0.N = 8 := N_0
    refine (outsAt0_B m c ⟨n + 1, hn⟩ (by dsimp only; omega)).trans ?_
    have ih := outs_eq c n (Nat.lt_of_succ_lt hn)
    have e : outsAt0 m c ((⟨n + 1, hn⟩ : Fin cfg0.N).val - 1) (Nat.lt_of_le_of_lt (Nat.sub_le _ _) hn) = at' m c ⟨n, Nat.lt_of_succ_lt hn⟩ := ih
    rw [e, outB1, outB2, outB3, soutB0, soutB1]
    rfl

theorem idx0 : ∀ t : Fin cfg0.N, win0_0.index t (0 : Fin 2) = t.val ∧ win0_0.index t (1 : Fin 2) = 0 :=
  (by decide +kernel : ∀ t : Fin grid0.N, _)

theorem iblk_h (c : Dev nD) (t : Fin cfg0.N) (r : Fin 512) (k : Fin 1024) (hr : 512 * t.val + r.val < 4096) :
    (iblk m c 0 t : Vec Ideal S512x1024 .bf16) (ix2 r k) = argH m c (ix2 ⟨512 * t.val + r.val, hr⟩ k) := by
  obtain ⟨e0, e1⟩ := idx0 t
  refine (congrArg (V m c main_arg0 : FVec Ideal S4096x1024 .bf16) (ix2_eta (((cfg0.win 0).blk t).view.emb (ix2 r k)) hr k.isLt ?_ ?_)).trans
    (congrFun (V_main_arg0 m c) _)
  · change win0_0.index t (0 : Fin 2) * 512 + 1 * r.val = _
    omega
  · change win0_0.index t (1 : Fin 2) * 1024 + 1 * k.val = _
    omega

theorem V_g (c : Dev nD) (l : Fin 2816) (k : Fin 1024) :
    (V m c main_v0 : FVec Ideal S2816x1024 .bf16) (ix2 l k)
      = argG m c (ix3 ⟨l.val / 704, by omega⟩ ⟨l.val % 704, Nat.mod_lt _ (by decide)⟩ k) := by
  unfold V
  after_reads_at

theorem V_u (c : Dev nD) (l : Fin 2816) (k : Fin 1024) :
    (V m c main_v1 : FVec Ideal S2816x1024 .bf16) (ix2 l k)
      = argU m c (ix3 ⟨l.val / 704, by omega⟩ ⟨l.val % 704, Nat.mod_lt _ (by decide)⟩ k) := by
  unfold V
  after_reads_at

theorem mm_g (c : Dev nD) (t : Fin cfg0.N) (r : Fin 512) (l : Fin 2816) (hr : 512 * t.val + r.val < 4096) :
    mm (iblk m c 0 t) (V m c main_v0) r l = up (argH m c) (argG m c) ⟨512 * t.val + r.val, hr⟩ l := by
  unfold mm up
  refine Finset.sum_congr rfl fun k _ => ?_
  rw [iblk_h m c t r k hr, V_g]

theorem mm_u (c : Dev nD) (t : Fin cfg0.N) (r : Fin 512) (l : Fin 2816) (hr : 512 * t.val + r.val < 4096) :
    mm (iblk m c 0 t) (V m c main_v1) r l = up (argH m c) (argU m c) ⟨512 * t.val + r.val, hr⟩ l := by
  unfold mm up
  refine Finset.sum_congr rfl fun k _ => ?_
  rw [iblk_h m c t r k hr, V_u]

/-- The gate itself. -/
def G1 (c : Dev nD) : FVec Ideal S4096x2816 .bf16 := fun i => act (up (argH m c) (argG m c) (i 0) (i 1))

/-- The gate's derivative at the other factor. -/
def G2 (c : Dev nD) : FVec Ideal S4096x2816 .bf16 := fun i => der (up (argH m c) (argG m c) (i 0) (i 1)) (up (argH m c) (argU m c) (i 0) (i 1))

/-- The gate at the other factor. -/
def G3 (c : Dev nD) : FVec Ideal S4096x2816 .bf16 := fun i => act (up (argH m c) (argG m c) (i 0) (i 1)) * up (argH m c) (argU m c) (i 0) (i 1)

theorem idx1 : ∀ t : Fin cfg0.N, win0_1.index t (0 : Fin 2) = t.val ∧ win0_1.index t (1 : Fin 2) = 0 :=
  (by decide +kernel : ∀ t : Fin grid0.N, _)

theorem flushed1_eq (c : Dev nD) (t : Fin cfg0.N) :
    (dats m 0 c).flushed 1 t = ((cfg0.win 1).blk t).view.read (Elt Ideal) (G1 m c) := by
  show (cfg0.win 1).cut (grid0.coords t) ((dats m 0 c).after 1 t) = _
  rw [after0_1, outs_eq]
  funext y
  have e : ∀ y : S512x2816.Idx, (at' m c t).1 y = G1 m c (((cfg0.win 1).blk t).view.emb y) := fun y => by
    obtain ⟨e0, e1⟩ := idx1 t
    have hN : cfg0.N = 8 := N_0
    have ht := t.isLt
    obtain ⟨r, l, rfl⟩ : ∃ (r : Fin 512) (l : Fin 2816), y = ix2 r l := ⟨y 0, y 1, ix2_eta y (y 0).isLt (y 1).isLt rfl rfl⟩
    have hr : 512 * t.val + r.val < 4096 := by have := r.isLt; omega
    rw [ix2_eta (((cfg0.win 1).blk t).view.emb (ix2 r l)) hr l.isLt
      (by change win0_1.index t (0 : Fin 2) * 512 + 1 * r.val = _; omega) (by change win0_1.index t (1 : Fin 2) * 2816 + 1 * l.val = _; omega)]
    unfold at' G1
    exact congrArg act (mm_g m c t r l hr)
  exact e y

theorem final1 (c : Dev nD) : (dats m 0 c).arrAt 1 cfg0.N = G1 m c := by
  refine (dats m 0 c).arrAt_eq_of_cover 1 _ (fun t _ => flushed1_eq m c t) fun i => ?_
  have hN : cfg0.N = 8 := N_0
  have h0 : (i 0).val < 4096 := (i 0).isLt
  have h1 : (i 1).val < 2816 := (i 1).isLt
  have ht : (i 0).val / 512 < cfg0.N := by omega
  obtain ⟨e0, e1⟩ := idx1 ⟨(i 0).val / 512, ht⟩
  refine ⟨⟨(i 0).val / 512, ht⟩, flush0_1 _, ?_⟩
  refine Finset.mem_map.mpr ⟨ix2 ⟨(i 0).val % 512, Nat.mod_lt _ (by omega)⟩ ⟨(i 1).val, h1⟩, Finset.mem_univ _, ?_⟩
  refine (ix2_eta (((cfg0.win 1).blk ⟨(i 0).val / 512, ht⟩).view.emb (ix2 _ _)) h0 h1 ?_ ?_).trans (ix2_eta i h0 h1 rfl rfl).symm
  · change win0_1.index ⟨(i 0).val / 512, ht⟩ (0 : Fin 2) * 512 + 1 * ((i 0).val % 512) = _
    dsimp only at e0
    omega
  · change win0_1.index ⟨(i 0).val / 512, ht⟩ (1 : Fin 2) * 2816 + 1 * (i 1).val = _
    omega

theorem idx2 : ∀ t : Fin cfg0.N, win0_2.index t (0 : Fin 2) = t.val ∧ win0_2.index t (1 : Fin 2) = 0 :=
  (by decide +kernel : ∀ t : Fin grid0.N, _)

theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, outs_eq]
  funext y
  have e : ∀ y : S512x2816.Idx, (at' m c t).2.1 y = G2 m c (((cfg0.win 2).blk t).view.emb y) := fun y => by
    obtain ⟨e0, e1⟩ := idx2 t
    have hN : cfg0.N = 8 := N_0
    have ht := t.isLt
    obtain ⟨r, l, rfl⟩ : ∃ (r : Fin 512) (l : Fin 2816), y = ix2 r l := ⟨y 0, y 1, ix2_eta y (y 0).isLt (y 1).isLt rfl rfl⟩
    have hr : 512 * t.val + r.val < 4096 := by have := r.isLt; omega
    rw [ix2_eta (((cfg0.win 2).blk t).view.emb (ix2 r l)) hr l.isLt
      (by change win0_2.index t (0 : Fin 2) * 512 + 1 * r.val = _; omega) (by change win0_2.index t (1 : Fin 2) * 2816 + 1 * l.val = _; omega)]
    unfold at' G2
    exact congrArg₂ der (mm_g m c t r l hr) (mm_u m c t r l hr)
  exact e y

theorem final2 (c : Dev nD) : (dats m 0 c).arrAt 2 cfg0.N = G2 m c := by
  refine (dats m 0 c).arrAt_eq_of_cover 2 _ (fun t _ => flushed2_eq m c t) fun i => ?_
  have hN : cfg0.N = 8 := N_0
  have h0 : (i 0).val < 4096 := (i 0).isLt
  have h1 : (i 1).val < 2816 := (i 1).isLt
  have ht : (i 0).val / 512 < cfg0.N := by omega
  obtain ⟨e0, e1⟩ := idx2 ⟨(i 0).val / 512, ht⟩
  refine ⟨⟨(i 0).val / 512, ht⟩, flush0_2 _, ?_⟩
  refine Finset.mem_map.mpr ⟨ix2 ⟨(i 0).val % 512, Nat.mod_lt _ (by omega)⟩ ⟨(i 1).val, h1⟩, Finset.mem_univ _, ?_⟩
  refine (ix2_eta (((cfg0.win 2).blk ⟨(i 0).val / 512, ht⟩).view.emb (ix2 _ _)) h0 h1 ?_ ?_).trans (ix2_eta i h0 h1 rfl rfl).symm
  · change win0_2.index ⟨(i 0).val / 512, ht⟩ (0 : Fin 2) * 512 + 1 * ((i 0).val % 512) = _
    dsimp only at e0
    omega
  · change win0_2.index ⟨(i 0).val / 512, ht⟩ (1 : Fin 2) * 2816 + 1 * (i 1).val = _
    omega

theorem idx3 : ∀ t : Fin cfg0.N, win0_3.index t (0 : Fin 2) = t.val ∧ win0_3.index t (1 : Fin 2) = 0 :=
  (by decide +kernel : ∀ t : Fin grid0.N, _)

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, outs_eq]
  funext y
  have e : ∀ y : S512x2816.Idx, (at' m c t).2.2.1 y = G3 m c (((cfg0.win 3).blk t).view.emb y) := fun y => by
    obtain ⟨e0, e1⟩ := idx3 t
    have hN : cfg0.N = 8 := N_0
    have ht := t.isLt
    obtain ⟨r, l, rfl⟩ : ∃ (r : Fin 512) (l : Fin 2816), y = ix2 r l := ⟨y 0, y 1, ix2_eta y (y 0).isLt (y 1).isLt rfl rfl⟩
    have hr : 512 * t.val + r.val < 4096 := by have := r.isLt; omega
    rw [ix2_eta (((cfg0.win 3).blk t).view.emb (ix2 r l)) hr l.isLt
      (by change win0_3.index t (0 : Fin 2) * 512 + 1 * r.val = _; omega) (by change win0_3.index t (1 : Fin 2) * 2816 + 1 * l.val = _; omega)]
    unfold at' G3
    exact congrArg₂ (fun a b : EReal => act a * b) (mm_g m c t r l hr) (mm_u m c t r l hr)
  exact e y

theorem final3 (c : Dev nD) : (dats m 0 c).arrAt 3 cfg0.N = G3 m c := by
  refine (dats m 0 c).arrAt_eq_of_cover 3 _ (fun t _ => flushed3_eq m c t) fun i => ?_
  have hN : cfg0.N = 8 := N_0
  have h0 : (i 0).val < 4096 := (i 0).isLt
  have h1 : (i 1).val < 2816 := (i 1).isLt
  have ht : (i 0).val / 512 < cfg0.N := by omega
  obtain ⟨e0, e1⟩ := idx3 ⟨(i 0).val / 512, ht⟩
  refine ⟨⟨(i 0).val / 512, ht⟩, flush0_3 _, ?_⟩
  refine Finset.mem_map.mpr ⟨ix2 ⟨(i 0).val % 512, Nat.mod_lt _ (by omega)⟩ ⟨(i 1).val, h1⟩, Finset.mem_univ _, ?_⟩
  refine (ix2_eta (((cfg0.win 3).blk ⟨(i 0).val / 512, ht⟩).view.emb (ix2 _ _)) h0 h1 ?_ ?_).trans (ix2_eta i h0 h1 rfl rfl).symm
  · change win0_3.index ⟨(i 0).val / 512, ht⟩ (0 : Fin 2) * 512 + 1 * ((i 0).val % 512) = _
    dsimp only at e0
    omega
  · change win0_3.index ⟨(i 0).val / 512, ht⟩ (1 : Fin 2) * 2816 + 1 * (i 1).val = _
    omega

end Cert.Kernel3Ideal.Hand

end
-- ==== Proof.Gate.Scalar.lean ====
module

public import Idealize.ShloMosaic.Lib.Pointwise
public import Idealize.ShloMosaic.Lib.ReduceAll

@[expose] public section

noncomputable section

/-! # The gate's derivative, two ways -/

namespace Cert.Gate

open Idealize Idealize.ShloMosaic

/-- The sigmoid. -/
def sig (a : EReal) : EReal := Ideal.div 1 (1 + Ideal.exp (-a))

theorem sig_top : sig ⊤ = 1 := by
  have e : Ideal.exp (-(⊤ : EReal)) = 0 := rfl
  unfold sig
  rw [e, add_zero]
  unfold Ideal.div
  rw [if_neg one_ne_zero, inv_one, mul_one]

theorem sig_bot : sig ⊥ = 0 := by
  have e : Ideal.exp (-(⊥ : EReal)) = ⊤ := rfl
  unfold sig
  rw [e, EReal.add_top_of_ne_bot (by decide)]
  unfold Ideal.div
  rw [if_neg (by decide), EReal.inv_top, mul_zero]

theorem sig_coe (r : ℝ) : ∃ s : ℝ, sig r = s := by
  have e : Ideal.exp (-(r : EReal)) = ((Real.exp (-r) : ℝ) : EReal) := rfl
  have hp : (0 : ℝ) < 1 + Real.exp (-r) := by positivity
  refine ⟨(1 + Real.exp (-r))⁻¹, ?_⟩
  unfold sig
  rw [e, ← EReal.coe_one, ← EReal.coe_add]
  unfold Ideal.div
  rw [if_neg (by exact_mod_cast hp.ne'), EReal.coe_one, one_mul, EReal.coe_inv]

/-- The derivative as a sum of two products is the derivative as one product. -/
theorem der_eq (a : EReal) (b : ℝ) : (b : EReal) * sig a + a * b * (sig a * (1 - sig a)) = b * (sig a * (1 + a * (1 - sig a))) := by
  induction a using EReal.rec with
  | bot => rw [sig_bot, zero_mul, zero_mul, mul_zero, mul_zero, add_zero]
  | top =>
    have e : (1 : EReal) - 1 = 0 := by
      rw [← EReal.coe_one, ← EReal.coe_sub, sub_self, EReal.coe_zero]
    rw [sig_top, e, mul_zero, mul_zero, mul_zero, add_zero, add_zero, mul_one, mul_one, mul_one]
  | coe r =>
    obtain ⟨s, hs⟩ := sig_coe r
    rw [hs, ← EReal.coe_one]
    norm_cast
    ring

/-- The derivative at a factor is the factor at the derivative. -/
theorem der_factor (a : EReal) (b d : ℝ) :
    (d : EReal) * b * sig a + a * (d * b) * (sig a * (1 - sig a)) = d * (b * sig a + a * b * (sig a * (1 - sig a))) := by
  rw [der_eq a b, ← EReal.coe_mul, der_eq a (d * b), EReal.coe_mul, mul_assoc]

/-- A sum of products of reals is real. -/
theorem real_sum {n : ℕ} (x y : Fin n → EReal) (hx : ∀ k, ∃ r : ℝ, x k = r) (hy : ∀ k, ∃ r : ℝ, y k = r) :
    ∃ r : ℝ, ∑ k : Fin n, x k * y k = r := by
  choose f hf using hx
  choose g hg using hy
  refine ⟨∑ k, f k * g k, ?_⟩
  have e : ∀ s : Finset (Fin n), ∑ k ∈ s, x k * y k = ((∑ k ∈ s, f k * g k : ℝ) : EReal) := by
    intro s
    classical
    induction s using Finset.induction_on with
    | empty => simp
    | insert k s hk ih => rw [Finset.sum_insert hk, Finset.sum_insert hk, ih, hf, hg, EReal.coe_add, EReal.coe_mul]
  exact e _

instance : Subsingleton (⟨0, ![]⟩ : Shape).Idx := ⟨fun _ _ => funext fun a => a.elim0⟩

/-- A value whose magnitude is below infinity is a real number. -/
theorem real_of_abs {x : EReal} (h : max x (-x) < ⊤) : ∃ r : ℝ, x = r := by
  have h1 : x ≠ ⊤ := fun e => by rw [e] at h; simp at h
  have h2 : x ≠ ⊥ := fun e => by rw [e] at h; simp at h
  exact ⟨x.toReal, (EReal.coe_toReal h1 h2).symm⟩

/-- One test of a precondition: every element of the array is real. -/
theorem real_of_test {s : Shape} (x : FVec Ideal s .f32) (hb : (⟨0, ![]⟩ : Shape).BroadcastsInDim s (![] : Fin 0 → Fin s.rank))
    {axes : List (Fin s.rank)} (hr : s.ReducesTo axes (⟨0, ![]⟩ : Shape)) (hu : 0 < (⟨0, ![]⟩ : Shape).numel)
    (h : Host.reduce IntOp.andi (cmpf .olt (Host.absf x) (broadcastInDim s ![] hb (constant (F := Ideal) (⟨0, ![]⟩ : Shape) .f32 0x7F800000#32)))
      (constantI (⟨0, ![]⟩ : Shape) 1 1#1) hr hu = fun _ => 1#1) (i : s.Idx) : ∃ r : ℝ, x i = r := by
  have e := Host.reduce_andi_all _ _ hr hu (fun a => a.elim0) (congrFun h _) i
  have e' : BitVec.ofBool (decide (max (x i) (-(x i)) < Ideal.ofBits FTy.f32 0x7F800000#32)) = 1#1 := e
  have hi : Ideal.ofBits FTy.f32 0x7F800000#32 = (⊤ : EReal) := by simp [Ideal.ofBits, Ideal.ieee]
  rw [hi] at e'
  by_cases hh : max (x i) (-(x i)) < ⊤
  · exact real_of_abs hh
  · rw [decide_eq_false hh] at e'
    exact absurd e' (by decide)

end Cert.Gate

end
-- ==== Proof.Gate.Claim.lean ====
module

public import proofs.«01_k».proof.Defs
public import proofs.«01_k».proof.Proof.Gate.Kernel
public import proofs.«01_k».proof.Proof.Gate.Scalar
public import proofs.«01_k».proof.Proof.Gen.Reference3Ideal.Read
public import proofs.«01_k».proof.Proof.Gen.Reference3Ideal.Run
public import Idealize.ShloMosaic.Lib.Claim

@[expose] public section

set_option maxRecDepth 16384

noncomputable section

/-! # The gate and its two gradients are the reference's -/

namespace Cert.Pre_finite_up

open Idealize Idealize.ShloMosaic

theorem facts : Facts where
  bitsLt_bf16_f32 := by decide
  bcast_S_S4096x1024 := by decide
  reducesTo_S4096x1024_S_d0_1 := by decide
  h_S_ := by decide
  bcast_S_S4x704x1024 := by decide
  reducesTo_S4x704x1024_S_d0_1_2 := by decide

variable [Facts]

theorem real_of_pre (h : FVec Ideal S4096x1024 .bf16) (g u : FVec Ideal S4x704x1024 .bf16)
    (hp : (fn (F := Ideal) h g u).1 = (fun _ => 1#1) ∧ (fn (F := Ideal) h g u).2 = fun _ => 1#1) :
    (∀ i, ∃ r : ℝ, h i = r) ∧ ∀ i, ∃ r : ℝ, u i = r := by
  unfold fn at hp
  dsimp only at hp
  exact ⟨Cert.Gate.real_of_test _ Facts.bcast_S_S4096x1024 Facts.reducesTo_S4096x1024_S_d0_1 Facts.h_S_ hp.1,
    Cert.Gate.real_of_test _ Facts.bcast_S_S4x704x1024 Facts.reducesTo_S4x704x1024_S_d0_1_2 Facts.h_S_ hp.2⟩

end Cert.Pre_finite_up

namespace Cert.Gate

open Idealize Idealize.ShloMosaic Idealize.SL.Sem
open Cert.Kernel3Ideal.Hand

section Reference

open Cert.Reference3Ideal.Read

variable (h : FVec Ideal Cert.Reference3Ideal.S4096x1024 .bf16) (g u : FVec Ideal Cert.Reference3Ideal.S4x704x1024 .bf16)
  (r : Fin 4096) (l : Fin 2816)

theorem pre_apply : val_main_v4 (F := Ideal) h g (ix2 r l) = up h g r l := by
  pointwise [val_main_v4, val_main_v0, val_main_v3, val_main_v2, val_main_v1, up]

theorem factor_apply : val_main_v9 (F := Ideal) h u (ix2 r l) = up h u r l := by
  pointwise [val_main_v9, val_main_v5, val_main_v8, val_main_v7, val_main_v6, up]

theorem sgm_eq (a : EReal) : sgm a = sig a := by
  unfold sgm sig
  rw [zero_sub]

theorem v16_apply : val_main_v16 (F := Ideal) h g (ix2 r l) = act (up h g r l) := by
  rw [← pre_apply]
  unfold act
  rw [sgm_eq]
  pointwise [val_main_v16, val_main_v13, val_main_v10_0, val_main_v12, val_main_cst, val_main_v10_2, val_main_call0_v4,
    val_main_call0_cst_0, val_main_call0_v3, val_main_call0_v2, val_main_call0_cst, val_main_call0_v1, val_main_call0_v0, sig]

theorem v17_apply (hu : ∃ b : ℝ, up h u r l = b) : val_main_v17 (F := Ideal) h g u (ix2 r l) = der (up h g r l) (up h u r l) := by
  obtain ⟨b, hb⟩ := hu
  unfold der
  rw [sgm_eq, hb, ← der_eq, ← hb, ← pre_apply h g, ← factor_apply h u]
  pointwise [val_main_v17, val_main_v15, val_main_v14, val_main_call1_v0, val_main_call1_v1, val_main_call1_v2, val_main_v12, val_main_cst,
    val_main_v10_2, val_main_v10_1, val_main_call0_v7, val_main_call0_v6, val_main_call0_cst_1, val_main_call0_v4, val_main_call0_cst_0,
    val_main_call0_v3, val_main_call0_v2, val_main_call0_cst, val_main_call0_v1, val_main_call0_v0, sig]

theorem v18_apply : val_main_v18 (F := Ideal) h g u (ix2 r l) = act (up h g r l) * up h u r l := by
  rw [← pre_apply h g, ← factor_apply h u]
  unfold act
  rw [sgm_eq]
  pointwise [val_main_v18, val_main_v11, val_main_v10_0, val_main_v10_2, val_main_call0_v4,
    val_main_call0_cst_0, val_main_call0_v3, val_main_call0_v2, val_main_call0_cst, val_main_call0_v1, val_main_call0_v0, sig]

end Reference

variable (m : (ℓ : Loc Cert.Kernel3Ideal.nD Cert.Kernel3Ideal.τ Cert.Kernel3Ideal.sig) → Buf (Elt Ideal) ℓ)

/-- The reference's three results, in the arrays of the kernel. -/
theorem results_eq (h : FVec Ideal Cert.Reference3Ideal.S4096x1024 .bf16) (g u : FVec Ideal Cert.Reference3Ideal.S4x704x1024 .bf16)
    (c : Dev Cert.Kernel3Ideal.nD) (h0 : h = argH m c) (h1 : g = argG m c) (h2 : u = argU m c)
    (hh : ∀ i, ∃ r : ℝ, argH m c i = r) (hu : ∀ i, ∃ r : ℝ, argU m c i = r) :
    Cert.Reference3Ideal.Read.val_main_v16 (F := Ideal) h g = G1 m c
    ∧ Cert.Reference3Ideal.Read.val_main_v17 (F := Ideal) h g u = G2 m c
    ∧ Cert.Reference3Ideal.Read.val_main_v18 (F := Ideal) h g u = G3 m c := by
  subst h0 h1 h2
  refine ⟨funext fun i => ?_, funext fun i => ?_, funext fun i => ?_⟩
  · rw [ix2_eta i (i 0).isLt (i 1).isLt rfl rfl]
    exact v16_apply _ _ _ _
  · rw [ix2_eta i (i 0).isLt (i 1).isLt rfl rfl]
    exact v17_apply _ _ _ _ _ (real_sum _ _ (fun k => hh _) fun k => hu _)
  · rw [ix2_eta i (i 0).isLt (i 1).isLt rfl rfl]
    exact v18_apply _ _ _ _ _

theorem algebraic : Cert.algebraic_Kernel3Ideal_Reference3Ideal_pre_finite_up (hKernel3Ideal := Cert.Kernel3Ideal.Gen.facts)
    (hReference3Ideal := Cert.Reference3Ideal.Gen.facts) (hPre_finite_up := Cert.Pre_finite_up.facts) := by
  intro m g m' g' hpre hag
  refine ⟨G1 m, G2 m, G3 m, (θ_run Cert.Kernel3Ideal.defs _ _).mono (fun r h c => ?_) (Cert.Kernel3Ideal.Value.run_blocks m g), ?_⟩
  · obtain ⟨r0, r1, r2, ra⟩ := h c
    exact ⟨r0.trans (final1 m c), r1.trans (final2 m c), r2.trans (final3 m c), ra⟩
  refine (θ_run Cert.Reference3Ideal.defs _ _).mono (fun r h c => ?_) (Cert.Reference3Ideal.Value.run (F := Ideal) m' g')
  obtain ⟨r0, r1, r2, ra⟩ := h c
  obtain ⟨a0, a1, a2⟩ := hag c
  obtain ⟨f0, f2⟩ := @Cert.Pre_finite_up.real_of_pre Cert.Pre_finite_up.facts _ _ _ (hpre c)
  obtain ⟨e0, e1, e2⟩ := results_eq m _ _ _ c a0 a1 a2 f0 f2
  exact ⟨(r0.trans (Cert.Reference3Ideal.Read.val_main_v16_eq _ _)).trans e0,
    (r1.trans (Cert.Reference3Ideal.Read.val_main_v17_eq _ _ _)).trans e1,
    (r2.trans (Cert.Reference3Ideal.Read.val_main_v18_eq _ _ _)).trans e2, ra⟩

end Cert.Gate

end
-- ==== Proof.Act.Kernel.lean ====
module

public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

/-! # The gradients of the gate's two factors

Point `t` of the grid is at rows `512 * t` on. The first copies the weight whole into the scratch, where every point reads it;
each writes its rows of the two results in four chunks of columns: the rows that come in against the weight, at one of the gate's
two derivatives. -/

namespace Cert.Kernel4Ideal.Hand

open Cert.Kernel4Ideal Cert.Kernel4Ideal.Gen Cert.Kernel4Ideal.Value
open Idealize.ShloMosaic Idealize.ShloMosaic.TcCoe Idealize.SL.Sem

theorem hz : (![0, 0] : Fin 2 → Nat) = fun _ => 0 := funext fun a => by fin_cases a <;> rfl

/-- What one whole store leaves. -/
theorem canon_whole {s : Shape} {e : EltTy} {Val : EltTy → Type} [∀ e, Nonempty (Val e)] (w : s.Idx → Val e) :
    View.canon [(⟨Rect.whole s, w⟩ : View.Piece Val s e)] = w := by
  funext j
  refine Eq.trans ?_ (View.canon_cons_emb (Rect.whole s) w [] j)
  congr 1
  funext a
  apply Fin.ext
  change _ = 0 + 1 * _
  rw [Nat.zero_add, Nat.one_mul]

/-- A load out of what one whole store left. -/
theorem readCov_whole {sig : RefSig} {κ : Kind} {sp : Space} {s : Shape} {e : EltTy} {Val : EltTy → Type} [∀ e, Nonempty (Val e)]
    (v : View sig κ sp s e) (w : s.Idx → Val e) (r : Rect s) :
    v.readCov [(⟨Rect.whole s, w⟩ : View.Piece Val s e)] r.toLoadRect = View.ld w r := by
  rw [View.readCov_eq_canon', canon_whole]

/-- The sigmoid. -/
def sgm (a : EReal) : EReal := Ideal.div 1 (1 + Ideal.exp (-a))

/-- The gate's derivative in its first factor. -/
def derA (a b : EReal) : EReal := 1 * b * sgm a + a * (1 * b) * (sgm a * (1 - sgm a))

/-- The gate's derivative in its second factor. -/
def derB (a : EReal) : EReal := a * sgm a * 1

/-- A block of rows against the rows of a weight. -/
def mm (x : FVec Ideal S512x1024 .bf16) (w : FVec Ideal S2816x1024 .bf16) (r : Fin 512) (l : Fin 2816) : EReal :=
  ∑ k : Fin 1024, x (ix2 r k) * w (ix2 l k)

theorem ix2_eta {n0 n1 : ℕ} (i : (⟨2, ![n0, n1]⟩ : Shape).Idx) {a b : ℕ} (ha : a < n0) (hb : b < n1)
    (h0 : (i 0).val = a) (h1 : (i 1).val = b) : i = ix2 ⟨a, ha⟩ ⟨b, hb⟩ := by
  subst h0 h1
  funext x
  fin_cases x <;> rfl

/-- An index in a chunk of columns. -/
theorem mem_cols {o n : ℕ} (inb : ∀ a, (![0, o] : Fin 2 → ℕ) a + (![512, n] : Fin 2 → ℕ) a ≤ S512x2816.size a) (y : S512x2816.Idx)
    (h0 : (y 0).val < 512) (h1 : o ≤ (y 1).val) (h2 : (y 1).val < o + n) : y ∈ (Rect.unit (s := S512x2816) ![0, o] ![512, n] inb).set :=
  Rect.mem_set_unit.2 fun a => match a with
    | ⟨0, _⟩ => ⟨Nat.zero_le _, by change (y 0).val < 0 + 512; omega⟩
    | ⟨1, _⟩ => ⟨h1, h2⟩

/-- An output written in its four column chunks, at one index. -/
theorem cols_apply (g : Fin 512 → Fin 2816 → EReal) (p0 p1 p2 : FVec Ideal S512x768 .bf16) (p3 : FVec Ideal S512x512 .bf16)
    (e0 : ∀ (r : Fin 512) (l : Fin 768), p0 (ix2 r l) = g r ⟨l.val, by omega⟩)
    (e1 : ∀ (r : Fin 512) (l : Fin 768), p1 (ix2 r l) = g r ⟨768 + l.val, by omega⟩)
    (e2 : ∀ (r : Fin 512) (l : Fin 768), p2 (ix2 r l) = g r ⟨1536 + l.val, by omega⟩)
    (e3 : ∀ (r : Fin 512) (l : Fin 512), p3 (ix2 r l) = g r ⟨2304 + l.val, by omega⟩) :
    View.canon [(⟨Rect.unit ![0, 2304] ![512, 512] inb_S512x2816_S512x512_0_2304, p3⟩ : View.Piece (Elt Ideal) S512x2816 .bf16),
      ⟨Rect.unit ![0, 1536] ![512, 768] inb_S512x2816_S512x768_0_1536, p2⟩,
      ⟨Rect.unit ![0, 768] ![512, 768] inb_S512x2816_S512x768_0_768, p1⟩,
      ⟨Rect.unit ![0, 0] ![512, 768] inb_S512x2816_S512x768_0_0, p0⟩] = (fun y => g (y 0) (y 1) : FVec Ideal S512x2816 .bf16) := by
  funext y
  have hy0 : (y 0).val < 512 := (y 0).isLt
  have hy1 : (y 1).val < 2816 := (y 1).isLt
  refine View.canon_apply_of_pieces (Val := Elt Ideal) (e := .bf16) (fun y => g (y 0) (y 1)) _ ?_ y ?_
  · intro pc hpc x
    rcases List.mem_cons.mp hpc with rfl | hpc
    · refine ((congrArg p3 (ix2_eta x (x 0).isLt (x 1).isLt rfl rfl)).trans (e3 _ _)).trans (congrArg₂ g (Fin.ext ?_) (Fin.ext ?_))
      · change (x 0).val = 0 + 1 * (x 0).val
        omega
      · change 2304 + (x 1).val = 2304 + 1 * (x 1).val
        omega
    rcases List.mem_cons.mp hpc with rfl | hpc
    · refine ((congrArg p2 (ix2_eta x (x 0).isLt (x 1).isLt rfl rfl)).trans (e2 _ _)).trans (congrArg₂ g (Fin.ext ?_) (Fin.ext ?_))
      · change (x 0).val = 0 + 1 * (x 0).val
        omega
      · change 1536 + (x 1).val = 1536 + 1 * (x 1).val
        omega
    rcases List.mem_cons.mp hpc with rfl | hpc
    · refine ((congrArg p1 (ix2_eta x (x 0).isLt (x 1).isLt rfl rfl)).trans (e1 _ _)).trans (congrArg₂ g (Fin.ext ?_) (Fin.ext ?_))
      · change (x 0).val = 0 + 1 * (x 0).val
        omega
      · change 768 + (x 1).val = 768 + 1 * (x 1).val
        omega
    rcases List.mem_cons.mp hpc with rfl | hpc
    · refine ((congrArg p0 (ix2_eta x (x 0).isLt (x 1).isLt rfl rfl)).trans (e0 _ _)).trans (congrArg₂ g (Fin.ext ?_) (Fin.ext ?_))
      · change (x 0).val = 0 + 1 * (x 0).val
        omega
      · change (x 1).val = 0 + 1 * (x 1).val
        omega
    · exact absurd hpc List.not_mem_nil
  · by_cases h3 : 2304 ≤ (y 1).val
    · refine ⟨_, List.mem_cons_self, mem_cols inb_S512x2816_S512x512_0_2304 y hy0 (by omega) (by omega)⟩
    by_cases h2 : 1536 ≤ (y 1).val
    · refine ⟨_, List.mem_cons_of_mem _ List.mem_cons_self, mem_cols inb_S512x2816_S512x768_0_1536 y hy0 (by omega) (by omega)⟩
    by_cases h1 : 768 ≤ (y 1).val
    · refine ⟨_, List.mem_cons_of_mem _ (List.mem_cons_of_mem _ List.mem_cons_self), mem_cols inb_S512x2816_S512x768_0_768 y hy0 (by omega) (by omega)⟩
    · refine ⟨_, List.mem_cons_of_mem _ (List.mem_cons_of_mem _ (List.mem_cons_of_mem _ List.mem_cons_self)), mem_cols inb_S512x2816_S512x768_0_0 y hy0 (by omega) (by omega)⟩

section Terms

variable (c : Dev nD) (i : grid0.Coords) (a1 : Memref sig .tc .vmem S512x1024 .bf16) (h1 : a1.IsWhole)
  (a3 : Memref sig .tc .vmem S512x2816 .bf16) (h3 : a3.IsWhole) (a4 : Memref sig .tc .vmem S512x2816 .bf16) (h4 : a4.IsWhole)
  (a5 : Memref sig .tc .vmem S512x2816 .bf16) (h5 : a5.IsWhole) (a6 : Memref sig .tc .vmem S512x2816 .bf16) (h6 : a6.IsWhole)
  (a7 : Memref sig .tc .vmem S2816x1024 .bf16) (h7 : a7.IsWhole)
  (x0 : Vec Ideal S512x1024 .bf16) (x1 x2 : Vec Ideal S512x2816 .bf16) (w0 : Vec Ideal S2816x1024 .bf16) (f0 : HbBuf0 (F := Ideal) c hbM0_0)

theorem outA3 (hc0) : out0_A_3 (F := Ideal) c i a1 h1 a3 h3 a4 h4 a5 h5 a6 h6 a7 h7 hc0 x0 x1 x2 f0
    = fun y => mm x0 f0 (y 0) (y 1) * x2 (ix2 (n0 := 512) (n1 := 2816) (y 0) (y 1)) := by
  unfold out0_A_3
  rw [View.read_writes_junk_eq_canon]
  unfold kernelRun0_A
  dsimp only
  sl_unfold_words
  simp only [View.readAt_eq_ld, h1.read_unread, h3.read_unread, h4.read_unread, readCov_whole, View.ld_unit_zero (S := S512x1024) hz]
  refine cols_apply (fun r l => mm x0 f0 r l * x2 (ix2 r l)) _ _ _ _ (fun r l => ?_) (fun r l => ?_) (fun r l => ?_) (fun r l => ?_)
  · pointwise [k0_pay9, k0_pay7, mm]
    rfl
  · pointwise [k0_pay13, k0_pay8, mm]
    rfl
  · pointwise [k0_pay3, k0_pay11, mm]
    rfl
  · pointwise [k0_pay5, k0_pay2, mm]
    rfl

theorem outA4 (hc0) : out0_A_4 (F := Ideal) c i a1 h1 a3 h3 a4 h4 a5 h5 a6 h6 a7 h7 hc0 x0 x1 x2 f0
    = fun y => mm x0 f0 (y 0) (y 1) * x1 (ix2 (n0 := 512) (n1 := 2816) (y 0) (y 1)) := by
  unfold out0_A_4
  rw [View.read_writes_junk_eq_canon]
  unfold kernelRun0_A
  dsimp only
  sl_unfold_words
  simp only [View.readAt_eq_ld, h1.read_unread, h3.read_unread, h4.read_unread, readCov_whole, View.ld_unit_zero (S := S512x1024) hz]
  refine cols_apply (fun r l => mm x0 f0 r l * x1 (ix2 r l)) _ _ _ _ (fun r l => ?_) (fun r l => ?_) (fun r l => ?_) (fun r l => ?_)
  · pointwise [k0_pay10, k0_pay7, mm]
    rfl
  · pointwise [k0_pay1, k0_pay12, k0_pay8, mm]
    rfl
  · pointwise [k0_pay4, k0_pay11, mm]
    rfl
  · pointwise [k0_pay6, k0_pay2, mm]
    rfl

theorem outB3 (hc0) : out0_B_3 (F := Ideal) c i a1 h1 a3 h3 a4 h4 a5 h5 a6 h6 a7 h7 hc0 x0 x1 x2 w0 f0
    = fun y => mm x0 w0 (y 0) (y 1) * x2 (ix2 (n0 := 512) (n1 := 2816) (y 0) (y 1)) := by
  unfold out0_B_3
  rw [View.read_writes_junk_eq_canon]
  unfold kernelRun0_B
  dsimp only
  sl_unfold_words
  simp only [View.readAt_eq_ld, h1.read_unread, h3.read_unread, h4.read_unread, h7.read_unread, View.ld_unit_zero (S := S512x1024) hz]
  refine cols_apply (fun r l => mm x0 w0 r l * x2 (ix2 r l)) _ _ _ _ (fun r l => ?_) (fun r l => ?_) (fun r l => ?_) (fun r l => ?_)
  · pointwise [k0_pay9, k0_pay7, mm]
  · pointwise [k0_pay13, k0_pay8, mm]
  · pointwise [k0_pay3, k0_pay11, mm]
  · pointwise [k0_pay5, k0_pay2, mm]

theorem outB4 (hc0) : out0_B_4 (F := Ideal) c i a1 h1 a3 h3 a4 h4 a5 h5 a6 h6 a7 h7 hc0 x0 x1 x2 w0 f0
    = fun y => mm x0 w0 (y 0) (y 1) * x1 (ix2 (n0 := 512) (n1 := 2816) (y 0) (y 1)) := by
  unfold out0_B_4
  rw [View.read_writes_junk_eq_canon]
  unfold kernelRun0_B
  dsimp only
  sl_unfold_words
  simp only [View.readAt_eq_ld, h1.read_unread, h3.read_unread, h4.read_unread, h7.read_unread, View.ld_unit_zero (S := S512x1024) hz]
  refine cols_apply (fun r l => mm x0 w0 r l * x1 (ix2 r l)) _ _ _ _ (fun r l => ?_) (fun r l => ?_) (fun r l => ?_) (fun r l => ?_)
  · pointwise [k0_pay10, k0_pay7, mm]
  · pointwise [k0_pay1, k0_pay12, k0_pay8, mm]
  · pointwise [k0_pay4, k0_pay11, mm]
  · pointwise [k0_pay6, k0_pay2, mm]

theorem soutA0 (hc0) : sout0_A_0 (F := Ideal) c i a1 h1 a3 h3 a4 h4 a5 h5 a6 h6 a7 h7 hc0 x0 x1 x2 f0 = f0 := by
  unfold sout0_A_0
  rw [View.read_writes_junk_eq_canon]
  unfold kernelRun0_A
  dsimp only
  sl_unfold_words
  exact canon_whole _

theorem soutB0 (hc0) : sout0_B_0 (F := Ideal) c i a1 h1 a3 h3 a4 h4 a5 h5 a6 h6 a7 h7 hc0 x0 x1 x2 w0 f0 = w0 := rfl

end Terms

variable (m : (ℓ : Loc nD τ sig) → Buf (Elt Ideal) ℓ)

/-- The gate's preactivation. -/
abbrev argA (c : Dev nD) : FVec Ideal S4096x2816 .f32 := m ((c : Thread nD τ).loc main_arg0)

/-- The gate's other factor. -/
abbrev argB (c : Dev nD) : FVec Ideal S4096x2816 .f32 := m ((c : Thread nD τ).loc main_arg1)

/-- The weight. -/
abbrev argW (c : Dev nD) : FVec Ideal S4x704x1024 .bf16 := m ((c : Thread nD τ).loc main_arg2)

/-- The gradient that comes in. -/
abbrev argD (c : Dev nD) : FVec Ideal S4096x1024 .bf16 := m ((c : Thread nD τ).loc main_arg3)

/-- The rows against a weight given in four chunks of its own rows. -/
def up (h : FVec Ideal S4096x1024 .bf16) (w : FVec Ideal S4x704x1024 .bf16) (r : Fin 4096) (l : Fin 2816) : EReal :=
  ∑ k : Fin 1024, h (ix2 r k) * w (ix3 ⟨l.val / 704, by omega⟩ ⟨l.val % 704, Nat.mod_lt _ (by decide)⟩ k)

/-- What one point leaves: the two results at its rows, the weight in the scratch. -/
def at' (c : Dev nD) (t : Fin cfg0.N) : Vec Ideal S512x2816 .bf16 × Vec Ideal S512x2816 .bf16 × Vec Ideal S2816x1024 .bf16 :=
  (fun y => mm (iblk m c 0 t) (V m c main_v8) (y 0) (y 1) * (iblk m c 2 t : Vec Ideal S512x2816 .bf16) (ix2 (n0 := 512) (n1 := 2816) (y 0) (y 1)),
    fun y => mm (iblk m c 0 t) (V m c main_v8) (y 0) (y 1) * (iblk m c 1 t : Vec Ideal S512x2816 .bf16) (ix2 (n0 := 512) (n1 := 2816) (y 0) (y 1)),
    V m c main_v8)

theorem outs_eq (c : Dev nD) : ∀ (n : ℕ) (hn : n < cfg0.N), outsAt0 m c n hn = at' m c ⟨n, hn⟩
  | 0, hn => by
    refine (outsAt0_A m c ⟨0, hn⟩ rfl).trans ?_
    unfold at'
    rw [outA3, outA4, soutA0]
  | n + 1, hn => by
    have hN : cfg0.N = 8 := N_0
    refine (outsAt0_B m c ⟨n + 1, hn⟩ (by dsimp only; omega)).trans ?_
    have ih := outs_eq c n (Nat.lt_of_succ_lt hn)
    have e : outsAt0 m c ((⟨n + 1, hn⟩ : Fin cfg0.N).val - 1) (Nat.lt_of_le_of_lt (Nat.sub_le _ _) hn) = at' m c ⟨n, Nat.lt_of_succ_lt hn⟩ := ih
    rw [e, outB3, outB4, soutB0]
    rfl

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem iblk_d (c : Dev nD) (t : Fin cfg0.N) (r : Fin 512) (k : Fin 1024) (hr : 512 * t.val + r.val < 4096) :
    (iblk m c 0 t : Vec Ideal S512x1024 .bf16) (ix2 r k) = argD m c (ix2 ⟨512 * t.val + r.val, hr⟩ k) := by
  obtain ⟨e0, e1⟩ := idx0 t
  refine (congrArg (V m c main_arg3 : FVec Ideal S4096x1024 .bf16) (ix2_eta (((cfg0.win 0).blk t).view.emb (ix2 r k)) hr k.isLt ?_ ?_)).trans
    (congrFun (V_main_arg3 m c) _)
  · change win0_0.index t (0 : Fin 2) * 512 + 1 * r.val = _
    omega
  · change win0_0.index t (1 : Fin 2) * 1024 + 1 * k.val = _
    omega

theorem V_db (c : Dev nD) (r : Fin 4096) (l : Fin 2816) :
    (V m c main_v6 : FVec Ideal S4096x2816 .bf16) (ix2 r l) = derB (argA m c (ix2 r l)) := by
  unfold V
  after_reads_at
  pointwise [derB, sgm]

theorem V_da (c : Dev nD) (r : Fin 4096) (l : Fin 2816) :
    (V m c main_v7 : FVec Ideal S4096x2816 .bf16) (ix2 r l) = derA (argA m c (ix2 r l)) (argB m c (ix2 r l)) := by
  unfold V
  after_reads_at
  pointwise [derA, sgm]

theorem V_w (c : Dev nD) (l : Fin 2816) (k : Fin 1024) :
    (V m c main_v8 : FVec Ideal S2816x1024 .bf16) (ix2 l k)
      = argW m c (ix3 ⟨l.val / 704, by omega⟩ ⟨l.val % 704, Nat.mod_lt _ (by decide)⟩ k) := by
  unfold V
  after_reads_at

theorem iblk_db (c : Dev nD) (t : Fin cfg0.N) (r : Fin 512) (l : Fin 2816) (hr : 512 * t.val + r.val < 4096) :
    (iblk m c 1 t : Vec Ideal S512x2816 .bf16) (ix2 r l) = derB (argA m c (ix2 ⟨512 * t.val + r.val, hr⟩ l)) := by
  obtain ⟨e0, e1⟩ := idx1 t
  refine (congrArg (V m c main_v6 : FVec Ideal S4096x2816 .bf16) (ix2_eta (((cfg0.win 1).blk t).view.emb (ix2 r l)) hr l.isLt ?_ ?_)).trans
    (V_db m c _ _)
  · change win0_1.index t (0 : Fin 2) * 512 + 1 * r.val = _
    omega
  · change win0_1.index t (1 : Fin 2) * 2816 + 1 * l.val = _
    omega

theorem iblk_da (c : Dev nD) (t : Fin cfg0.N) (r : Fin 512) (l : Fin 2816) (hr : 512 * t.val + r.val < 4096) :
    (iblk m c 2 t : Vec Ideal S512x2816 .bf16) (ix2 r l) = derA (argA m c (ix2 ⟨512 * t.val + r.val, hr⟩ l)) (argB m c (ix2 ⟨512 * t.val + r.val, hr⟩ l)) := by
  obtain ⟨e0, e1⟩ := idx2 t
  refine (congrArg (V m c main_v7 : FVec Ideal S4096x2816 .bf16) (ix2_eta (((cfg0.win 2).blk t).view.emb (ix2 r l)) hr l.isLt ?_ ?_)).trans
    (V_da m c _ _)
  · change win0_2.index t (0 : Fin 2) * 512 + 1 * r.val = _
    omega
  · change win0_2.index t (1 : Fin 2) * 2816 + 1 * l.val = _
    omega

theorem mm_w (c : Dev nD) (t : Fin cfg0.N) (r : Fin 512) (l : Fin 2816) (hr : 512 * t.val + r.val < 4096) :
    mm (iblk m c 0 t) (V m c main_v8) r l = up (argD m c) (argW m c) ⟨512 * t.val + r.val, hr⟩ l := by
  unfold mm up
  refine Finset.sum_congr rfl fun k _ => ?_
  rw [iblk_d m c t r k hr, V_w]

/-- The gradient of the preactivation. -/
def G3 (c : Dev nD) : FVec Ideal S4096x2816 .bf16 := fun i =>
  up (argD m c) (argW m c) (i 0) (i 1) * derA (argA m c (ix2 (n0 := 4096) (n1 := 2816) (i 0) (i 1))) (argB m c (ix2 (n0 := 4096) (n1 := 2816) (i 0) (i 1)))

/-- The gradient of the other factor. -/
def G4 (c : Dev nD) : FVec Ideal S4096x2816 .bf16 := fun i =>
  up (argD m c) (argW m c) (i 0) (i 1) * derB (argA m c (ix2 (n0 := 4096) (n1 := 2816) (i 0) (i 1)))

theorem idx3 : ∀ t : Fin cfg0.N, win0_3.index t (0 : Fin 2) = t.val ∧ win0_3.index t (1 : Fin 2) = 0 :=
  (by decide +kernel : ∀ t : Fin grid0.N, _)

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, outs_eq]
  funext y
  have e : ∀ y : S512x2816.Idx, (at' m c t).1 y = G3 m c (((cfg0.win 3).blk t).view.emb y) := fun y => by
    obtain ⟨e0, e1⟩ := idx3 t
    have hN : cfg0.N = 8 := N_0
    have ht := t.isLt
    obtain ⟨r, l, rfl⟩ : ∃ (r : Fin 512) (l : Fin 2816), y = ix2 r l := ⟨y 0, y 1, ix2_eta y (y 0).isLt (y 1).isLt rfl rfl⟩
    have hr : 512 * t.val + r.val < 4096 := by have := r.isLt; omega
    rw [ix2_eta (((cfg0.win 3).blk t).view.emb (ix2 r l)) hr l.isLt
      (by change win0_3.index t (0 : Fin 2) * 512 + 1 * r.val = _; omega) (by change win0_3.index t (1 : Fin 2) * 2816 + 1 * l.val = _; omega)]
    unfold at' G3
    exact congrArg₂ (fun a b : EReal => a * b) (mm_w m c t r l hr) (iblk_da m c t r l hr)
  exact e y

theorem final3 (c : Dev nD) : (dats m 0 c).arrAt 3 cfg0.N = G3 m c := by
  refine (dats m 0 c).arrAt_eq_of_cover 3 _ (fun t _ => flushed3_eq m c t) fun i => ?_
  have hN : cfg0.N = 8 := N_0
  have h0 : (i 0).val < 4096 := (i 0).isLt
  have h1 : (i 1).val < 2816 := (i 1).isLt
  have ht : (i 0).val / 512 < cfg0.N := by omega
  obtain ⟨e0, e1⟩ := idx3 ⟨(i 0).val / 512, ht⟩
  refine ⟨⟨(i 0).val / 512, ht⟩, flush0_3 _, ?_⟩
  refine Finset.mem_map.mpr ⟨ix2 ⟨(i 0).val % 512, Nat.mod_lt _ (by omega)⟩ ⟨(i 1).val, h1⟩, Finset.mem_univ _, ?_⟩
  refine (ix2_eta (((cfg0.win 3).blk ⟨(i 0).val / 512, ht⟩).view.emb (ix2 _ _)) h0 h1 ?_ ?_).trans (ix2_eta i h0 h1 rfl rfl).symm
  · change win0_3.index ⟨(i 0).val / 512, ht⟩ (0 : Fin 2) * 512 + 1 * ((i 0).val % 512) = _
    dsimp only at e0
    omega
  · change win0_3.index ⟨(i 0).val / 512, ht⟩ (1 : Fin 2) * 2816 + 1 * (i 1).val = _
    omega

theorem idx4 : ∀ t : Fin cfg0.N, win0_4.index t (0 : Fin 2) = t.val ∧ win0_4.index t (1 : Fin 2) = 0 :=
  (by decide +kernel : ∀ t : Fin grid0.N, _)

theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, outs_eq]
  funext y
  have e : ∀ y : S512x2816.Idx, (at' m c t).2.1 y = G4 m c (((cfg0.win 4).blk t).view.emb y) := fun y => by
    obtain ⟨e0, e1⟩ := idx4 t
    have hN : cfg0.N = 8 := N_0
    have ht := t.isLt
    obtain ⟨r, l, rfl⟩ : ∃ (r : Fin 512) (l : Fin 2816), y = ix2 r l := ⟨y 0, y 1, ix2_eta y (y 0).isLt (y 1).isLt rfl rfl⟩
    have hr : 512 * t.val + r.val < 4096 := by have := r.isLt; omega
    rw [ix2_eta (((cfg0.win 4).blk t).view.emb (ix2 r l)) hr l.isLt
      (by change win0_4.index t (0 : Fin 2) * 512 + 1 * r.val = _; omega) (by change win0_4.index t (1 : Fin 2) * 2816 + 1 * l.val = _; omega)]
    unfold at' G4
    exact congrArg₂ (fun a b : EReal => a * b) (mm_w m c t r l hr) (iblk_db m c t r l hr)
  exact e y

theorem final4 (c : Dev nD) : (dats m 0 c).arrAt 4 cfg0.N = G4 m c := by
  refine (dats m 0 c).arrAt_eq_of_cover 4 _ (fun t _ => flushed4_eq m c t) fun i => ?_
  have hN : cfg0.N = 8 := N_0
  have h0 : (i 0).val < 4096 := (i 0).isLt
  have h1 : (i 1).val < 2816 := (i 1).isLt
  have ht : (i 0).val / 512 < cfg0.N := by omega
  obtain ⟨e0, e1⟩ := idx4 ⟨(i 0).val / 512, ht⟩
  refine ⟨⟨(i 0).val / 512, ht⟩, flush0_4 _, ?_⟩
  refine Finset.mem_map.mpr ⟨ix2 ⟨(i 0).val % 512, Nat.mod_lt _ (by omega)⟩ ⟨(i 1).val, h1⟩, Finset.mem_univ _, ?_⟩
  refine (ix2_eta (((cfg0.win 4).blk ⟨(i 0).val / 512, ht⟩).view.emb (ix2 _ _)) h0 h1 ?_ ?_).trans (ix2_eta i h0 h1 rfl rfl).symm
  · change win0_4.index ⟨(i 0).val / 512, ht⟩ (0 : Fin 2) * 512 + 1 * ((i 0).val % 512) = _
    dsimp only at e0
    omega
  · change win0_4.index ⟨(i 0).val / 512, ht⟩ (1 : Fin 2) * 2816 + 1 * (i 1).val = _
    omega

end Cert.Kernel4Ideal.Hand

end
-- ==== Proof.Act.Claim.lean ====
module

public import proofs.«01_k».proof.Defs
public import proofs.«01_k».proof.Proof.Act.Kernel
public import proofs.«01_k».proof.Proof.Gate.Scalar
public import proofs.«01_k».proof.Proof.Gen.Reference4Ideal.Read
public import proofs.«01_k».proof.Proof.Gen.Reference4Ideal.Run
public import Idealize.ShloMosaic.Lib.Claim

@[expose] public section

set_option maxRecDepth 16384

noncomputable section

/-! # The gradients of the gate's two factors are the reference's -/

namespace Cert.Pre_finite_act

open Idealize Idealize.ShloMosaic

theorem facts : Facts where
  bcast_S_S4096x2816 := by decide
  reducesTo_S4096x2816_S_d0_1 := by decide
  h_S_ := by decide
  bitsLt_bf16_f32 := by decide
  bcast_S_S4x704x1024 := by decide
  reducesTo_S4x704x1024_S_d0_1_2 := by decide
  bcast_S_S4096x1024 := by decide
  reducesTo_S4096x1024_S_d0_1 := by decide

variable [Facts]

theorem real_of_pre (a b : FVec Ideal S4096x2816 .f32) (w : FVec Ideal S4x704x1024 .bf16) (d : FVec Ideal S4096x1024 .bf16)
    (hp : (fn (F := Ideal) a b w d).1 = (fun _ => 1#1) ∧ (fn (F := Ideal) a b w d).2.1 = (fun _ => 1#1)
      ∧ (fn (F := Ideal) a b w d).2.2 = fun _ => 1#1) :
    (∀ i, ∃ r : ℝ, b i = r) ∧ (∀ i, ∃ r : ℝ, w i = r) ∧ ∀ i, ∃ r : ℝ, d i = r := by
  unfold fn at hp
  dsimp only at hp
  exact ⟨Cert.Gate.real_of_test _ Facts.bcast_S_S4096x2816 Facts.reducesTo_S4096x2816_S_d0_1 Facts.h_S_ hp.1,
    Cert.Gate.real_of_test _ Facts.bcast_S_S4x704x1024 Facts.reducesTo_S4x704x1024_S_d0_1_2 Facts.h_S_ hp.2.1,
    Cert.Gate.real_of_test _ Facts.bcast_S_S4096x1024 Facts.reducesTo_S4096x1024_S_d0_1 Facts.h_S_ hp.2.2⟩

end Cert.Pre_finite_act

namespace Cert.Act

open Idealize Idealize.ShloMosaic Idealize.SL.Sem
open Cert.Gate (sig der_factor real_sum)
open Cert.Kernel4Ideal.Hand

section Reference

open Cert.Reference4Ideal.Read

variable (a b : FVec Ideal Cert.Reference4Ideal.S4096x2816 .f32) (w : FVec Ideal Cert.Reference4Ideal.S4x704x1024 .bf16)
  (d : FVec Ideal Cert.Reference4Ideal.S4096x1024 .bf16) (r : Fin 4096) (l : Fin 2816)

theorem v6_apply : val_main_v6 (F := Ideal) w d (ix2 r l) = up d w r l := by
  pointwise [val_main_v6, val_main_v5, val_main_v3, val_main_v2, up]

theorem v10_open : val_main_v10 (F := Ideal) a b w d (ix2 r l)
    = val_main_v6 (F := Ideal) w d (ix2 r l) * b (ix2 r l) * sig (a (ix2 r l))
      + a (ix2 r l) * (val_main_v6 (F := Ideal) w d (ix2 r l) * b (ix2 r l)) * (sig (a (ix2 r l)) * (1 - sig (a (ix2 r l)))) := by
  pointwise [val_main_v10, val_main_v9, val_main_v8, val_main_call1_v0, val_main_call1_v1, val_main_call1_v2,
    val_main_v0_2, val_main_v0_1, val_main_call0_v7, val_main_call0_v6, val_main_call0_cst_1, val_main_call0_v4, val_main_call0_cst_0,
    val_main_call0_v3, val_main_call0_v2, val_main_call0_cst, val_main_call0_v1, val_main_call0_v0, sig]

theorem v11_open : val_main_v11 (F := Ideal) a w d (ix2 r l)
    = a (ix2 r l) * sig (a (ix2 r l)) * val_main_v6 (F := Ideal) w d (ix2 r l) := by
  pointwise [val_main_v11, val_main_v7, val_main_v0_0, val_main_v0_2, val_main_call0_v4, val_main_call0_cst_0,
    val_main_call0_v3, val_main_call0_v2, val_main_call0_cst, val_main_call0_v1, val_main_call0_v0, sig]

theorem v10_apply (hb : ∃ x : ℝ, b (ix2 r l) = x) (hd : ∃ x : ℝ, up d w r l = x) :
    val_main_v10 (F := Ideal) a b w d (ix2 r l) = up d w r l * derA (a (ix2 r l)) (b (ix2 r l)) := by
  obtain ⟨x, hx⟩ := hb
  obtain ⟨y, hy⟩ := hd
  rw [v10_open, v6_apply, hx, hy, der_factor]
  unfold derA
  rw [one_mul]
  rfl

theorem v11_apply : val_main_v11 (F := Ideal) a w d (ix2 r l) = up d w r l * derB (a (ix2 r l)) := by
  rw [v11_open, v6_apply]
  unfold derB
  rw [mul_one, mul_comm]
  rfl

end Reference

variable (m : (ℓ : Loc Cert.Kernel4Ideal.nD Cert.Kernel4Ideal.τ Cert.Kernel4Ideal.sig) → Buf (Elt Ideal) ℓ)

/-- The reference's two results, in the arrays of the kernel. -/
theorem results_eq (a b : FVec Ideal Cert.Reference4Ideal.S4096x2816 .f32) (w : FVec Ideal Cert.Reference4Ideal.S4x704x1024 .bf16)
    (d : FVec Ideal Cert.Reference4Ideal.S4096x1024 .bf16) (c : Dev Cert.Kernel4Ideal.nD)
    (h0 : a = argA m c) (h1 : b = argB m c) (h2 : w = argW m c) (h3 : d = argD m c)
    (hb : ∀ i, ∃ r : ℝ, argB m c i = r) (hw : ∀ i, ∃ r : ℝ, argW m c i = r) (hd : ∀ i, ∃ r : ℝ, argD m c i = r) :
    Cert.Reference4Ideal.Read.val_main_v10 (F := Ideal) a b w d = G3 m c
    ∧ Cert.Reference4Ideal.Read.val_main_v11 (F := Ideal) a w d = G4 m c := by
  subst h0 h1 h2 h3
  refine ⟨funext fun i => ?_, funext fun i => ?_⟩
  · rw [ix2_eta i (i 0).isLt (i 1).isLt rfl rfl]
    exact v10_apply _ _ _ _ _ _ (hb _) (real_sum _ _ (fun k => hd _) fun k => hw _)
  · rw [ix2_eta i (i 0).isLt (i 1).isLt rfl rfl]
    exact v11_apply _ _ _ _ _

theorem algebraic : Cert.algebraic_Kernel4Ideal_Reference4Ideal_pre_finite_act (hKernel4Ideal := Cert.Kernel4Ideal.Gen.facts)
    (hReference4Ideal := Cert.Reference4Ideal.Gen.facts) (hPre_finite_act := Cert.Pre_finite_act.facts) := by
  intro m g m' g' hpre hag
  refine ⟨G3 m, G4 m, (θ_run Cert.Kernel4Ideal.defs _ _).mono (fun r h c => ?_) (Cert.Kernel4Ideal.Value.run_blocks m g), ?_⟩
  · obtain ⟨r0, r1, ra⟩ := h c
    exact ⟨r0.trans (final3 m c), r1.trans (final4 m c), ra⟩
  refine (θ_run Cert.Reference4Ideal.defs _ _).mono (fun r h c => ?_) (Cert.Reference4Ideal.Value.run (F := Ideal) m' g')
  obtain ⟨r0, r1, ra⟩ := h c
  obtain ⟨a0, a1, a2, a3⟩ := hag c
  obtain ⟨f1, f2, f3⟩ := @Cert.Pre_finite_act.real_of_pre Cert.Pre_finite_act.facts _ _ _ _ (hpre c)
  obtain ⟨e0, e1⟩ := results_eq m _ _ _ _ c a0 a1 a2 a3 f1 f2 f3
  exact ⟨(r0.trans (Cert.Reference4Ideal.Read.val_main_v10_eq _ _ _ _)).trans e0,
    (r1.trans (Cert.Reference4Ideal.Read.val_main_v11_eq _ _ _)).trans e1, ra⟩

end Cert.Act

end
-- ==== Proof.Norm.Kernel.lean ====
module

public import proofs.«01_k».proof.Proof.Gen.Kernel5Ideal.Value
public import Idealize.ShloMosaic.Lib.Pointwise
public import Idealize.ShloMosaic.Lib.Pipeline.ValueKit
public import Idealize.ShloMosaic.Lib.StableHlo.ReadAt

@[expose] public section

set_option maxRecDepth 16384

noncomputable section

/-! # The gradient through the two projections and the norm

Point `t` of the grid is at rows `512 * t` on. The first copies the two weights whole into the scratch, where every point reads them;
each writes its rows of the two results: the gradient that came in, at the two weights, through the norm, added to the residual
gradient. -/

namespace Cert.Kernel5Ideal.Hand

open Cert.Kernel5Ideal Cert.Kernel5Ideal.Gen Cert.Kernel5Ideal.Value
open Idealize.ShloMosaic Idealize.ShloMosaic.TcCoe Idealize.SL.Sem

theorem hz : (![0, 0] : Fin 2 → Nat) = fun _ => 0 := funext fun a => by fin_cases a <;> rfl

/-- What one whole store leaves. -/
theorem canon_whole {s : Shape} {e : EltTy} {Val : EltTy → Type} [∀ e, Nonempty (Val e)] (w : s.Idx → Val e) :
    View.canon [(⟨Rect.whole s, w⟩ : View.Piece Val s e)] = w := by
  funext j
  refine Eq.trans ?_ (View.canon_cons_emb (Rect.whole s) w [] j)
  congr 1
  funext a
  apply Fin.ext
  change _ = 0 + 1 * _
  rw [Nat.zero_add, Nat.one_mul]

/-- A load out of what one whole store left. -/
theorem readCov_whole {sig : RefSig} {κ : Kind} {sp : Space} {s : Shape} {e : EltTy} {Val : EltTy → Type} [∀ e, Nonempty (Val e)]
    (v : View sig κ sp s e) (w : s.Idx → Val e) (r : Rect s) :
    v.readCov [(⟨Rect.whole s, w⟩ : View.Piece Val s e)] r.toLoadRect = View.ld w r := by
  rw [View.readCov_eq_canon', canon_whole]

/-- One over the root of a row's mean square. -/
def rst (x : Fin 1024 → EReal) : EReal :=
  Ideal.rsqrt (Ideal.div (∑ k, x k * x k) (Ideal.ofBits .f32 0x44800000#32) + Ideal.ofBits .f32 0x358637BD#32)

/-- A row's gradient through the norm: `x` the row, `e` the gradient at the normed row. -/
def nrm (x e : Fin 1024 → EReal) (l : Fin 1024) : EReal :=
  rst x * (e l - x l * rst x * Ideal.div (∑ k, e k * (x k * rst x)) (Ideal.ofBits .f32 0x44800000#32))

/-- A block of rows against the columns of a weight. -/
def mm (x : FVec Ideal S512x2816 .bf16) (w : FVec Ideal S2816x1024 .bf16) (r : Fin 512) (l : Fin 1024) : EReal :=
  ∑ k : Fin 2816, x (ix2 r k) * w (ix2 k l)

theorem ix2_eta {n0 n1 : ℕ} (i : (⟨2, ![n0, n1]⟩ : Shape).Idx) {a b : ℕ} (ha : a < n0) (hb : b < n1)
    (h0 : (i 0).val = a) (h1 : (i 1).val = b) : i = ix2 ⟨a, ha⟩ ⟨b, hb⟩ := by
  subst h0 h1
  funext x
  fin_cases x <;> rfl

theorem pay4_apply (x : Vec Ideal S512x2816 .bf16) (v : Vec Ideal S2816x1024 .bf16) (y : Vec Ideal S512x2816 .bf16) (w : Vec Ideal S2816x1024 .bf16)
    (r : Fin 512) (l : Fin 1024) : k0_pay4 (F := Ideal) x v y w (ix2 r l) = mm x v r l + mm y w r l := by
  pointwise [k0_pay4, mm]

theorem pay7_open (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (r : Fin 512) (l : Fin 1024) :
    k0_pay7 (F := Ideal) x v y w a g (ix2 r l)
      = nrm (fun k => a (ix2 r k)) (fun k => k0_pay4 (F := Ideal) x v y w (ix2 r k) * g (ix2 0 k)) l := by
  pointwise [k0_pay7, k0_pay6, k0_pay5, nrm, rst]

/-- What a point leaves of the first result. -/
def res (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (d : Vec Ideal S512x1024 .f32) : Vec Ideal S512x1024 .f32 :=
  k0_pay1 (F := Ideal) d (k0_pay7 (F := Ideal) x v y w a g)

theorem res_apply (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (d : Vec Ideal S512x1024 .f32) (r : Fin 512) (l : Fin 1024) :
    res x v y w a g d (ix2 r l)
      = d (ix2 r l) + nrm (fun k => a (ix2 r k)) (fun k => (mm x v r k + mm y w r k) * g (ix2 0 k)) l := by
  refine Eq.trans (b := d (ix2 r l) + k0_pay7 (F := Ideal) x v y w a g (ix2 r l)) rfl ?_
  rw [pay7_open]
  simp only [pay4_apply]

/-- What a point leaves of the second result: the first. -/
def res' (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (d : Vec Ideal S512x1024 .f32) : Vec Ideal S512x1024 .bf16 :=
  k0_pay2 (F := Ideal) d (k0_pay7 (F := Ideal) x v y w a g)

theorem res'_apply (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (d : Vec Ideal S512x1024 .f32) (i : S512x1024.Idx) :
    res' x v y w a g d i = res x v y w a g d i := by
  unfold res' res
  pointwise [k0_pay2]

section Terms

variable (c : Dev nD) (i : grid0.Coords)
  (a1 : Memref sig .tc .vmem S512x2816 .bf16) (h1 : a1.IsWhole) (a2 : Memref sig .tc .vmem S512x2816 .bf16) (h2 : a2.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S512x1024 .bf16) (h9 : a9.IsWhole) (a10 : Memref sig .tc .vmem S1x1x1024 .f32) (h10 : a10.IsWhole)
  (a11 : Memref sig .tc .vmem S2816x1024 .bf16) (h11 : a11.IsWhole) (a12 : Memref sig .tc .vmem S2816x1024 .bf16) (h12 : a12.IsWhole)
  (x0 x1 : Vec Ideal S512x2816 .bf16) (x2 : Vec Ideal S512x1024 .f32) (x3 : Vec Ideal S1x1024 .f32) (x4 : Vec Ideal S512x1024 .f32)
  (w0 w1 : Vec Ideal S2816x1024 .bf16) (f0 : HbBuf0 (F := Ideal) c hbM0_0) (f1 : HbBuf0 (F := Ideal) c hbM0_1)

theorem outA5 (hc0) : out0_A_5 (F := Ideal) c i a1 h1 a2 h2 a5 h5 a6 h6 a7 h7 a8 h8 a9 h9 a10 h10 a11 h11 a12 h12 hc0 x0 x1 x2 x3 x4 f0 f1
    = res x0 f0 x1 f1 x2 x3 x4 := by
  unfold out0_A_5
  rw [View.read_writes_junk_eq_canon]
  unfold kernelRun0_A
  dsimp only
  sl_unfold_words
  rw [View.canon_unit_zero hz]
  simp only [View.readAt_eq_ld, h1.read_unread, h2.read_unread, h5.read_unread, h6.read_unread, h7.read_unread, readCov_whole,
    View.ld_unit_zero (S := S512x2816) hz, View.ld_unit_zero (S := S512x1024) hz,
    View.ld_unit_zero (S := S1x1024) hz, View.ld_unit_zero (S := S2816x1024) hz]
  rfl

theorem outA6 (hc0) : out0_A_6 (F := Ideal) c i a1 h1 a2 h2 a5 h5 a6 h6 a7 h7 a8 h8 a9 h9 a10 h10 a11 h11 a12 h12 hc0 x0 x1 x2 x3 x4 f0 f1
    = res' x0 f0 x1 f1 x2 x3 x4 := by
  unfold out0_A_6
  rw [View.read_writes_junk_eq_canon]
  unfold kernelRun0_A
  dsimp only
  sl_unfold_words
  rw [View.canon_unit_zero hz]
  simp only [View.readAt_eq_ld, h1.read_unread, h2.read_unread, h5.read_unread, h6.read_unread, h7.read_unread, readCov_whole,
    View.ld_unit_zero (S := S512x2816) hz, View.ld_unit_zero (S := S512x1024) hz,
    View.ld_unit_zero (S := S1x1024) hz, View.ld_unit_zero (S := S2816x1024) hz]
  rfl

theorem outB5 (hc0) : out0_B_5 (F := Ideal) c i a1 h1 a2 h2 a5 h5 a6 h6 a7 h7 a8 h8 a9 h9 a10 h10 a11 h11 a12 h12 hc0 x0 x1 x2 x3 x4 w0 w1 f0 f1
    = res x0 w0 x1 w1 x2 x3 x4 := by
  unfold out0_B_5
  rw [View.read_writes_junk_eq_canon]
  unfold kernelRun0_B
  dsimp only
  sl_unfold_words
  rw [View.canon_unit_zero hz]
  simp only [View.readAt_eq_ld, h1.read_unread, h2.read_unread, h5.read_unread, h6.read_unread, h7.read_unread, h11.read_unread, h12.read_unread,
    View.ld_unit_zero (S := S512x2816) hz, View.ld_unit_zero (S := S512x1024) hz,
    View.ld_unit_zero (S := S1x1024) hz, View.ld_unit_zero (S := S2816x1024) hz]
  rfl

theorem outB6 (hc0) : out0_B_6 (F := Ideal) c i a1 h1 a2 h2 a5 h5 a6 h6 a7 h7 a8 h8 a9 h9 a10 h10 a11 h11 a12 h12 hc0 x0 x1 x2 x3 x4 w0 w1 f0 f1
    = res' x0 w0 x1 w1 x2 x3 x4 := by
  unfold out0_B_6
  rw [View.read_writes_junk_eq_canon]
  unfold kernelRun0_B
  dsimp only
  sl_unfold_words
  rw [View.canon_unit_zero hz]
  simp only [View.readAt_eq_ld, h1.read_unread, h2.read_unread, h5.read_unread, h6.read_unread, h7.read_unread, h11.read_unread, h12.read_unread,
    View.ld_unit_zero (S := S512x2816) hz, View.ld_unit_zero (S := S512x1024) hz,
    View.ld_unit_zero (S := S1x1024) hz, View.ld_unit_zero (S := S2816x1024) hz]
  rfl

theorem soutA0 (hc0) : sout0_A_0 (F := Ideal) c i a1 h1 a2 h2 a5 h5 a6 h6 a7 h7 a8 h8 a9 h9 a10 h10 a11 h11 a12 h12 hc0 x0 x1 x2 x3 x4 f0 f1 = f0 := by
  unfold sout0_A_0
  rw [View.read_writes_junk_eq_canon]
  unfold kernelRun0_A
  dsimp only
  sl_unfold_words
  exact canon_whole _

theorem soutA1 (hc0) : sout0_A_1 (F := Ideal) c i a1 h1 a2 h2 a5 h5 a6 h6 a7 h7 a8 h8 a9 h9 a10 h10 a11 h11 a12 h12 hc0 x0 x1 x2 x3 x4 f0 f1 = f1 := by
  unfold sout0_A_1
  rw [View.read_writes_junk_eq_canon]
  unfold kernelRun0_A
  dsimp only
  sl_unfold_words
  exact canon_whole _

theorem soutB0 (hc0) : sout0_B_0 (F := Ideal) c i a1 h1 a2 h2 a5 h5 a6 h6 a7 h7 a8 h8 a9 h9 a10 h10 a11 h11 a12 h12 hc0 x0 x1 x2 x3 x4 w0 w1 f0 f1 = w0 := rfl

theorem soutB1 (hc0) : sout0_B_1 (F := Ideal) c i a1 h1 a2 h2 a5 h5 a6 h6 a7 h7 a8 h8 a9 h9 a10 h10 a11 h11 a12 h12 hc0 x0 x1 x2 x3 x4 w0 w1 f0 f1 = w1 := rfl

end Terms

variable (m : (ℓ : Loc nD τ sig) → Buf (Elt Ideal) ℓ)

/-- The gradient at the first projection. -/
abbrev argDa (c : Dev nD) : FVec Ideal S4096x2816 .bf16 := m ((c : Thread nD τ).loc main_arg0)

/-- The gradient at the second projection. -/
abbrev argDb (c : Dev nD) : FVec Ideal S4096x2816 .bf16 := m ((c : Thread nD τ).loc main_arg1)

/-- The first projection's weight. -/
abbrev argWg (c : Dev nD) : FVec Ideal S4x704x1024 .bf16 := m ((c : Thread nD τ).loc main_arg2)

/-- The second projection's weight. -/
abbrev argWu (c : Dev nD) : FVec Ideal S4x704x1024 .bf16 := m ((c : Thread nD τ).loc main_arg3)

/-- The rows the norm took. -/
abbrev argX (c : Dev nD) : FVec Ideal S4096x1024 .f32 := m ((c : Thread nD τ).loc main_arg4)

/-- The norm's scale. -/
abbrev argG (c : Dev nD) : FVec Ideal S1x1024 .f32 := m ((c : Thread nD τ).loc main_arg5)

/-- The residual gradient. -/
abbrev argR (c : Dev nD) : FVec Ideal S4096x1024 .f32 := m ((c : Thread nD τ).loc main_arg6)

/-- The rows against a weight given in four chunks of its own rows. -/
def down (d : FVec Ideal S4096x2816 .bf16) (w : FVec Ideal S4x704x1024 .bf16) (r : Fin 4096) (l : Fin 1024) : EReal :=
  ∑ k : Fin 2816, d (ix2 r k) * w (ix3 ⟨k.val / 704, by omega⟩ ⟨k.val % 704, Nat.mod_lt _ (by decide)⟩ l)

/-- One point's first result. -/
abbrev at5 (c : Dev nD) (t : Fin cfg0.N) : Vec Ideal S512x1024 .f32 :=
  res (iblk m c 0 t) (V m c main_v0) (iblk m c 1 t) (V m c main_v1) (iblk m c 2 t) (iblk m c 3 t) (iblk m c 4 t)

/-- One point's second result. -/
abbrev at6 (c : Dev nD) (t : Fin cfg0.N) : Vec Ideal S512x1024 .bf16 :=
  res' (iblk m c 0 t) (V m c main_v0) (iblk m c 1 t) (V m c main_v1) (iblk m c 2 t) (iblk m c 3 t) (iblk m c 4 t)

theorem outs_eq (c : Dev nD) : ∀ (n : ℕ) (hn : n < cfg0.N), (outsAt0 m c n hn).1 = at5 m c ⟨n, hn⟩ ∧ (outsAt0 m c n hn).2.1 = at6 m c ⟨n, hn⟩
    ∧ (outsAt0 m c n hn).2.2.2.1 = V m c main_v0 ∧ (outsAt0 m c n hn).2.2.2.2 = V m c main_v1
  | 0, hn => by
    have e := outsAt0_A m c ⟨0, hn⟩ rfl
    dsimp only at e
    rw [e]
    dsimp only
    exact ⟨outA5 .., outA6 .., soutA0 .., soutA1 ..⟩
  | n + 1, hn => by
    have hN : cfg0.N = 8 := N_0
    have e := outsAt0_B m c ⟨n + 1, hn⟩ (by dsimp only; omega)
    obtain ⟨-, -, i0, i1⟩ := outs_eq c n (Nat.lt_of_succ_lt hn)
    have s0 : (outsAt0 m c ((⟨n + 1, hn⟩ : Fin cfg0.N).val - 1) (Nat.lt_of_le_of_lt (Nat.sub_le _ _) hn)).2.2.2.1 = V m c main_v0 := i0
    have s1 : (outsAt0 m c ((⟨n + 1, hn⟩ : Fin cfg0.N).val - 1) (Nat.lt_of_le_of_lt (Nat.sub_le _ _) hn)).2.2.2.2 = V m c main_v1 := i1
    rw [s0, s1] at e
    dsimp only at e
    rw [e]
    dsimp only
    exact ⟨outB5 .., outB6 .., soutB0 .., soutB1 ..⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem iblk_da (c : Dev nD) (t : Fin cfg0.N) (r : Fin 512) (k : Fin 2816) (hr : 512 * t.val + r.val < 4096) :
    (iblk m c 0 t : Vec Ideal S512x2816 .bf16) (ix2 r k) = argDa m c (ix2 ⟨512 * t.val + r.val, hr⟩ k) := by
  obtain ⟨e0, e1⟩ := idx0 t
  refine (congrArg (V m c main_arg0 : FVec Ideal S4096x2816 .bf16) (ix2_eta (((cfg0.win 0).blk t).view.emb (ix2 r k)) hr k.isLt ?_ ?_)).trans
    (congrFun (V_main_arg0 m c) _)
  · change win0_0.index t (0 : Fin 2) * 512 + 1 * r.val = _
    omega
  · change win0_0.index t (1 : Fin 2) * 2816 + 1 * k.val = _
    omega

theorem iblk_db (c : Dev nD) (t : Fin cfg0.N) (r : Fin 512) (k : Fin 2816) (hr : 512 * t.val + r.val < 4096) :
    (iblk m c 1 t : Vec Ideal S512x2816 .bf16) (ix2 r k) = argDb m c (ix2 ⟨512 * t.val + r.val, hr⟩ k) := by
  obtain ⟨e0, e1⟩ := idx1 t
  refine (congrArg (V m c main_arg1 : FVec Ideal S4096x2816 .bf16) (ix2_eta (((cfg0.win 1).blk t).view.emb (ix2 r k)) hr k.isLt ?_ ?_)).trans
    (congrFun (V_main_arg1 m c) _)
  · change win0_1.index t (0 : Fin 2) * 512 + 1 * r.val = _
    omega
  · change win0_1.index t (1 : Fin 2) * 2816 + 1 * k.val = _
    omega

theorem iblk_x (c : Dev nD) (t : Fin cfg0.N) (r : Fin 512) (k : Fin 1024) (hr : 512 * t.val + r.val < 4096) :
    (iblk m c 2 t : Vec Ideal S512x1024 .f32) (ix2 r k) = argX m c (ix2 ⟨512 * t.val + r.val, hr⟩ k) := by
  obtain ⟨e0, e1⟩ := idx2 t
  refine (congrArg (V m c main_arg4 : FVec Ideal S4096x1024 .f32) (ix2_eta (((cfg0.win 2).blk t).view.emb (ix2 r k)) hr k.isLt ?_ ?_)).trans
    (congrFun (V_main_arg4 m c) _)
  · change win0_2.index t (0 : Fin 2) * 512 + 1 * r.val = _
    omega
  · change win0_2.index t (1 : Fin 2) * 1024 + 1 * k.val = _
    omega

theorem iblk_r (c : Dev nD) (t : Fin cfg0.N) (r : Fin 512) (k : Fin 1024) (hr : 512 * t.val + r.val < 4096) :
    (iblk m c 4 t : Vec Ideal S512x1024 .f32) (ix2 r k) = argR m c (ix2 ⟨512 * t.val + r.val, hr⟩ k) := by
  obtain ⟨e0, e1⟩ := idx4 t
  refine (congrArg (V m c main_arg6 : FVec Ideal S4096x1024 .f32) (ix2_eta (((cfg0.win 4).blk t).view.emb (ix2 r k)) hr k.isLt ?_ ?_)).trans
    (congrFun (V_main_arg6 m c) _)
  · change win0_4.index t (0 : Fin 2) * 512 + 1 * r.val = _
    omega
  · change win0_4.index t (1 : Fin 2) * 1024 + 1 * k.val = _
    omega

theorem iblk_g (c : Dev nD) (t : Fin cfg0.N) (k : Fin 1024) :
    (iblk m c 3 t : Vec Ideal S1x1024 .f32) (ix2 0 k) = argG m c (ix2 0 k) := by
  obtain ⟨e0, e1⟩ := idx3 t
  refine (congrArg (V m c main_arg5 : FVec Ideal S1x1024 .f32) (ix2_eta (((cfg0.win 3).blk t).view.emb (ix2 0 k)) Nat.zero_lt_one k.isLt ?_ ?_)).trans
    (congrFun (V_main_arg5 m c) _)
  · change win0_3.index t (0 : Fin 2) * 1 + 1 * 0 = _
    omega
  · change win0_3.index t (1 : Fin 2) * 1024 + 1 * k.val = _
    omega

theorem V_wg (c : Dev nD) (k : Fin 2816) (l : Fin 1024) :
    (V m c main_v0 : FVec Ideal S2816x1024 .bf16) (ix2 k l)
      = argWg m c (ix3 ⟨k.val / 704, by omega⟩ ⟨k.val % 704, Nat.mod_lt _ (by decide)⟩ l) := by
  unfold V
  after_reads_at

theorem V_wu (c : Dev nD) (k : Fin 2816) (l : Fin 1024) :
    (V m c main_v1 : FVec Ideal S2816x1024 .bf16) (ix2 k l)
      = argWu m c (ix3 ⟨k.val / 704, by omega⟩ ⟨k.val % 704, Nat.mod_lt _ (by decide)⟩ l) := by
  unfold V
  after_reads_at

theorem mm_g (c : Dev nD) (t : Fin cfg0.N) (r : Fin 512) (l : Fin 1024) (hr : 512 * t.val + r.val < 4096) :
    mm (iblk m c 0 t) (V m c main_v0) r l = down (argDa m c) (argWg m c) ⟨512 * t.val + r.val, hr⟩ l := by
  unfold mm down
  refine Finset.sum_congr rfl fun k _ => ?_
  rw [iblk_da m c t r k hr, V_wg]

theorem mm_u (c : Dev nD) (t : Fin cfg0.N) (r : Fin 512) (l : Fin 1024) (hr : 512 * t.val + r.val < 4096) :
    mm (iblk m c 1 t) (V m c main_v1) r l = down (argDb m c) (argWu m c) ⟨512 * t.val + r.val, hr⟩ l := by
  unfold mm down
  refine Finset.sum_congr rfl fun k _ => ?_
  rw [iblk_db m c t r k hr, V_wu]

/-- The gradient the projections hand back, times the norm's scale. -/
def grad (c : Dev nD) (r : Fin 4096) (k : Fin 1024) : EReal :=
  (down (argDa m c) (argWg m c) r k + down (argDb m c) (argWu m c) r k) * argG m c (ix2 0 k)

/-- The residual gradient with the gradient through the norm. -/
def total (c : Dev nD) (r : Fin 4096) (l : Fin 1024) : EReal :=
  argR m c (ix2 r l) + nrm (fun k => argX m c (ix2 r k)) (grad m c r) l

theorem at_apply (c : Dev nD) (t : Fin cfg0.N) (r : Fin 512) (l : Fin 1024) (hr : 512 * t.val + r.val < 4096) :
    at5 m c t (ix2 r l) = total m c ⟨512 * t.val + r.val, hr⟩ l := by
  refine (res_apply _ _ _ _ _ _ _ r l).trans ?_
  unfold total
  refine congrArg₂ (fun a b : EReal => a + b) (iblk_r m c t r l hr) (congrArg₂ (fun x e => nrm x e l) (funext fun k => iblk_x m c t r k hr) (funext fun k => ?_))
  unfold grad
  exact congrArg₂ (fun a b : EReal => a * b) (congrArg₂ (fun a b : EReal => a + b) (mm_g m c t r k hr) (mm_u m c t r k hr)) (iblk_g m c t k)

/-- The first result. -/
def G5 (c : Dev nD) : FVec Ideal S4096x1024 .f32 := fun i => total m c (i 0) (i 1)

theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5, (outs_eq m c t.val t.isLt).1]
  funext y
  have e : ∀ y : S512x1024.Idx, at5 m c t y = G5 m c (((cfg0.win 5).blk t).view.emb y) := fun y => by
    obtain ⟨e0, e1⟩ := idx5 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 5).blk t).view.emb (ix2 r l)) hr l.isLt
      (by change win0_5.index t (0 : Fin 2) * 512 + 1 * r.val = _; omega) (by change win0_5.index t (1 : Fin 2) * 1024 + 1 * l.val = _; omega)]
    exact at_apply m c t r l hr
  exact e y

theorem final5 (c : Dev nD) : (dats m 0 c).arrAt 5 cfg0.N = G5 m c := by
  refine (dats m 0 c).arrAt_eq_of_cover 5 _ (fun t _ => flushed5_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx5 ⟨(i 0).val / 512, ht⟩
  refine ⟨⟨(i 0).val / 512, ht⟩, flush0_5 _, ?_⟩
  refine Finset.mem_map.mpr ⟨ix2 ⟨(i 0).val % 512, Nat.mod_lt _ (by omega)⟩ ⟨(i 1).val, h1⟩, Finset.mem_univ _, ?_⟩
  refine (ix2_eta (((cfg0.win 5).blk ⟨(i 0).val / 512, ht⟩).view.emb (ix2 _ _)) h0 h1 ?_ ?_).trans (ix2_eta i h0 h1 rfl rfl).symm
  · change win0_5.index ⟨(i 0).val / 512, ht⟩ (0 : Fin 2) * 512 + 1 * ((i 0).val % 512) = _
    dsimp only at e0
    omega
  · change win0_5.index ⟨(i 0).val / 512, ht⟩ (1 : Fin 2) * 1024 + 1 * (i 1).val = _
    omega

/-- The second result. -/
def G6 (c : Dev nD) : FVec Ideal S4096x1024 .bf16 := fun i => total m c (i 0) (i 1)

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6, (outs_eq m c t.val t.isLt).2.1]
  funext y
  have e : ∀ y : S512x1024.Idx, at6 m c t y = G6 m c (((cfg0.win 6).blk t).view.emb y) := fun y => by
    obtain ⟨e0, e1⟩ := idx6 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 6).blk t).view.emb (ix2 r l)) hr l.isLt
      (by change win0_6.index t (0 : Fin 2) * 512 + 1 * r.val = _; omega) (by change win0_6.index t (1 : Fin 2) * 1024 + 1 * l.val = _; omega)]
    exact (res'_apply _ _ _ _ _ _ _ _).trans (at_apply m c t r l hr)
  exact e y

theorem final6 (c : Dev nD) : (dats m 0 c).arrAt 6 cfg0.N = G6 m c := by
  refine (dats m 0 c).arrAt_eq_of_cover 6 _ (fun t _ => flushed6_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx6 ⟨(i 0).val / 512, ht⟩
  refine ⟨⟨(i 0).val / 512, ht⟩, flush0_6 _, ?_⟩
  refine Finset.mem_map.mpr ⟨ix2 ⟨(i 0).val % 512, Nat.mod_lt _ (by omega)⟩ ⟨(i 1).val, h1⟩, Finset.mem_univ _, ?_⟩
  refine (ix2_eta (((cfg0.win 6).blk ⟨(i 0).val / 512, ht⟩).view.emb (ix2 _ _)) h0 h1 ?_ ?_).trans (ix2_eta i h0 h1 rfl rfl).symm
  · change win0_6.index ⟨(i 0).val / 512, ht⟩ (0 : Fin 2) * 512 + 1 * ((i 0).val % 512) = _
    dsimp only at e0
    omega
  · change win0_6.index ⟨(i 0).val / 512, ht⟩ (1 : Fin 2) * 1024 + 1 * (i 1).val = _
    omega

end Cert.Kernel5Ideal.Hand

end
-- ==== Proof.Norm.Row.lean ====
module

public import proofs.«01_k».proof.Proof.Norm.Kernel

@[expose] public section

set_option maxRecDepth 16384

noncomputable section

/-! # A row's gradient through the norm, in the kernel's form and in the reference's

The two forms agree at every row, the infinities among its elements included: with an infinite element the
root's reciprocal is zero and so are both forms. -/

namespace Cert.Norm

open Idealize Idealize.ShloMosaic
open Cert.Kernel5Ideal.Hand (rst nrm)

theorem width_eq : Ideal.ofBits .f32 0x44800000#32 = ((1024 : ℝ) : EReal) := by
  simp [Ideal.ofBits, Ideal.ieee]
  rw [← EReal.coe_mul]
  congr 1
  norm_num

theorem half_eq : Ideal.ofBits .f32 0xBF000000#32 = ((-(1 / 2) : ℝ) : EReal) := by
  simp [Ideal.ofBits, Ideal.ieee]
  rw [← EReal.coe_mul]
  congr 1
  norm_num

theorem eps_pos : ∃ e : ℝ, 0 < e ∧ Ideal.ofBits .f32 0x358637BD#32 = (e : EReal) := by
  have h : Ideal.ofBits .f32 0x358637BD#32 = ((8796093 : ℝ) : EReal) * (((2 ^ 43)⁻¹ : ℝ) : EReal) := by
    simp [Ideal.ofBits, Ideal.ieee]
  exact ⟨8796093 * (2 ^ 43)⁻¹, by positivity, h.trans (EReal.coe_mul _ _).symm⟩

/-- A finite factor that is not negative comes out of a sum. -/
theorem sum_mul_real {n : ℕ} (f : Fin n → EReal) {r : ℝ} (hr : 0 ≤ r) : ∑ k, f k * (r : EReal) = (∑ k, f k) * (r : EReal) := by
  have e : ∀ s : Finset (Fin n), ∑ k ∈ s, f k * (r : EReal) = (∑ k ∈ s, f k) * (r : EReal) := by
    intro s
    classical
    induction s using Finset.induction_on with
    | empty => simp
    | insert k s hk ih =>
      rw [Finset.sum_insert hk, Finset.sum_insert hk, ih,
        EReal.right_distrib_of_nonneg_of_ne_top (EReal.coe_nonneg.mpr hr) (EReal.coe_ne_top r)]
  exact e _

theorem sum_sq {n : ℕ} (f : Fin n → ℝ) : ∑ k, (f k : EReal) * (f k : EReal) = ((∑ k, f k * f k : ℝ) : EReal) := by
  have e : ∀ s : Finset (Fin n), ∑ k ∈ s, (f k : EReal) * (f k : EReal) = ((∑ k ∈ s, f k * f k : ℝ) : EReal) := by
    intro s
    classical
    induction s using Finset.induction_on with
    | empty => simp
    | insert k s hk ih => rw [Finset.sum_insert hk, Finset.sum_insert hk, ih, EReal.coe_add, EReal.coe_mul]
  exact e _

theorem sq_nonneg (x : EReal) : 0 ≤ x * x := by
  induction x with
  | bot => simp
  | top => simp
  | coe x => exact_mod_cast mul_self_nonneg x

theorem sq_top {x : EReal} (h : ¬ ∃ r : ℝ, x = r) : x * x = ⊤ := by
  induction x with
  | bot => simp
  | top => simp
  | coe x => exact absurd ⟨x, rfl⟩ h

/-- A row's mean square with the small constant added. -/
def msq (x : Fin 1024 → EReal) : EReal :=
  Ideal.div (∑ k, x k * x k) (Ideal.ofBits .f32 0x44800000#32) + Ideal.ofBits .f32 0x358637BD#32

/-- The reference's coefficient of the row. -/
def coef (x e : Fin 1024 → EReal) : EReal :=
  Ideal.div ((∑ k, x k * e k) * (Ideal.ofBits .f32 0xBF000000#32 * Ideal.div (rst x) (msq x))) (Ideal.ofBits .f32 0x44800000#32)

theorem div_width (x : EReal) : Ideal.div x (Ideal.ofBits .f32 0x44800000#32) = x * ((1 / 1024 : ℝ) : EReal) := by
  rw [width_eq, Ideal.div_coe (by norm_num)]

theorem two_mul' (w : EReal) : w + w = ((2 : ℝ) : EReal) * w := by
  have h : ((2 : ℝ) : EReal) = 1 + 1 := by
    rw [← EReal.coe_one, ← EReal.coe_add]
    norm_num
  rw [h, EReal.right_distrib_of_nonneg zero_le_one zero_le_one, one_mul]

theorem finite_form {ρ Q X : ℝ} (hρ : 0 < ρ) (hQ : ρ * ρ * Q = 1) (e S : EReal) :
    (ρ : EReal) * (e - (X : EReal) * ρ * (S * ρ * ((1 / 1024 : ℝ) : EReal)))
      = e * ρ + (X : EReal) * (S * (((-(1 / 2) : ℝ) : EReal) * (ρ * ((1 / Q : ℝ) : EReal))) * ((1 / 1024 : ℝ) : EReal))
        + S * (((-(1 / 2) : ℝ) : EReal) * (ρ * ((1 / Q : ℝ) : EReal))) * ((1 / 1024 : ℝ) : EReal) * (X : EReal) := by
  have hq : 1 / Q = ρ * ρ := by
    have : Q ≠ 0 := fun h => by rw [h, mul_zero] at hQ; exact zero_ne_one hQ
    field_simp
    linarith
  have e1 : S * (((-(1 / 2) : ℝ) : EReal) * (ρ * ((1 / Q : ℝ) : EReal))) * ((1 / 1024 : ℝ) : EReal) * (X : EReal)
      = ((-(1 / 2) * (ρ * (ρ * ρ)) * (1 / 1024) * X : ℝ) : EReal) * S := by
    rw [hq]
    simp only [EReal.coe_mul]
    ac_rfl
  have e2 : (ρ : EReal) * ((X : EReal) * ρ * (S * ρ * ((1 / 1024 : ℝ) : EReal)))
      = ((ρ * (X * ρ) * (ρ * (1 / 1024)) : ℝ) : EReal) * S := by
    simp only [EReal.coe_mul]
    ac_rfl
  rw [mul_comm (X : EReal) (S * _ * _), add_assoc, two_mul', e1, sub_eq_add_neg,
    EReal.left_distrib_of_nonneg_of_ne_top (EReal.coe_nonneg.mpr hρ.le) (EReal.coe_ne_top ρ), mul_comm (ρ : EReal) e, mul_neg, e2,
    ← EReal.neg_mul, ← EReal.coe_neg, ← mul_assoc ((2 : ℝ) : EReal) _ S, ← EReal.coe_mul]
  congr 3
  ring

theorem row (x e : Fin 1024 → EReal) (l : Fin 1024) :
    e l * rst x + x l * coef x e + coef x e * x l = nrm x e l := by
  obtain ⟨ε, hε, he⟩ := eps_pos
  by_cases h : ∀ k, ∃ r : ℝ, x k = r
  · choose f hf using h
    have hx : x = fun k => (f k : EReal) := funext hf
    subst hx
    have hQ : 0 < (∑ k, f k * f k) * (1 / 1024) + ε := by
      have : 0 ≤ ∑ k, f k * f k := Finset.sum_nonneg fun k _ => mul_self_nonneg (f k)
      positivity
    have hm : msq (fun k => (f k : EReal)) = (((∑ k, f k * f k) * (1 / 1024) + ε : ℝ) : EReal) := by
      unfold msq
      rw [div_width, sum_sq, he, EReal.coe_add, EReal.coe_mul]
    have hr : rst (fun k => (f k : EReal)) = (((Real.sqrt ((∑ k, f k * f k) * (1 / 1024) + ε))⁻¹ : ℝ) : EReal) := by
      change Ideal.rsqrt (msq _) = _
      rw [hm, Ideal.rsqrt_coe, if_neg (not_lt.mpr hQ.le), if_neg hQ.ne']
    unfold nrm coef
    rw [hm, hr]
    generalize hq : (∑ k, f k * f k) * (1 / 1024) + ε = Q at hQ
    have hs := Real.sqrt_pos.mpr hQ
    have hρ : 0 < (Real.sqrt Q)⁻¹ := inv_pos.mpr hs
    have h1 : (Real.sqrt Q)⁻¹ * (Real.sqrt Q)⁻¹ * Q = 1 := by
      rw [← mul_inv, Real.mul_self_sqrt hQ.le, inv_mul_cancel₀ hQ.ne']
    generalize (Real.sqrt Q)⁻¹ = ρ at hρ h1
    have hS : ∑ k, e k * ((f k : EReal) * (ρ : EReal)) = (∑ k, (f k : EReal) * e k) * (ρ : EReal) := by
      rw [← sum_mul_real _ hρ.le]
      exact Finset.sum_congr rfl fun k _ => by ac_rfl
    rw [hS, half_eq, div_width, div_width, Ideal.div_coe hQ.ne']
    exact (finite_form hρ h1 (e l) _).symm
  · obtain ⟨k, hk⟩ := not_forall.mp h
    have ht : ∑ k, x k * x k = ⊤ := top_le_iff.mp (by
      have := Finset.single_le_sum (f := fun k => x k * x k) (fun k _ => sq_nonneg (x k)) (Finset.mem_univ k)
      rwa [sq_top hk] at this)
    have hm : msq x = ⊤ := by
      unfold msq
      rw [div_width, ht, EReal.top_mul_coe_of_pos (by norm_num), he, EReal.top_add_coe]
    have hr : rst x = 0 := by
      change Ideal.rsqrt (msq x) = 0
      rw [hm, Ideal.rsqrt_top]
    have hc : coef x e = 0 := by
      unfold coef
      rw [hr, hm, div_width, Ideal.div, if_neg EReal.top_ne_zero, zero_mul, mul_zero, mul_zero, zero_mul]
    unfold nrm
    rw [hc, hr, mul_zero, mul_zero, zero_mul, zero_mul, add_zero, add_zero]

end Cert.Norm

end
-- ==== Proof.Norm.Claim.lean ====
module

public import proofs.«01_k».proof.Defs
public import proofs.«01_k».proof.Proof.Norm.Row
public import proofs.«01_k».proof.Proof.Gen.Reference5Ideal.Read
public import proofs.«01_k».proof.Proof.Gen.Reference5Ideal.Run
public import Idealize.ShloMosaic.Lib.Claim
public import Idealize.ShloMosaic.Lib.Pointwise

@[expose] public section

set_option maxRecDepth 16384

noncomputable section

/-! # The gradient before the feed-forward layer's norm is the reference's -/

namespace Cert.Norm

open Idealize Idealize.ShloMosaic Idealize.SL.Sem
open Cert.Kernel5Ideal.Hand

section Reference

open Cert.Reference5Ideal.Read

variable (da db : FVec Ideal Cert.Reference5Ideal.S4096x2816 .bf16) (wg wu : FVec Ideal Cert.Reference5Ideal.S4x704x1024 .bf16)
  (x : FVec Ideal Cert.Reference5Ideal.S4096x1024 .f32) (g : FVec Ideal Cert.Reference5Ideal.S1x1024 .f32)
  (dr : FVec Ideal Cert.Reference5Ideal.S4096x1024 .f32) (r : Fin 4096) (l : Fin 1024)

theorem zero_word : Ideal.ofBits .f32 0x00000000#32 = 0 := by
  simp [Ideal.ofBits, Ideal.ieee]

/-- The gradient at the normed row. -/
def gradOf (k : Fin 1024) : EReal := (down da wg r k + down db wu r k) * g (ix2 0 k)

theorem v25_apply : val_main_v25 (F := Ideal) db wu (ix2 r l) = down db wu r l := by
  rw [val_main_v25_apply]
  unfold down
  refine Finset.sum_congr rfl fun k _ => ?_
  rw [val_main_v24_apply, val_main_v21_apply, val_main_v20_apply, val_main_v19_apply]
  have hl := l.isLt
  refine congrArg₂ (fun a b : EReal => a * b) (congrArg db ?_) (congrArg wu ?_)
  · funext y
    fin_cases y <;> rfl
  · funext y
    fin_cases y
    · apply Fin.ext
      change (k.val * 1024 + l.val) / 720896 = k.val / 704
      omega
    · apply Fin.ext
      change (k.val * 1024 + l.val) / 1024 % 704 = k.val % 704
      omega
    · apply Fin.ext
      change (k.val * 1024 + l.val) % 1024 = l.val
      omega

theorem v26_apply : val_main_v26 (F := Ideal) da wg (ix2 r l) = down da wg r l := v25_apply da wg r l

theorem v32_apply : val_main_v32 (F := Ideal) da db wg wu g (ix2 r l) = gradOf da db wg wu g r l := by
  rw [val_main_v32_apply, val_main_v27_apply, v25_apply, v26_apply, val_main_v31_apply]
  unfold gradOf
  refine congrArg₂ (fun a b : EReal => a * b) (add_comm _ _) (congrArg g ?_)
  funext y
  fin_cases y <;> rfl

theorem v6_apply (s : Fin 1) : val_main_v6 (F := Ideal) x (ix2 r s) = msq fun k => x (ix2 r k) := by
  pointwise [val_main_v6, val_main_v5, val_main_cst_1, val_main_v4, val_main_v3, val_main_cst_0, val_main_v2, val_main_v1, val_main_cst,
    val_main_v0, msq]

theorem v7_apply (s : Fin 1) : val_main_v7 (F := Ideal) x (ix2 r s) = rst fun k => x (ix2 r k) :=
  congrArg Ideal.rsqrt (v6_apply x r s)

theorem v10_apply (s : Fin 1) : val_main_v10 (F := Ideal) x (ix2 r s)
    = Ideal.ofBits .f32 0xBF000000#32 * Ideal.div (rst fun k => x (ix2 r k)) (msq fun k => x (ix2 r k)) := by
  rw [val_main_v10_apply, val_main_v8_apply, v7_apply, v6_apply]
  rfl

theorem v34_apply : val_main_v34 (F := Ideal) da db wg wu x g (ix1 r) = ∑ k, x (ix2 r k) * gradOf da db wg wu g r k := by
  rw [val_main_v34_apply]
  refine Eq.trans (congrArg₂ (fun a b : EReal => a + b) (zero_word : val_main_cst_4 (F := Ideal) _ = 0) rfl)
    ((zero_add _).trans (Finset.sum_congr rfl fun k _ => ?_))
  have e : Cert.Reference5Ideal.Read.idx_main_v34 (ix1 r) k = ix2 r k := by
    funext y
    fin_cases y <;> rfl
  rw [e, val_main_v33_apply, v32_apply]
  rfl

theorem v40_apply (s : Fin 1) : val_main_v40 (F := Ideal) da db wg wu x g (ix2 r s)
    = coef (fun k => x (ix2 r k)) (gradOf da db wg wu g r) := by
  have e : Cert.Reference5Ideal.Read.idx_main_v35 (ix2 r s) = ix1 r := by
    funext y
    fin_cases y
    apply Fin.ext
    have := s.isLt
    change r.val * 1 + s.val = r.val
    omega
  rw [val_main_v40_apply, val_main_v38_apply, val_main_v35_apply, e, v34_apply, v10_apply]
  rfl

theorem v42_apply : val_main_v42 (F := Ideal) da db wg wu x g (ix2 r l) = coef (fun k => x (ix2 r k)) (gradOf da db wg wu g r) := by
  rw [val_main_v42_apply, val_main_v41_apply]
  refine Eq.trans (congrArg₂ (fun a b : EReal => a + b) (zero_word : val_main_cst_6 (F := Ideal) _ = 0) (Fin.sum_univ_one _))
    ((zero_add _).trans ?_)
  refine Eq.trans (congrArg (val_main_v40 (F := Ideal) da db wg wu x g) ?_) (v40_apply da db wg wu x g r 0)
  funext y
  fin_cases y <;> rfl

theorem v36_apply : val_main_v36 (F := Ideal) x (ix2 r l) = rst fun k => x (ix2 r k) := by
  rw [val_main_v36_apply]
  refine Eq.trans (congrArg (val_main_v7 (F := Ideal) x) ?_) (v7_apply x r 0)
  funext y
  fin_cases y <;> rfl

theorem v47_apply : val_main_v47 (F := Ideal) da db wg wu x g dr (ix2 r l)
    = dr (ix2 r l) + nrm (fun k => x (ix2 r k)) (gradOf da db wg wu g r) l := by
  rw [← row, val_main_v47_apply, val_main_v46_apply, val_main_v44_apply, val_main_v37_apply, val_main_v43_apply, val_main_v45_apply,
    v32_apply, v36_apply, v42_apply]
  rfl

end Reference

variable (m : (ℓ : Loc Cert.Kernel5Ideal.nD Cert.Kernel5Ideal.τ Cert.Kernel5Ideal.sig) → Buf (Elt Ideal) ℓ)

/-- The reference's two results, in the arrays of the kernel. -/
theorem results_eq (da db : FVec Ideal Cert.Reference5Ideal.S4096x2816 .bf16) (wg wu : FVec Ideal Cert.Reference5Ideal.S4x704x1024 .bf16)
    (x : FVec Ideal Cert.Reference5Ideal.S4096x1024 .f32) (g : FVec Ideal Cert.Reference5Ideal.S1x1024 .f32)
    (dr : FVec Ideal Cert.Reference5Ideal.S4096x1024 .f32) (c : Dev Cert.Kernel5Ideal.nD)
    (h0 : da = argDa m c) (h1 : db = argDb m c) (h2 : wg = argWg m c) (h3 : wu = argWu m c) (h4 : x = argX m c) (h5 : g = argG m c)
    (h6 : dr = argR m c) :
    Cert.Reference5Ideal.Read.val_main_v47 (F := Ideal) da db wg wu x g dr = G5 m c
    ∧ Cert.Reference5Ideal.Read.val_main_v48 (F := Ideal) da db wg wu x g dr = G6 m c := by
  subst h0 h1 h2 h3 h4 h5 h6
  have e : ∀ i, Cert.Reference5Ideal.Read.val_main_v47 (F := Ideal) (argDa m c) (argDb m c) (argWg m c) (argWu m c) (argX m c) (argG m c)
      (argR m c) i = total m c (i 0) (i 1) := fun i => by
    rw [ix2_eta i (i 0).isLt (i 1).isLt rfl rfl]
    exact v47_apply _ _ _ _ _ _ _ _ _
  exact ⟨funext e, funext e⟩

theorem algebraic : Cert.algebraic_Kernel5Ideal_Reference5Ideal (hKernel5Ideal := Cert.Kernel5Ideal.Gen.facts)
    (hReference5Ideal := Cert.Reference5Ideal.Gen.facts) := by
  intro m g m' g' _ hag
  refine ⟨G5 m, G6 m, (θ_run Cert.Kernel5Ideal.defs _ _).mono (fun r h c => ?_) (Cert.Kernel5Ideal.Value.run_blocks m g), ?_⟩
  · obtain ⟨r0, r1, _, ra⟩ := h c
    exact ⟨r0.trans (final5 m c), r1.trans (final6 m c), ra⟩
  refine (θ_run Cert.Reference5Ideal.defs _ _).mono (fun r h c => ?_) (Cert.Reference5Ideal.Value.run (F := Ideal) m' g')
  obtain ⟨r0, r1, ra⟩ := h c
  obtain ⟨a0, a1, a2, a3, a4, a5, a6⟩ := hag c
  obtain ⟨e0, e1⟩ := results_eq m _ _ _ _ _ _ _ c a0 a1 a2 a3 a4 a5 a6
  exact ⟨(r0.trans (Cert.Reference5Ideal.Read.val_main_v47_eq _ _)).trans e0,
    (r1.trans (Cert.Reference5Ideal.Read.val_main_v48_eq _ _)).trans e1, ra⟩

end Cert.Norm

end
-- ==== Proof.InWeight.Kernel.lean ====
module

public import proofs.«01_k».proof.Proof.Gen.Kernel6Ideal.Value
public import Idealize.ShloMosaic.Lib.Pointwise

@[expose] public section

set_option maxRecDepth 16384

noncomputable section

/-! # The gradient of the input projection's weight

Point `t` of the grid is at columns `1792 * (t / 4)` on of the gradient and at quarter `t % 4` of the rows: the first quarter leaves
its product in the scratch, the next two add theirs, the last adds its own and writes the sum as two chunks of 896 columns. -/

namespace Cert.Kernel6Ideal.Hand

open Cert.Kernel6Ideal Cert.Kernel6Ideal.Gen Cert.Kernel6Ideal.Value
open Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

theorem ix2_eta {n0 n1 : ℕ} (i : (⟨2, ![n0, n1]⟩ : Shape).Idx) {a b : ℕ} (ha : a < n0) (hb : b < n1)
    (h0 : (i 0).val = a) (h1 : (i 1).val = b) : i = ix2 ⟨a, ha⟩ ⟨b, hb⟩ := by
  subst h0 h1
  funext x
  fin_cases x <;> rfl

theorem ix3_eta {n0 n1 n2 : ℕ} (i : (⟨3, ![n0, n1, n2]⟩ : Shape).Idx) {a b d : ℕ} (ha : a < n0) (hb : b < n1) (hd : d < n2)
    (h0 : (i 0).val = a) (h1 : (i 1).val = b) (h2 : (i 2).val = d) : i = ix3 ⟨a, ha⟩ ⟨b, hb⟩ ⟨d, hd⟩ := by
  subst h0 h1 h2
  funext x
  fin_cases x <;> rfl

theorem pay1_apply (x : Vec Ideal S1024x1024 .bf16) (y : Vec Ideal S1024x1792 .bf16) (r : Fin 1024) (l : Fin 1792) :
    k0_pay1 (F := Ideal) x y (ix2 r l) = ∑ k : Fin 1024, x (ix2 k r) * y (ix2 k l) := by
  pointwise [k0_pay1]

theorem pay2_apply (x : Vec Ideal S1024x1024 .bf16) (y : Vec Ideal S1024x1792 .bf16) (a : Vec Ideal S1024x1792 .f32) (r : Fin 1024) (l : Fin 1792) :
    k0_pay2 (F := Ideal) x y a (ix2 r l) = a (ix2 r l) + ∑ k : Fin 1024, x (ix2 k r) * y (ix2 k l) := by
  pointwise [k0_pay2]

theorem pay3_left (x : Vec Ideal S1024x1024 .bf16) (y : Vec Ideal S1024x1792 .bf16) (a : Vec Ideal S1024x1792 .f32) (r : Fin 1024) (l : Fin 896) :
    k0_pay3 (F := Ideal) x y a (ix3 0 r l)
      = a (ix2 r ⟨l.val, by omega⟩) + ∑ k : Fin 1024, x (ix2 k r) * y (ix2 k ⟨l.val, by omega⟩) := by
  pointwise [k0_pay3]

theorem pay3_right (x : Vec Ideal S1024x1024 .bf16) (y : Vec Ideal S1024x1792 .bf16) (a : Vec Ideal S1024x1792 .f32) (r : Fin 1024) (l : Fin 896) :
    k0_pay3 (F := Ideal) x y a (ix3 1 r l)
      = a (ix2 r ⟨896 + l.val, by omega⟩) + ∑ k : Fin 1024, x (ix2 k r) * y (ix2 k ⟨896 + l.val, by omega⟩) := by
  pointwise [k0_pay3]

theorem pay3_apply (x : Vec Ideal S1024x1024 .bf16) (y : Vec Ideal S1024x1792 .bf16) (a : Vec Ideal S1024x1792 .f32)
    (j : Fin 2) (r : Fin 1024) (l : Fin 896) (hl : 896 * j.val + l.val < 1792) :
    k0_pay3 (F := Ideal) x y a (ix3 j r l)
      = a (ix2 r ⟨896 * j.val + l.val, hl⟩) + ∑ k : Fin 1024, x (ix2 k r) * y (ix2 k ⟨896 * j.val + l.val, hl⟩) := by
  obtain ⟨v, hv⟩ := j
  rcases v with _ | _ | v
  · have e : (⟨896 * 0 + l.val, hl⟩ : Fin 1792) = ⟨l.val, by omega⟩ := Fin.ext (by dsimp only; omega)
    exact (pay3_left x y a r l).trans (by rw [e])
  · exact pay3_right x y a r l
  · omega

section Terms

variable (c : Dev nD) (i : grid0.Coords) (a0 : Memref sig .tc .vmem S1024x1024 .bf16) (h0 : a0.IsWhole)
  (a1 : Memref sig .tc .vmem S1024x1792 .bf16) (h1 : a1.IsWhole) (a2 : Memref sig .tc .vmem S2x1024x896 .bf16) (h2 : a2.IsWhole)
  (a3 : Memref sig .tc .vmem S1024x1792 .f32) (h3 : a3.IsWhole)
  (x0 : Vec Ideal S1024x1024 .bf16) (x1 : Vec Ideal S1024x1792 .bf16)

theorem first_eq (hc0 hc1 hc2) : sout0_A_0 (F := Ideal) c i a0 h0 a1 h1 a2 h2 a3 h3 hc0 hc1 hc2 x0 x1 = k0_pay1 x0 x1 := by
  unfold sout0_A_0
  rw [View.read_writes_eq_canon _ _ _ (scover0_A_0 c i a0 h0 a1 h1 a2 h2 a3 h3 hc0 hc1 hc2 x0 x1)]
  unfold kernelRun0_A
  dsimp only
  sl_unfold_words
  rw [View.canon_unit_zero hz]
  simp only [View.readAt_eq_ld, h0.read_unread, h1.read_unread, View.ld_unit_zero (S := S1024x1024) hz, View.ld_unit_zero (S := S1024x1792) hz]

theorem middle_eq (hc0 hc1 hc2) (xs : Vec Ideal S1024x1792 .f32) :
    sout0_B_0 (F := Ideal) c i a0 h0 a1 h1 a2 h2 a3 h3 hc0 hc1 hc2 x0 x1 xs = k0_pay2 x0 x1 xs := by
  unfold sout0_B_0
  rw [View.read_writes_eq_canon _ _ _ (scover0_B_0 c i a0 h0 a1 h1 a2 h2 a3 h3 hc0 hc1 hc2 x0 x1 xs)]
  unfold kernelRun0_B
  dsimp only
  sl_unfold_words
  rw [View.canon_unit_zero hz]
  simp only [View.readAt_eq_ld, h0.read_unread, h1.read_unread, h3.read_unread, View.ld_unit_zero (S := S1024x1024) hz,
    View.ld_unit_zero (S := S1024x1792) hz]

theorem last_eq (hc0 hc1 hc2) (xs : Vec Ideal S1024x1792 .f32) :
    out0_C_2 (F := Ideal) c i a0 h0 a1 h1 a2 h2 a3 h3 hc0 hc1 hc2 x0 x1 xs = k0_pay3 x0 x1 xs := by
  unfold out0_C_2
  rw [View.read_writes_eq_canon _ _ _ (cover0_C_2 c i a0 h0 a1 h1 a2 h2 a3 h3 hc0 hc1 hc2 x0 x1 xs)]
  unfold kernelRun0_C
  dsimp only
  sl_unfold_words
  rw [View.canon_unit_zero hz3]
  simp only [View.readAt_eq_ld, h0.read_unread, h1.read_unread, h3.read_unread, View.ld_unit_zero (S := S1024x1024) hz,
    View.ld_unit_zero (S := S1024x1792) hz]

end Terms

variable (m : (ℓ : Loc nD τ sig) → Buf (Elt Ideal) ℓ)

/-- The layer's normed input. -/
abbrev argH (c : Dev nD) : FVec Ideal S4096x1024 .bf16 := m ((c : Thread nD τ).loc main_arg0)

/-- The gradient that comes in. -/
abbrev argD (c : Dev nD) : FVec Ideal S4096x3584 .bf16 := m ((c : Thread nD τ).loc main_arg1)

theorem idx0 : ∀ t : Fin cfg0.N, win0_0.index t (0 : Fin 2) = t.val % 4 ∧ win0_0.index t (1 : Fin 2) = 0 :=
  (by decide +kernel : ∀ t : Fin grid0.N, _)

theorem idx1 : ∀ t : Fin cfg0.N, win0_1.index t (0 : Fin 2) = t.val % 4 ∧ win0_1.index t (1 : Fin 2) = t.val / 4 :=
  (by decide +kernel : ∀ t : Fin grid0.N, _)

theorem iblk_h (c : Dev nD) (t : Fin cfg0.N) (k r : Fin 1024) (hk : 1024 * (t.val % 4) + k.val < 4096) :
    (iblk m c 0 t : Vec Ideal S1024x1024 .bf16) (ix2 k r) = argH m c (ix2 ⟨1024 * (t.val % 4) + k.val, hk⟩ r) := by
  obtain ⟨e0, e1⟩ := idx0 t
  refine (congrArg (V m c main_arg0 : FVec Ideal S4096x1024 .bf16) (ix2_eta (((cfg0.win 0).blk t).view.emb (ix2 k r)) hk r.isLt ?_ ?_)).trans
    (congrFun (V_main_arg0 m c) _)
  · change win0_0.index t (0 : Fin 2) * 1024 + 1 * k.val = _
    omega
  · change win0_0.index t (1 : Fin 2) * 1024 + 1 * r.val = _
    omega

theorem iblk_d (c : Dev nD) (t : Fin cfg0.N) (k : Fin 1024) (l : Fin 1792) (hk : 1024 * (t.val % 4) + k.val < 4096)
    (hl : 1792 * (t.val / 4) + l.val < 3584) :
    (iblk m c 1 t : Vec Ideal S1024x1792 .bf16) (ix2 k l) = argD m c (ix2 ⟨1024 * (t.val % 4) + k.val, hk⟩ ⟨1792 * (t.val / 4) + l.val, hl⟩) := by
  obtain ⟨e0, e1⟩ := idx1 t
  refine (congrArg (V m c main_arg1 : FVec Ideal S4096x3584 .bf16) (ix2_eta (((cfg0.win 1).blk t).view.emb (ix2 k l)) hk hl ?_ ?_)).trans
    (congrFun (V_main_arg1 m c) _)
  · change win0_1.index t (0 : Fin 2) * 1024 + 1 * k.val = _
    omega
  · change win0_1.index t (1 : Fin 2) * 1792 + 1 * l.val = _
    omega

/-- One block of the normed input. -/
abbrev blkH (c : Dev nD) (t : Fin cfg0.N) : Vec Ideal S1024x1024 .bf16 := iblk m c 0 t

/-- One block of the gradient that comes in. -/
abbrev blkD (c : Dev nD) (t : Fin cfg0.N) : Vec Ideal S1024x1792 .bf16 := iblk m c 1 t

/-- One quarter of the rows: its share of the product. -/
def part (c : Dev nD) (q : ℕ) (hq : q < 4) (r : Fin 1024) (l : Fin 3584) : EReal :=
  ∑ k : Fin 1024, argH m c (ix2 ⟨1024 * q + k.val, by omega⟩ r) * argD m c (ix2 ⟨1024 * q + k.val, by omega⟩ l)

theorem part_eq (c : Dev nD) (t : Fin cfg0.N) (q j : ℕ) (hq : q < 4) (e : t.val = 4 * j + q) (r : Fin 1024) (l : Fin 1792)
    (hl : 1792 * j + l.val < 3584) :
    ∑ k : Fin 1024, blkH m c t (ix2 k r) * blkD m c t (ix2 k l)
      = part m c q hq r ⟨1792 * j + l.val, hl⟩ := by
  have e0 : t.val % 4 = q := by omega
  have e1 : t.val / 4 = j := by omega
  subst e0 e1
  refine Finset.sum_congr rfl fun k _ => ?_
  exact congrArg₂ (fun a b : EReal => a * b) (iblk_h m c t k r (by omega)) (iblk_d m c t k l (by omega) hl)

/-- A sum over all rows is the sums over its four quarters. -/
theorem sum_quarters (c : Dev nD) (r : Fin 1024) (l : Fin 3584) :
    ((part m c 0 (by omega) r l + part m c 1 (by omega) r l) + part m c 2 (by omega) r l) + part m c 3 (by omega) r l
      = ∑ k : Fin 4096, argH m c (ix2 k r) * argD m c (ix2 k l) := by
  refine Eq.trans ?_ (Fin.sum_univ_add (a := 3072) (b := 1024) fun k : Fin 4096 => argH m c (ix2 k r) * argD m c (ix2 k l)).symm
  refine congrArg₂ (fun a b : EReal => a + b) ?_ rfl
  refine Eq.trans ?_ (Fin.sum_univ_add (a := 2048) (b := 1024) _).symm
  refine congrArg₂ (fun a b : EReal => a + b) ?_ rfl
  refine Eq.trans ?_ (Fin.sum_univ_add (a := 1024) (b := 1024) _).symm
  refine congrArg₂ (fun a b : EReal => a + b) (Finset.sum_congr rfl fun k _ => ?_) rfl
  have e : (⟨1024 * 0 + k.val, by omega⟩ : Fin 4096) = ⟨k.val, by omega⟩ := Fin.ext (by dsimp only; omega)
  rw [e]
  rfl

/-- The product of the normed input, transposed, with the gradient. -/
def full (c : Dev nD) (r : Fin 1024) (l : Fin 3584) : EReal :=
  ∑ k : Fin 4096, argH m c (ix2 k r) * argD m c (ix2 k l)

/-- What the kernel leaves: the product of the normed input, transposed, with the gradient, in four chunks of columns. -/
theorem G2_apply (c : Dev nD) (j : Fin 4) (r : Fin 1024) (l : Fin 896) :
    (G2 m c : FVec Ideal S4x1024x896 .bf16) (ix3 j r l) = full m c r ⟨896 * j.val + l.val, by omega⟩ := by
  have hj := j.isLt
  have hr := r.isLt
  have hl := l.isLt
  have hN : cfg0.N = 8 := N_0
  have hp : pt2Of (ix3 j r l) = 4 * (j.val / 2) + 3 := by
    change 4 * (1 * (j.val / 2 - 0) + 1 * (r.val / 1024 - 0) + 1 * (l.val / 896 - 0)) + 3 = _
    omega
  have hlt : 4 * (j.val / 2) + 3 < cfg0.N := by omega
  have hm : j.val % 2 < 2 := Nat.mod_lt _ (by decide)
  have hc : 896 * (j.val % 2) + l.val < 1792 := by omega
  have hd : 1792 * (j.val / 2) + (896 * (j.val % 2) + l.val) < 3584 := by omega
  unfold G2
  rw [dif_pos (by rw [hp]; exact hlt), fold0_congr m c _ _ (4 * (j.val / 2) + 3) (by omega) hp, ← outsAt0_sweep m c _ hlt,
    outsAt0_succ m c _ hlt, stAt0_C m c ⟨4 * (j.val / 2) + 3, hlt⟩ _ (by dsimp only; omega) (by dsimp only; omega) (by dsimp only; omega),
    outsAt0_succ m c (4 * (j.val / 2) + 1) (by omega),
    stAt0_B m c ⟨4 * (j.val / 2) + 2, by omega⟩ _ (by dsimp only; omega) (by dsimp only; omega) (by dsimp only; omega),
    outsAt0_succ m c (4 * (j.val / 2)) (by omega),
    stAt0_B m c ⟨4 * (j.val / 2) + 1, by omega⟩ _ (by dsimp only; omega) (by dsimp only; omega) (by dsimp only; omega),
    outsAt0_A m c ⟨4 * (j.val / 2), by omega⟩ (by dsimp only; omega) (by dsimp only; omega) (by dsimp only; omega)]
  dsimp only
  rw [last_eq, middle_eq, middle_eq, first_eq, ix3_eta (loc2Of (ix3 j r l)) hm hr hl rfl (Nat.mod_eq_of_lt hr) (Nat.mod_eq_of_lt hl),
    pay3_apply _ _ _ _ _ _ hc, pay2_apply, pay2_apply, pay1_apply,
    part_eq m c ⟨4 * (j.val / 2) + 3, hlt⟩ 3 (j.val / 2) (by omega) rfl _ _ hd,
    part_eq m c ⟨4 * (j.val / 2) + 2, by omega⟩ 2 (j.val / 2) (by omega) rfl _ _ hd,
    part_eq m c ⟨4 * (j.val / 2) + 1, by omega⟩ 1 (j.val / 2) (by omega) rfl _ _ hd,
    part_eq m c ⟨4 * (j.val / 2), by omega⟩ 0 (j.val / 2) (by omega) rfl _ _ hd, sum_quarters]
  have e : (⟨1792 * (j.val / 2) + (896 * (j.val % 2) + l.val), hd⟩ : Fin 3584) = ⟨896 * j.val + l.val, by omega⟩ :=
    Fin.ext (by dsimp only; omega)
  exact congrArg (full m c r) e

end Cert.Kernel6Ideal.Hand

end
-- ==== Proof.InWeight.Claim.lean ====
module

public import proofs.«01_k».proof.Defs
public import proofs.«01_k».proof.Proof.InWeight.Kernel
public import proofs.«01_k».proof.Proof.Gen.Reference6Ideal.Read
public import proofs.«01_k».proof.Proof.Gen.Reference6Ideal.Run
public import Idealize.ShloMosaic.Lib.Claim
public import Idealize.ShloMosaic.Lib.Pointwise

@[expose] public section

set_option maxRecDepth 16384

noncomputable section

/-! # The gradient of the input projection's weight is the reference's -/

namespace Cert.InWeight

open Idealize Idealize.ShloMosaic Idealize.SL.Sem

open Cert.Reference6Ideal.Read in
theorem ref_apply (h : FVec Ideal Cert.Reference6Ideal.S4096x1024 .bf16) (d : FVec Ideal Cert.Reference6Ideal.S4096x3584 .bf16)
    (j : Fin 4) (r : Fin 1024) (l : Fin 896) :
    val_main_v11 (F := Ideal) h d (ix3 j r l) = ∑ k : Fin 4096, h (ix2 k r) * d (ix2 k ⟨896 * j.val + l.val, by omega⟩) := by
  change val_main_v10 (F := Ideal) h d (ix3 j r l) = _
  rw [val_main_v10_apply, val_main_v9_apply, val_main_v8_apply, val_main_v7_apply]
  refine Finset.sum_congr rfl fun k _ => ?_
  have hj := j.isLt
  have hl := l.isLt
  refine (mul_comm _ _).trans (congrArg₂ (fun a b : EReal => a * b) (congrArg h ?_) (congrArg d ?_))
  · funext x
    fin_cases x
    · rfl
    · apply Fin.ext
      change ((r.val * 4 + j.val) * 896 + l.val) / 3584 = r.val
      omega
  · funext x
    fin_cases x
    · rfl
    · apply Fin.ext
      change ((r.val * 4 + j.val) * 896 + l.val) % 3584 = 896 * j.val + l.val
      omega

theorem algebraic : Cert.algebraic_Kernel6Ideal_Reference6Ideal (hKernel6Ideal := Cert.Kernel6Ideal.Gen.facts)
    (hReference6Ideal := Cert.Reference6Ideal.Gen.facts) := by
  intro m g m' g' _ hag
  refine ⟨_, Cert.Kernel6Ideal.Value.run m g, ?_⟩
  refine (θ_run Cert.Reference6Ideal.defs _ _).mono (fun r h c => ?_) (Cert.Reference6Ideal.Value.run (F := Ideal) m' g')
  obtain ⟨r0, ra⟩ := h c
  obtain ⟨a0, a1⟩ := hag c
  refine ⟨r0.trans (funext fun i => ?_), ra⟩
  rw [Cert.Kernel6Ideal.Hand.ix3_eta i (i 0).isLt (i 1).isLt (i 2).isLt rfl rfl rfl]
  refine (congrFun (Cert.Reference6Ideal.Read.val_main_v11_eq _ _) _).trans ((ref_apply _ _ _ _ _).trans ?_)
  rw [a0, a1]
  exact (Cert.Kernel6Ideal.Hand.G2_apply _ _ _ _ _).symm

end Cert.InWeight

end
-- ==== Proof.OutProj.Claim.lean ====
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import Idealize.ShloMosaic.Lib.Claim
public import Idealize.ShloMosaic.Lib.Pointwise

@[expose] public section

set_option maxRecDepth 16384

noncomputable section

/-! # The gradient through the output projection is the reference's

Point `t` of the grid multiplies rows `512 * t` on with the whole weight. -/

namespace Cert.Kernel7Ideal.Hand

open Cert.Kernel7Ideal Cert.Kernel7Ideal.Gen Cert.Kernel7Ideal.Value
open Idealize.ShloMosaic Idealize.ShloMosaic.TcCoe Idealize.SL.Sem

theorem hz : (![0, 0] : Fin 2 → Nat) = fun _ => 0 := funext fun a => by fin_cases a <;> rfl

theorem ix2_eta {n0 n1 : ℕ} (i : (⟨2, ![n0, n1]⟩ : Shape).Idx) {a b : ℕ} (ha : a < n0) (hb : b < n1)
    (h0 : (i 0).val = a) (h1 : (i 1).val = b) : i = ix2 ⟨a, ha⟩ ⟨b, hb⟩ := by
  subst h0 h1
  funext x
  fin_cases x <;> rfl

theorem pay_apply (x : Vec Ideal S512x1024 .bf16) (w : Vec Ideal S1024x1024 .bf16) (r : Fin 512) (l : Fin 1024) :
    k0_pay1 (F := Ideal) x w (ix2 r l) = ∑ k : Fin 1024, x (ix2 r k) * w (ix2 l k) := by
  pointwise [k0_pay1]

theorem out_eq (x : Vec Ideal S512x1024 .bf16) (w : Vec Ideal S1024x1024 .bf16) : out0_2 (F := Ideal) x w = k0_pay1 x w := by
  unfold out0_2
  rw [View.canon_unit_zero hz, View.ld_unit_zero (S := S512x1024) hz _ x, View.ld_unit_zero (S := S1024x1024) hz _ w]

variable (m : (ℓ : Loc nD τ sig) → Buf (Elt Ideal) ℓ)

/-- The gradient that comes in. -/
abbrev argD (c : Dev nD) : FVec Ideal S4096x1024 .bf16 := m ((c : Thread nD τ).loc main_arg0)

/-- The weight. -/
abbrev argW (c : Dev nD) : FVec Ideal S1024x1024 .bf16 := m ((c : Thread nD τ).loc main_arg1)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem iblk_d (c : Dev nD) (t : Fin cfg0.N) (r : Fin 512) (k : Fin 1024) (hr : 512 * t.val + r.val < 4096) :
    (iblk m c 0 t : Vec Ideal S512x1024 .bf16) (ix2 r k) = argD m c (ix2 ⟨512 * t.val + r.val, hr⟩ k) := by
  obtain ⟨e0, e1⟩ := idx0 t
  refine (congrArg (V m c main_arg0 : FVec Ideal S4096x1024 .bf16) (ix2_eta (((cfg0.win 0).blk t).view.emb (ix2 r k)) hr k.isLt ?_ ?_)).trans
    (congrFun (V_main_arg0 m c) _)
  · change win0_0.index t (0 : Fin 2) * 512 + 1 * r.val = _
    omega
  · change win0_0.index t (1 : Fin 2) * 1024 + 1 * k.val = _
    omega

theorem iblk_w (c : Dev nD) (t : Fin cfg0.N) (l k : Fin 1024) :
    (iblk m c 1 t : Vec Ideal S1024x1024 .bf16) (ix2 l k) = argW m c (ix2 l k) := by
  obtain ⟨e0, e1⟩ := idx1 t
  refine (congrArg (V m c main_arg1 : FVec Ideal S1024x1024 .bf16) (ix2_eta (((cfg0.win 1).blk t).view.emb (ix2 l k)) l.isLt k.isLt ?_ ?_)).trans
    (congrFun (V_main_arg1 m c) _)
  · change win0_1.index t (0 : Fin 2) * 1024 + 1 * l.val = _
    omega
  · change win0_1.index t (1 : Fin 2) * 1024 + 1 * k.val = _
    omega

/-- The rows against the rows of the weight. -/
def G (c : Dev nD) : FVec Ideal S4096x1024 .f32 := fun i =>
  ∑ k : Fin 1024, argD m c (ix2 (n0 := 4096) (n1 := 1024) (i 0) k) * argW m c (ix2 (n0 := 1024) (n1 := 1024) (i 1) k)

theorem flushed_eq (c : Dev nD) (t : Fin cfg0.N) :
    (dats m 0 c).flushed 2 t = ((cfg0.win 2).blk t).view.read (Elt Ideal) (G m c) := by
  rw [flushed2, out_eq]
  funext y
  have e : ∀ y : S512x1024.Idx, k0_pay1 (F := Ideal) (iblk m c 0 t) (iblk m c 1 t) y = G m c (((cfg0.win 2).blk t).view.emb y) := fun y => by
    obtain ⟨e0, e1⟩ := idx2 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 2).blk t).view.emb (ix2 r l)) hr l.isLt
      (by change win0_2.index t (0 : Fin 2) * 512 + 1 * r.val = _; omega) (by change win0_2.index t (1 : Fin 2) * 1024 + 1 * l.val = _; omega)]
    refine (pay_apply _ _ _ _).trans (Finset.sum_congr rfl fun k _ => ?_)
    exact congrArg₂ (fun a b : EReal => a * b) (iblk_d m c t r k hr) (iblk_w m c t l k)
  exact e y

theorem final (c : Dev nD) : (dats m 0 c).arrAt 2 cfg0.N = G m c := by
  refine (dats m 0 c).arrAt_eq_of_cover 2 _ (fun t _ => flushed_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx2 ⟨(i 0).val / 512, ht⟩
  refine ⟨⟨(i 0).val / 512, ht⟩, flush0_2 _, ?_⟩
  refine Finset.mem_map.mpr ⟨ix2 ⟨(i 0).val % 512, Nat.mod_lt _ (by omega)⟩ ⟨(i 1).val, h1⟩, Finset.mem_univ _, ?_⟩
  refine (ix2_eta (((cfg0.win 2).blk ⟨(i 0).val / 512, ht⟩).view.emb (ix2 _ _)) h0 h1 ?_ ?_).trans (ix2_eta i h0 h1 rfl rfl).symm
  · change win0_2.index ⟨(i 0).val / 512, ht⟩ (0 : Fin 2) * 512 + 1 * ((i 0).val % 512) = _
    dsimp only at e0
    omega
  · change win0_2.index ⟨(i 0).val / 512, ht⟩ (1 : Fin 2) * 1024 + 1 * (i 1).val = _
    omega

end Cert.Kernel7Ideal.Hand

namespace Cert.OutProj

open Idealize Idealize.ShloMosaic Idealize.SL.Sem

open Cert.Reference7Ideal.Read in
theorem ref_apply (d : FVec Ideal Cert.Reference7Ideal.S4096x1024 .bf16) (w : FVec Ideal Cert.Reference7Ideal.S1024x1024 .bf16)
    (r : Fin 4096) (l : Fin 1024) :
    val_main_v4 (F := Ideal) d w (ix2 r l) = ∑ k : Fin 1024, d (ix2 r k) * w (ix2 l k) := by
  pointwise [val_main_v4, val_main_v3, val_main_v1]

theorem algebraic : Cert.algebraic_Kernel7Ideal_Reference7Ideal (hKernel7Ideal := Cert.Kernel7Ideal.Gen.facts)
    (hReference7Ideal := Cert.Reference7Ideal.Gen.facts) := by
  intro m g m' g' _ hag
  refine ⟨Cert.Kernel7Ideal.Hand.G m, (θ_run Cert.Kernel7Ideal.defs _ _).mono (fun r h c => ?_) (Cert.Kernel7Ideal.Value.run_blocks m g), ?_⟩
  · obtain ⟨r0, ra⟩ := h c
    exact ⟨r0.trans (Cert.Kernel7Ideal.Hand.final m c), ra⟩
  refine (θ_run Cert.Reference7Ideal.defs _ _).mono (fun r h c => ?_) (Cert.Reference7Ideal.Value.run (F := Ideal) m' g')
  obtain ⟨r0, ra⟩ := h c
  obtain ⟨a0, a1⟩ := hag c
  refine ⟨r0.trans (funext fun i => ?_), ra⟩
  rw [Cert.Kernel7Ideal.Hand.ix2_eta i (i 0).isLt (i 1).isLt rfl rfl]
  refine (congrFun (Cert.Reference7Ideal.Read.val_main_v4_eq _ _) _).trans ((ref_apply _ _ _ _).trans ?_)
  rw [a0, a1]
  rfl

end Cert.OutProj

end
-- ==== Proof.OutWeight.Claim.lean ====
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import Idealize.ShloMosaic.Lib.Claim
public import Idealize.ShloMosaic.Lib.Pointwise

@[expose] public section

set_option maxRecDepth 16384

noncomputable section

/-! # The gradient of the output projection's weight is the reference's

The kernel has one grid point, which multiplies the whole arrays. -/

namespace Cert.OutWeight

open Idealize Idealize.ShloMosaic Idealize.SL.Sem

variable (z d : FVec Ideal Cert.Reference8Ideal.S4096x1024 .bf16) (r l : Fin 1024)

theorem kernel_apply : Cert.Kernel8Ideal.Gen.k0_pay1 (F := Ideal) z d (ix2 r l) = ∑ k : Fin 4096, z (ix2 k r) * d (ix2 k l) := by
  pointwise [Cert.Kernel8Ideal.Gen.k0_pay1]

open Cert.Reference8Ideal.Read in
theorem ref_apply : val_main_v7 (F := Ideal) z d (ix2 r l) = ∑ k : Fin 4096, z (ix2 k r) * d (ix2 k l) := by
  change val_main_v6 (F := Ideal) z d (ix2 r l) = _
  rw [val_main_v6_apply, val_main_v5_apply]
  refine Finset.sum_congr rfl fun k _ => ?_
  refine (mul_comm _ _).trans (congrArg₂ (fun a b : EReal => a * b) (congrArg z ?_) (congrArg d ?_))
  · funext x
    fin_cases x <;> rfl
  · funext x
    fin_cases x <;> rfl

theorem algebraic : Cert.algebraic_Kernel8Ideal_Reference8Ideal (hKernel8Ideal := Cert.Kernel8Ideal.Gen.facts)
    (hReference8Ideal := Cert.Reference8Ideal.Gen.facts) := by
  intro m g m' g' _ hag
  refine ⟨_, Cert.Kernel8Ideal.Value.run m g, ?_⟩
  refine (θ_run Cert.Reference8Ideal.defs _ _).mono (fun r h c => ?_) (Cert.Reference8Ideal.Value.run (F := Ideal) m' g')
  obtain ⟨r0, ra⟩ := h c
  obtain ⟨a0, a1⟩ := hag c
  refine ⟨r0.trans (funext fun i => ?_), ra⟩
  have hi : i = ix2 (i 0) (i 1) := by
    funext x
    fin_cases x <;> rfl
  rw [hi]
  refine (congrFun (Cert.Reference8Ideal.Read.val_main_v7_eq _ _) _).trans ((ref_apply _ _ _ _).trans ?_)
  rw [a0, a1]
  exact (kernel_apply _ _ _ _).symm

end Cert.OutWeight

end
-- ==== Proof.NormOne.Kernel.lean ====
module

public import proofs.«01_k».proof.Proof.Gen.Kernel9Ideal.Value
public import proofs.«01_k».proof.Proof.Norm.Kernel
public import Idealize.ShloMosaic.Lib.Pointwise
public import Idealize.ShloMosaic.Lib.Pipeline.ValueKit
public import Idealize.ShloMosaic.Lib.StableHlo.ReadAt

@[expose] public section

set_option maxRecDepth 16384

noncomputable section

/-! # The gradient through the two projections and the norm

Point `t` of the grid is at rows `512 * t` on. The first copies the two weights whole into the scratch, where every point reads them;
each writes its rows of the result: the gradient that came in, at the two weights, through the norm, added to the residual
gradient. -/

namespace Cert.Kernel9Ideal.Hand

open Cert.Kernel9Ideal Cert.Kernel9Ideal.Gen Cert.Kernel9Ideal.Value
open Idealize.ShloMosaic Idealize.ShloMosaic.TcCoe Idealize.SL.Sem
open Cert.Kernel5Ideal.Hand (hz canon_whole readCov_whole rst nrm mm ix2_eta down)

theorem pay3_apply (x : Vec Ideal S512x2816 .bf16) (v : Vec Ideal S2816x1024 .bf16) (y : Vec Ideal S512x2816 .bf16) (w : Vec Ideal S2816x1024 .bf16)
    (r : Fin 512) (l : Fin 1024) : k0_pay3 (F := Ideal) x v y w (ix2 r l) = mm x v r l + mm y w r l := by
  pointwise [k0_pay3, mm]

theorem pay6_open (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (r : Fin 512) (l : Fin 1024) :
    k0_pay6 (F := Ideal) x v y w a g (ix2 r l)
      = nrm (fun k => a (ix2 r k)) (fun k => k0_pay3 (F := Ideal) x v y w (ix2 r k) * g (ix2 0 k)) l := by
  pointwise [k0_pay6, k0_pay5, k0_pay4, nrm, rst]

/-- What a point leaves of the result. -/
def res (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (d : Vec Ideal S512x1024 .f32) : Vec Ideal S512x1024 .f32 :=
  k0_pay1 (F := Ideal) d (k0_pay6 (F := Ideal) x v y w a g)

theorem res_apply (x : Vec Ideal S512x2816 .bf16) (v : Vec Ideal S2816x1024 .bf16) (y : Vec Ideal S512x2816 .bf16) (w : Vec Ideal S2816x1024 .bf16)
    (a : Vec Ideal S512x1024 .f32) (g : Vec Ideal S1x1024 .f32) (d : Vec Ideal S512x1024 .f32) (r : Fin 512) (l : Fin 1024) :
    res x v y w a g d (ix2 r l)
      = d (ix2 r l) + nrm (fun k => a (ix2 r k)) (fun k => (mm x v r k + mm y w r k) * g (ix2 0 k)) l := by
  refine Eq.trans (b := d (ix2 r l) + k0_pay6 (F := Ideal) x v y w a g (ix2 r l)) rfl ?_
  rw [pay6_open]
  simp only [pay3_apply]

section Terms

variable (c : Dev nD) (i : grid0.Coords)
  (a1 : Memref sig .tc .vmem S512x2816 .bf16) (h1 : a1.IsWhole) (a2 : Memref sig .tc .vmem S512x2816 .bf16) (h2 : a2.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S1x1x1024 .f32) (h9 : a9.IsWhole)
  (a10 : Memref sig .tc .vmem S2816x1024 .bf16) (h10 : a10.IsWhole) (a11 : Memref sig .tc .vmem S2816x1024 .bf16) (h11 : a11.IsWhole)
  (x0 x1 : Vec Ideal S512x2816 .bf16) (x2 : Vec Ideal S512x1024 .f32) (x3 : Vec Ideal S1x1024 .f32) (x4 : Vec Ideal S512x1024 .f32)
  (w0 w1 : Vec Ideal S2816x1024 .bf16) (f0 : HbBuf0 (F := Ideal) c hbM0_0) (f1 : HbBuf0 (F := Ideal) c hbM0_1)

theorem outA5 (hc0) : out0_A_5 (F := Ideal) c i a1 h1 a2 h2 a5 h5 a6 h6 a7 h7 a8 h8 a9 h9 a10 h10 a11 h11 hc0 x0 x1 x2 x3 x4 f0 f1
    = res x0 f0 x1 f1 x2 x3 x4 := by
  unfold out0_A_5
  rw [View.read_writes_junk_eq_canon]
  unfold kernelRun0_A
  dsimp only
  sl_unfold_words
  rw [View.canon_unit_zero hz]
  simp only [View.readAt_eq_ld, h1.read_unread, h2.read_unread, h5.read_unread, h6.read_unread, h7.read_unread, readCov_whole,
    View.ld_unit_zero (S := S512x2816) hz, View.ld_unit_zero (S := S512x1024) hz,
    View.ld_unit_zero (S := S1x1024) hz, View.ld_unit_zero (S := S2816x1024) hz]
  rfl

theorem outB5 (hc0) : out0_B_5 (F := Ideal) c i a1 h1 a2 h2 a5 h5 a6 h6 a7 h7 a8 h8 a9 h9 a10 h10 a11 h11 hc0 x0 x1 x2 x3 x4 w0 w1 f0 f1
    = res x0 w0 x1 w1 x2 x3 x4 := by
  unfold out0_B_5
  rw [View.read_writes_junk_eq_canon]
  unfold kernelRun0_B
  dsimp only
  sl_unfold_words
  rw [View.canon_unit_zero hz]
  simp only [View.readAt_eq_ld, h1.read_unread, h2.read_unread, h5.read_unread, h6.read_unread, h7.read_unread, h10.read_unread, h11.read_unread,
    View.ld_unit_zero (S := S512x2816) hz, View.ld_unit_zero (S := S512x1024) hz,
    View.ld_unit_zero (S := S1x1024) hz, View.ld_unit_zero (S := S2816x1024) hz]
  rfl

theorem soutA0 (hc0) : sout0_A_0 (F := Ideal) c i a1 h1 a2 h2 a5 h5 a6 h6 a7 h7 a8 h8 a9 h9 a10 h10 a11 h11 hc0 x0 x1 x2 x3 x4 f0 f1 = f0 := by
  unfold sout0_A_0
  rw [View.read_writes_junk_eq_canon]
  unfold kernelRun0_A
  dsimp only
  sl_unfold_words
  exact canon_whole _

theorem soutA1 (hc0) : sout0_A_1 (F := Ideal) c i a1 h1 a2 h2 a5 h5 a6 h6 a7 h7 a8 h8 a9 h9 a10 h10 a11 h11 hc0 x0 x1 x2 x3 x4 f0 f1 = f1 := by
  unfold sout0_A_1
  rw [View.read_writes_junk_eq_canon]
  unfold kernelRun0_A
  dsimp only
  sl_unfold_words
  exact canon_whole _

theorem soutB0 (hc0) : sout0_B_0 (F := Ideal) c i a1 h1 a2 h2 a5 h5 a6 h6 a7 h7 a8 h8 a9 h9 a10 h10 a11 h11 hc0 x0 x1 x2 x3 x4 w0 w1 f0 f1 = w0 := rfl

theorem soutB1 (hc0) : sout0_B_1 (F := Ideal) c i a1 h1 a2 h2 a5 h5 a6 h6 a7 h7 a8 h8 a9 h9 a10 h10 a11 h11 hc0 x0 x1 x2 x3 x4 w0 w1 f0 f1 = w1 := rfl

end Terms

variable (m : (ℓ : Loc nD τ sig) → Buf (Elt Ideal) ℓ)

/-- The gradient at the first projection. -/
abbrev argDa (c : Dev nD) : FVec Ideal S4096x2816 .bf16 := m ((c : Thread nD τ).loc main_arg0)

/-- The gradient at the second projection. -/
abbrev argDb (c : Dev nD) : FVec Ideal S4096x2816 .bf16 := m ((c : Thread nD τ).loc main_arg1)

/-- The first projection's weight. -/
abbrev argWg (c : Dev nD) : FVec Ideal S4x704x1024 .bf16 := m ((c : Thread nD τ).loc main_arg2)

/-- The second projection's weight. -/
abbrev argWu (c : Dev nD) : FVec Ideal S4x704x1024 .bf16 := m ((c : Thread nD τ).loc main_arg3)

/-- The rows the norm took. -/
abbrev argX (c : Dev nD) : FVec Ideal S4096x1024 .f32 := m ((c : Thread nD τ).loc main_arg4)

/-- The norm's scale. -/
abbrev argG (c : Dev nD) : FVec Ideal S1x1024 .f32 := m ((c : Thread nD τ).loc main_arg5)

/-- The residual gradient. -/
abbrev argR (c : Dev nD) : FVec Ideal S4096x1024 .f32 := m ((c : Thread nD τ).loc main_arg6)

/-- One point's result. -/
abbrev at5 (c : Dev nD) (t : Fin cfg0.N) : Vec Ideal S512x1024 .f32 :=
  res (iblk m c 0 t) (V m c main_v0) (iblk m c 1 t) (V m c main_v1) (iblk m c 2 t) (iblk m c 3 t) (iblk m c 4 t)

theorem outs_eq (c : Dev nD) : ∀ (n : ℕ) (hn : n < cfg0.N), (outsAt0 m c n hn).1 = at5 m c ⟨n, hn⟩
    ∧ (outsAt0 m c n hn).2.2.1 = V m c main_v0 ∧ (outsAt0 m c n hn).2.2.2 = V m c main_v1
  | 0, hn => by
    have e := outsAt0_A m c ⟨0, hn⟩ rfl
    dsimp only at e
    rw [e]
    dsimp only
    exact ⟨outA5 .., soutA0 .., soutA1 ..⟩
  | n + 1, hn => by
    have hN : cfg0.N = 8 := N_0
    have e := outsAt0_B m c ⟨n + 1, hn⟩ (by dsimp only; omega)
    obtain ⟨-, i0, i1⟩ := outs_eq c n (Nat.lt_of_succ_lt hn)
    have s0 : (outsAt0 m c ((⟨n + 1, hn⟩ : Fin cfg0.N).val - 1) (Nat.lt_of_le_of_lt (Nat.sub_le _ _) hn)).2.2.1 = V m c main_v0 := i0
    have s1 : (outsAt0 m c ((⟨n + 1, hn⟩ : Fin cfg0.N).val - 1) (Nat.lt_of_le_of_lt (Nat.sub_le _ _) hn)).2.2.2 = V m c main_v1 := i1
    rw [s0, s1] at e
    dsimp only at e
    rw [e]
    dsimp only
    exact ⟨outB5 .., soutB0 .., soutB1 ..⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem iblk_da (c : Dev nD) (t : Fin cfg0.N) (r : Fin 512) (k : Fin 2816) (hr : 512 * t.val + r.val < 4096) :
    (iblk m c 0 t : Vec Ideal S512x2816 .bf16) (ix2 r k) = argDa m c (ix2 ⟨512 * t.val + r.val, hr⟩ k) := by
  obtain ⟨e0, e1⟩ := idx0 t
  refine (congrArg (V m c main_arg0 : FVec Ideal S4096x2816 .bf16) (ix2_eta (((cfg0.win 0).blk t).view.emb (ix2 r k)) hr k.isLt ?_ ?_)).trans
    (congrFun (V_main_arg0 m c) _)
  · change win0_0.index t (0 : Fin 2) * 512 + 1 * r.val = _
    omega
  · change win0_0.index t (1 : Fin 2) * 2816 + 1 * k.val = _
    omega

theorem iblk_db (c : Dev nD) (t : Fin cfg0.N) (r : Fin 512) (k : Fin 2816) (hr : 512 * t.val + r.val < 4096) :
    (iblk m c 1 t : Vec Ideal S512x2816 .bf16) (ix2 r k) = argDb m c (ix2 ⟨512 * t.val + r.val, hr⟩ k) := by
  obtain ⟨e0, e1⟩ := idx1 t
  refine (congrArg (V m c main_arg1 : FVec Ideal S4096x2816 .bf16) (ix2_eta (((cfg0.win 1).blk t).view.emb (ix2 r k)) hr k.isLt ?_ ?_)).trans
    (congrFun (V_main_arg1 m c) _)
  · change win0_1.index t (0 : Fin 2) * 512 + 1 * r.val = _
    omega
  · change win0_1.index t (1 : Fin 2) * 2816 + 1 * k.val = _
    omega

theorem iblk_x (c : Dev nD) (t : Fin cfg0.N) (r : Fin 512) (k : Fin 1024) (hr : 512 * t.val + r.val < 4096) :
    (iblk m c 2 t : Vec Ideal S512x1024 .f32) (ix2 r k) = argX m c (ix2 ⟨512 * t.val + r.val, hr⟩ k) := by
  obtain ⟨e0, e1⟩ := idx2 t
  refine (congrArg (V m c main_arg4 : FVec Ideal S4096x1024 .f32) (ix2_eta (((cfg0.win 2).blk t).view.emb (ix2 r k)) hr k.isLt ?_ ?_)).trans
    (congrFun (V_main_arg4 m c) _)
  · change win0_2.index t (0 : Fin 2) * 512 + 1 * r.val = _
    omega
  · change win0_2.index t (1 : Fin 2) * 1024 + 1 * k.val = _
    omega

theorem iblk_r (c : Dev nD) (t : Fin cfg0.N) (r : Fin 512) (k : Fin 1024) (hr : 512 * t.val + r.val < 4096) :
    (iblk m c 4 t : Vec Ideal S512x1024 .f32) (ix2 r k) = argR m c (ix2 ⟨512 * t.val + r.val, hr⟩ k) := by
  obtain ⟨e0, e1⟩ := idx4 t
  refine (congrArg (V m c main_arg6 : FVec Ideal S4096x1024 .f32) (ix2_eta (((cfg0.win 4).blk t).view.emb (ix2 r k)) hr k.isLt ?_ ?_)).trans
    (congrFun (V_main_arg6 m c) _)
  · change win0_4.index t (0 : Fin 2) * 512 + 1 * r.val = _
    omega
  · change win0_4.index t (1 : Fin 2) * 1024 + 1 * k.val = _
    omega

theorem iblk_g (c : Dev nD) (t : Fin cfg0.N) (k : Fin 1024) :
    (iblk m c 3 t : Vec Ideal S1x1024 .f32) (ix2 0 k) = argG m c (ix2 0 k) := by
  obtain ⟨e0, e1⟩ := idx3 t
  refine (congrArg (V m c main_arg5 : FVec Ideal S1x1024 .f32) (ix2_eta (((cfg0.win 3).blk t).view.emb (ix2 0 k)) Nat.zero_lt_one k.isLt ?_ ?_)).trans
    (congrFun (V_main_arg5 m c) _)
  · change win0_3.index t (0 : Fin 2) * 1 + 1 * 0 = _
    omega
  · change win0_3.index t (1 : Fin 2) * 1024 + 1 * k.val = _
    omega

theorem V_wg (c : Dev nD) (k : Fin 2816) (l : Fin 1024) :
    (V m c main_v0 : FVec Ideal S2816x1024 .bf16) (ix2 k l)
      = argWg m c (ix3 ⟨k.val / 704, by omega⟩ ⟨k.val % 704, Nat.mod_lt _ (by decide)⟩ l) := by
  unfold V
  after_reads_at

theorem V_wu (c : Dev nD) (k : Fin 2816) (l : Fin 1024) :
    (V m c main_v1 : FVec Ideal S2816x1024 .bf16) (ix2 k l)
      = argWu m c (ix3 ⟨k.val / 704, by omega⟩ ⟨k.val % 704, Nat.mod_lt _ (by decide)⟩ l) := by
  unfold V
  after_reads_at

theorem mm_g (c : Dev nD) (t : Fin cfg0.N) (r : Fin 512) (l : Fin 1024) (hr : 512 * t.val + r.val < 4096) :
    mm (iblk m c 0 t) (V m c main_v0) r l = down (argDa m c) (argWg m c) ⟨512 * t.val + r.val, hr⟩ l := by
  unfold mm down
  refine Finset.sum_congr rfl fun k _ => ?_
  rw [iblk_da m c t r k hr, V_wg]

theorem mm_u (c : Dev nD) (t : Fin cfg0.N) (r : Fin 512) (l : Fin 1024) (hr : 512 * t.val + r.val < 4096) :
    mm (iblk m c 1 t) (V m c main_v1) r l = down (argDb m c) (argWu m c) ⟨512 * t.val + r.val, hr⟩ l := by
  unfold mm down
  refine Finset.sum_congr rfl fun k _ => ?_
  rw [iblk_db m c t r k hr, V_wu]

/-- The gradient the projections hand back, times the norm's scale. -/
def grad (c : Dev nD) (r : Fin 4096) (k : Fin 1024) : EReal :=
  (down (argDa m c) (argWg m c) r k + down (argDb m c) (argWu m c) r k) * argG m c (ix2 0 k)

/-- The residual gradient with the gradient through the norm. -/
def total (c : Dev nD) (r : Fin 4096) (l : Fin 1024) : EReal :=
  argR m c (ix2 r l) + nrm (fun k => argX m c (ix2 r k)) (grad m c r) l

theorem at_apply (c : Dev nD) (t : Fin cfg0.N) (r : Fin 512) (l : Fin 1024) (hr : 512 * t.val + r.val < 4096) :
    at5 m c t (ix2 r l) = total m c ⟨512 * t.val + r.val, hr⟩ l := by
  refine (res_apply _ _ _ _ _ _ _ r l).trans ?_
  unfold total
  refine congrArg₂ (fun a b : EReal => a + b) (iblk_r m c t r l hr) (congrArg₂ (fun x e => nrm x e l) (funext fun k => iblk_x m c t r k hr) (funext fun k => ?_))
  unfold grad
  exact congrArg₂ (fun a b : EReal => a * b) (congrArg₂ (fun a b : EReal => a + b) (mm_g m c t r k hr) (mm_u m c t r k hr)) (iblk_g m c t k)

/-- The result. -/
def G5 (c : Dev nD) : FVec Ideal S4096x1024 .f32 := fun i => total m c (i 0) (i 1)

theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5, (outs_eq m c t.val t.isLt).1]
  funext y
  have e : ∀ y : S512x1024.Idx, at5 m c t y = G5 m c (((cfg0.win 5).blk t).view.emb y) := fun y => by
    obtain ⟨e0, e1⟩ := idx5 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 5).blk t).view.emb (ix2 r l)) hr l.isLt
      (by change win0_5.index t (0 : Fin 2) * 512 + 1 * r.val = _; omega) (by change win0_5.index t (1 : Fin 2) * 1024 + 1 * l.val = _; omega)]
    exact at_apply m c t r l hr
  exact e y

theorem final5 (c : Dev nD) : (dats m 0 c).arrAt 5 cfg0.N = G5 m c := by
  refine (dats m 0 c).arrAt_eq_of_cover 5 _ (fun t _ => flushed5_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx5 ⟨(i 0).val / 512, ht⟩
  refine ⟨⟨(i 0).val / 512, ht⟩, flush0_5 _, ?_⟩
  refine Finset.mem_map.mpr ⟨ix2 ⟨(i 0).val % 512, Nat.mod_lt _ (by omega)⟩ ⟨(i 1).val, h1⟩, Finset.mem_univ _, ?_⟩
  refine (ix2_eta (((cfg0.win 5).blk ⟨(i 0).val / 512, ht⟩).view.emb (ix2 _ _)) h0 h1 ?_ ?_).trans (ix2_eta i h0 h1 rfl rfl).symm
  · change win0_5.index ⟨(i 0).val / 512, ht⟩ (0 : Fin 2) * 512 + 1 * ((i 0).val % 512) = _
    dsimp only at e0
    omega
  · change win0_5.index ⟨(i 0).val / 512, ht⟩ (1 : Fin 2) * 1024 + 1 * (i 1).val = _
    omega

end Cert.Kernel9Ideal.Hand

end
-- ==== Proof.NormOne.Claim.lean ====
module

public import proofs.«01_k».proof.Defs
public import proofs.«01_k».proof.Proof.Norm.Claim
public import proofs.«01_k».proof.Proof.NormOne.Kernel
public import proofs.«01_k».proof.Proof.Gen.Reference9Ideal.Read
public import proofs.«01_k».proof.Proof.Gen.Reference9Ideal.Run
public import Idealize.ShloMosaic.Lib.Claim

@[expose] public section

set_option maxRecDepth 16384

noncomputable section

/-! # The same gradient where the call has one result

The reference is the first result of the one with two. -/

namespace Cert.NormOne

open Idealize Idealize.ShloMosaic Idealize.SL.Sem
open Cert.Kernel5Ideal.Hand (ix2_eta)
open Cert.Kernel9Ideal.Hand

theorem same (da db : FVec Ideal Cert.Reference9Ideal.S4096x2816 .bf16) (wg wu : FVec Ideal Cert.Reference9Ideal.S4x704x1024 .bf16)
    (x : FVec Ideal Cert.Reference9Ideal.S4096x1024 .f32) (g : FVec Ideal Cert.Reference9Ideal.S1x1024 .f32)
    (dr : FVec Ideal Cert.Reference9Ideal.S4096x1024 .f32) :
    Cert.Reference9Ideal.Read.val_main_v47 (F := Ideal) da db wg wu x g dr
      = Cert.Reference5Ideal.Read.val_main_v47 (F := Ideal) da db wg wu x g dr := rfl

variable (m : (ℓ : Loc Cert.Kernel9Ideal.nD Cert.Kernel9Ideal.τ Cert.Kernel9Ideal.sig) → Buf (Elt Ideal) ℓ)

/-- The reference's result, in the arrays of the kernel. -/
theorem result_eq (da db : FVec Ideal Cert.Reference9Ideal.S4096x2816 .bf16) (wg wu : FVec Ideal Cert.Reference9Ideal.S4x704x1024 .bf16)
    (x : FVec Ideal Cert.Reference9Ideal.S4096x1024 .f32) (g : FVec Ideal Cert.Reference9Ideal.S1x1024 .f32)
    (dr : FVec Ideal Cert.Reference9Ideal.S4096x1024 .f32) (c : Dev Cert.Kernel9Ideal.nD)
    (h0 : da = argDa m c) (h1 : db = argDb m c) (h2 : wg = argWg m c) (h3 : wu = argWu m c) (h4 : x = argX m c) (h5 : g = argG m c)
    (h6 : dr = argR m c) : Cert.Reference9Ideal.Read.val_main_v47 (F := Ideal) da db wg wu x g dr = G5 m c := by
  subst h0 h1 h2 h3 h4 h5 h6
  rw [same]
  funext i
  rw [ix2_eta i (i 0).isLt (i 1).isLt rfl rfl]
  exact Cert.Norm.v47_apply _ _ _ _ _ _ _ _ _

theorem algebraic : Cert.algebraic_Kernel9Ideal_Reference9Ideal (hKernel9Ideal := Cert.Kernel9Ideal.Gen.facts)
    (hReference9Ideal := Cert.Reference9Ideal.Gen.facts) := by
  intro m g m' g' _ hag
  refine ⟨G5 m, (θ_run Cert.Kernel9Ideal.defs _ _).mono (fun r h c => ?_) (Cert.Kernel9Ideal.Value.run_blocks m g), ?_⟩
  · obtain ⟨r0, _, ra⟩ := h c
    exact ⟨r0.trans (final5 m c), ra⟩
  refine (θ_run Cert.Reference9Ideal.defs _ _).mono (fun r h c => ?_) (Cert.Reference9Ideal.Value.run (F := Ideal) m' g')
  obtain ⟨r0, ra⟩ := h c
  obtain ⟨a0, a1, a2, a3, a4, a5, a6⟩ := hag c
  exact ⟨(r0.trans (Cert.Reference9Ideal.Read.val_main_v47_eq _ _)).trans (result_eq m _ _ _ _ _ _ _ c a0 a1 a2 a3 a4 a5 a6), ra⟩

end Cert.NormOne

end
-- ==== Proof.Down.Kernel.lean ====
module

public import proofs.«01_k».proof.Proof.Gen.Kernel10Ideal.Value
public import proofs.«01_k».proof.Proof.Norm.Kernel
public import Idealize.ShloMosaic.Lib.Pointwise
public import Idealize.ShloMosaic.Lib.Pipeline.ValueKit
public import Idealize.ShloMosaic.Lib.StableHlo.ReadAt

@[expose] public section

set_option maxRecDepth 16384

noncomputable section

/-! # The down projection with the residual sum and the norm after it

Point `t` of the grid is at rows `512 * t` on. The first copies the weight whole into the scratch, where every point reads it; each
writes its rows of the residual sum, and of its normed rows. -/

namespace Cert.Kernel10Ideal.Hand

open Cert.Kernel10Ideal Cert.Kernel10Ideal.Gen Cert.Kernel10Ideal.Value
open Idealize.ShloMosaic Idealize.ShloMosaic.TcCoe Idealize.SL.Sem
open Cert.Kernel5Ideal.Hand (hz canon_whole readCov_whole rst mm ix2_eta down)

/-- What a point leaves of the residual sum. -/
def res (z : Vec Ideal S512x2816 .bf16) (w : Vec Ideal S2816x1024 .bf16) (a : Vec Ideal S512x1024 .f32) : Vec Ideal S512x1024 .f32 :=
  k0_pay1 (F := Ideal) z w a

/-- What a point leaves of the normed rows. -/
def res' (z : Vec Ideal S512x2816 .bf16) (w : Vec Ideal S2816x1024 .bf16) (a : Vec Ideal S512x1024 .f32) (g : Vec Ideal S1x1024 .f32) : Vec Ideal S512x1024 .bf16 :=
  k0_pay2 (F := Ideal) z w a g

theorem res_apply (z : Vec Ideal S512x2816 .bf16) (w : Vec Ideal S2816x1024 .bf16) (a : Vec Ideal S512x1024 .f32) (r : Fin 512) (l : Fin 1024) :
    res z w a (ix2 r l) = a (ix2 r l) + Ideal.ofBits .f32 0x3F000000#32 * mm z w r l := by
  unfold res
  pointwise [k0_pay1, mm]

theorem res'_apply (z : Vec Ideal S512x2816 .bf16) (w : Vec Ideal S2816x1024 .bf16) (a : Vec Ideal S512x1024 .f32) (g : Vec Ideal S1x1024 .f32) (r : Fin 512) (l : Fin 1024) :
    res' z w a g (ix2 r l) = res z w a (ix2 r l) * rst (fun k => res z w a (ix2 r k)) * g (ix2 0 l) := by
  unfold res res'
  pointwise [k0_pay2, rst]

section Terms

variable (c : Dev nD) (i : grid0.Coords)
  (a1 : Memref sig .tc .vmem S512x2816 .bf16) (h1 : a1.IsWhole)
  (a3 : Memref sig .tc .vmem S512x1024 .f32) (h3 : a3.IsWhole)
  (a4 : Memref sig .tc .vmem S1x1024 .f32) (h4 : a4.IsWhole)
  (a5 : Memref sig .tc .vmem S512x1024 .f32) (h5 : a5.IsWhole)
  (a6 : Memref sig .tc .vmem S512x1024 .bf16) (h6 : a6.IsWhole)
  (a7 : Memref sig .tc .vmem S2816x1024 .bf16) (h7 : a7.IsWhole)
  (x0 : Vec Ideal S512x2816 .bf16) (x1 : Vec Ideal S512x1024 .f32) (x2 : Vec Ideal S1x1024 .f32)
  (w0 : Vec Ideal S2816x1024 .bf16) (f0 : HbBuf0 (F := Ideal) c hbM0_0)

theorem outA3 (hc0) : out0_A_3 (F := Ideal) c i a1 h1 a3 h3 a4 h4 a5 h5 a6 h6 a7 h7 hc0 x0 x1 x2 f0
    = res x0 f0 x1 := by
  unfold out0_A_3
  rw [View.read_writes_junk_eq_canon]
  unfold kernelRun0_A
  dsimp only
  sl_unfold_words
  rw [View.canon_unit_zero hz]
  simp only [View.readAt_eq_ld, h1.read_unread, h3.read_unread, h4.read_unread, readCov_whole,
    View.ld_unit_zero (S := S512x2816) hz, View.ld_unit_zero (S := S512x1024) hz,
    View.ld_unit_zero (S := S1x1024) hz, View.ld_unit_zero (S := S2816x1024) hz]
  rfl

theorem outA4 (hc0) : out0_A_4 (F := Ideal) c i a1 h1 a3 h3 a4 h4 a5 h5 a6 h6 a7 h7 hc0 x0 x1 x2 f0
    = res' x0 f0 x1 x2 := by
  unfold out0_A_4
  rw [View.read_writes_junk_eq_canon]
  unfold kernelRun0_A
  dsimp only
  sl_unfold_words
  rw [View.canon_unit_zero hz]
  simp only [View.readAt_eq_ld, h1.read_unread, h3.read_unread, h4.read_unread, readCov_whole,
    View.ld_unit_zero (S := S512x2816) hz, View.ld_unit_zero (S := S512x1024) hz,
    View.ld_unit_zero (S := S1x1024) hz, View.ld_unit_zero (S := S2816x1024) hz]
  rfl

theorem outB3 (hc0) : out0_B_3 (F := Ideal) c i a1 h1 a3 h3 a4 h4 a5 h5 a6 h6 a7 h7 hc0 x0 x1 x2 w0 f0
    = res x0 w0 x1 := by
  unfold out0_B_3
  rw [View.read_writes_junk_eq_canon]
  unfold kernelRun0_B
  dsimp only
  sl_unfold_words
  rw [View.canon_unit_zero hz]
  simp only [View.readAt_eq_ld, h1.read_unread, h3.read_unread, h4.read_unread, h7.read_unread,
    View.ld_unit_zero (S := S512x2816) hz, View.ld_unit_zero (S := S512x1024) hz,
    View.ld_unit_zero (S := S1x1024) hz, View.ld_unit_zero (S := S2816x1024) hz]
  rfl

theorem outB4 (hc0) : out0_B_4 (F := Ideal) c i a1 h1 a3 h3 a4 h4 a5 h5 a6 h6 a7 h7 hc0 x0 x1 x2 w0 f0
    = res' x0 w0 x1 x2 := by
  unfold out0_B_4
  rw [View.read_writes_junk_eq_canon]
  unfold kernelRun0_B
  dsimp only
  sl_unfold_words
  rw [View.canon_unit_zero hz]
  simp only [View.readAt_eq_ld, h1.read_unread, h3.read_unread, h4.read_unread, h7.read_unread,
    View.ld_unit_zero (S := S512x2816) hz, View.ld_unit_zero (S := S512x1024) hz,
    View.ld_unit_zero (S := S1x1024) hz, View.ld_unit_zero (S := S2816x1024) hz]
  rfl

theorem soutA (hc0) : sout0_A_0 (F := Ideal) c i a1 h1 a3 h3 a4 h4 a5 h5 a6 h6 a7 h7 hc0 x0 x1 x2 f0 = f0 := by
  unfold sout0_A_0
  rw [View.read_writes_junk_eq_canon]
  unfold kernelRun0_A
  dsimp only
  sl_unfold_words
  exact canon_whole _

theorem soutB (hc0) : sout0_B_0 (F := Ideal) c i a1 h1 a3 h3 a4 h4 a5 h5 a6 h6 a7 h7 hc0 x0 x1 x2 w0 f0 = w0 := rfl

end Terms

variable (m : (ℓ : Loc nD τ sig) → Buf (Elt Ideal) ℓ)

/-- The hidden rows. -/
abbrev argZ (c : Dev nD) : FVec Ideal S4096x2816 .bf16 := m ((c : Thread nD τ).loc main_arg0)

/-- The weight. -/
abbrev argW (c : Dev nD) : FVec Ideal S4x704x1024 .bf16 := m ((c : Thread nD τ).loc main_arg1)

/-- The residual rows. -/
abbrev argX (c : Dev nD) : FVec Ideal S4096x1024 .f32 := m ((c : Thread nD τ).loc main_arg2)

/-- The norm's scale. -/
abbrev argG (c : Dev nD) : FVec Ideal S1x1024 .f32 := m ((c : Thread nD τ).loc main_arg3)

/-- One point's first result. -/
abbrev at3 (c : Dev nD) (t : Fin cfg0.N) : Vec Ideal S512x1024 .f32 :=
  res (iblk m c 0 t) (V m c main_v0) (iblk m c 1 t)

/-- One point's second result. -/
abbrev at4 (c : Dev nD) (t : Fin cfg0.N) : Vec Ideal S512x1024 .bf16 :=
  res' (iblk m c 0 t) (V m c main_v0) (iblk m c 1 t) (iblk m c 2 t)

theorem outs_eq (c : Dev nD) : ∀ (n : ℕ) (hn : n < cfg0.N), (outsAt0 m c n hn).1 = at3 m c ⟨n, hn⟩
    ∧ (outsAt0 m c n hn).2.1 = at4 m c ⟨n, hn⟩ ∧ (outsAt0 m c n hn).2.2 = V m c main_v0
  | 0, hn => by
    have e := outsAt0_A m c ⟨0, hn⟩ rfl
    dsimp only at e
    rw [e]
    dsimp only
    exact ⟨outA3 .., outA4 .., soutA ..⟩
  | n + 1, hn => by
    have hN : cfg0.N = 8 := N_0
    have e := outsAt0_B m c ⟨n + 1, hn⟩ (by dsimp only; omega)
    obtain ⟨-, -, i0⟩ := outs_eq c n (Nat.lt_of_succ_lt hn)
    have s0 : (outsAt0 m c ((⟨n + 1, hn⟩ : Fin cfg0.N).val - 1) (Nat.lt_of_le_of_lt (Nat.sub_le _ _) hn)).2.2 = V m c main_v0 := i0
    rw [s0] at e
    dsimp only at e
    rw [e]
    dsimp only
    exact ⟨outB3 .., outB4 .., soutB ..⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem iblk_z (c : Dev nD) (t : Fin cfg0.N) (r : Fin 512) (k : Fin 2816) (hr : 512 * t.val + r.val < 4096) :
    (iblk m c 0 t : Vec Ideal S512x2816 .bf16) (ix2 r k) = argZ m c (ix2 ⟨512 * t.val + r.val, hr⟩ k) := by
  obtain ⟨e0, e1⟩ := idx0 t
  refine (congrArg (V m c main_arg0 : FVec Ideal S4096x2816 .bf16) (ix2_eta (((cfg0.win 0).blk t).view.emb (ix2 r k)) hr k.isLt ?_ ?_)).trans
    (congrFun (V_main_arg0 m c) _)
  · change win0_0.index t (0 : Fin 2) * 512 + 1 * r.val = _
    omega
  · change win0_0.index t (1 : Fin 2) * 2816 + 1 * k.val = _
    omega

theorem iblk_x (c : Dev nD) (t : Fin cfg0.N) (r : Fin 512) (k : Fin 1024) (hr : 512 * t.val + r.val < 4096) :
    (iblk m c 1 t : Vec Ideal S512x1024 .f32) (ix2 r k) = argX m c (ix2 ⟨512 * t.val + r.val, hr⟩ k) := by
  obtain ⟨e0, e1⟩ := idx1 t
  refine (congrArg (V m c main_arg2 : FVec Ideal S4096x1024 .f32) (ix2_eta (((cfg0.win 1).blk t).view.emb (ix2 r k)) hr k.isLt ?_ ?_)).trans
    (congrFun (V_main_arg2 m c) _)
  · change win0_1.index t (0 : Fin 2) * 512 + 1 * r.val = _
    omega
  · change win0_1.index t (1 : Fin 2) * 1024 + 1 * k.val = _
    omega

theorem iblk_g (c : Dev nD) (t : Fin cfg0.N) (k : Fin 1024) :
    (iblk m c 2 t : Vec Ideal S1x1024 .f32) (ix2 0 k) = argG m c (ix2 0 k) := by
  obtain ⟨e0, e1⟩ := idx2 t
  refine (congrArg (V m c main_arg3 : FVec Ideal S1x1024 .f32) (ix2_eta (((cfg0.win 2).blk t).view.emb (ix2 0 k)) Nat.zero_lt_one k.isLt ?_ ?_)).trans
    (congrFun (V_main_arg3 m c) _)
  · change win0_2.index t (0 : Fin 2) * 1 + 1 * 0 = _
    omega
  · change win0_2.index t (1 : Fin 2) * 1024 + 1 * k.val = _
    omega

theorem V_w (c : Dev nD) (k : Fin 2816) (l : Fin 1024) :
    (V m c main_v0 : FVec Ideal S2816x1024 .bf16) (ix2 k l)
      = argW m c (ix3 ⟨k.val / 704, by omega⟩ ⟨k.val % 704, Nat.mod_lt _ (by decide)⟩ l) := by
  unfold V
  after_reads_at

theorem mm_eq (c : Dev nD) (t : Fin cfg0.N) (r : Fin 512) (l : Fin 1024) (hr : 512 * t.val + r.val < 4096) :
    mm (iblk m c 0 t) (V m c main_v0) r l = down (argZ m c) (argW m c) ⟨512 * t.val + r.val, hr⟩ l := by
  unfold mm down
  refine Finset.sum_congr rfl fun k _ => ?_
  rw [iblk_z m c t r k hr, V_w]

/-- The residual rows with one half of the projection. -/
def total (c : Dev nD) (r : Fin 4096) (l : Fin 1024) : EReal :=
  argX m c (ix2 r l) + Ideal.ofBits .f32 0x3F000000#32 * down (argZ m c) (argW m c) r l

/-- The same of a block. -/
def part (a : Vec Ideal S512x1024 .f32) (z : Vec Ideal S512x2816 .bf16) (w : Vec Ideal S2816x1024 .bf16) (r : Fin 512) (l : Fin 1024) : EReal :=
  a (ix2 r l) + Ideal.ofBits .f32 0x3F000000#32 * mm z w r l

theorem sum_eq (c : Dev nD) (t : Fin cfg0.N) (r : Fin 512) (l : Fin 1024) (hr : 512 * t.val + r.val < 4096) :
    part (iblk m c 1 t) (iblk m c 0 t) (V m c main_v0) r l = total m c ⟨512 * t.val + r.val, hr⟩ l :=
  congrArg₂ (fun a b : EReal => a + Ideal.ofBits .f32 0x3F000000#32 * b) (iblk_x m c t r l hr) (mm_eq m c t r l hr)

/-- The normed rows. -/
def normed (c : Dev nD) (r : Fin 4096) (l : Fin 1024) : EReal :=
  total m c r l * rst (total m c r) * argG m c (ix2 0 l)

theorem at3_apply (c : Dev nD) (t : Fin cfg0.N) (r : Fin 512) (l : Fin 1024) (hr : 512 * t.val + r.val < 4096) :
    at3 m c t (ix2 r l) = total m c ⟨512 * t.val + r.val, hr⟩ l :=
  (res_apply _ _ _ r l).trans (sum_eq m c t r l hr)

theorem at4_apply (c : Dev nD) (t : Fin cfg0.N) (r : Fin 512) (l : Fin 1024) (hr : 512 * t.val + r.val < 4096) :
    at4 m c t (ix2 r l) = normed m c ⟨512 * t.val + r.val, hr⟩ l :=
  (res'_apply _ _ _ _ r l).trans
    (congrArg₂ (fun a b : EReal => a * b)
      (congrArg₂ (fun a b : EReal => a * b) (at3_apply m c t r l hr) (congrArg rst (funext fun k => at3_apply m c t r k hr))) (iblk_g m c t l))

/-- The first result. -/
def G3 (c : Dev nD) : FVec Ideal S4096x1024 .f32 := fun i => total m c (i 0) (i 1)

/-- The second result. -/
def G4 (c : Dev nD) : FVec Ideal S4096x1024 .bf16 := fun i => normed m c (i 0) (i 1)

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, (outs_eq m c t.val t.isLt).1]
  funext y
  have e : ∀ y : S512x1024.Idx, at3 m c t y = G3 m c (((cfg0.win 3).blk t).view.emb y) := fun y => by
    obtain ⟨e0, e1⟩ := idx3 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 3).blk t).view.emb (ix2 r l)) hr l.isLt
      (by change win0_3.index t (0 : Fin 2) * 512 + 1 * r.val = _; omega) (by change win0_3.index t (1 : Fin 2) * 1024 + 1 * l.val = _; omega)]
    exact at3_apply m c t r l hr
  exact e y

theorem final3 (c : Dev nD) : (dats m 0 c).arrAt 3 cfg0.N = G3 m c := by
  refine (dats m 0 c).arrAt_eq_of_cover 3 _ (fun t _ => flushed3_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx3 ⟨(i 0).val / 512, ht⟩
  refine ⟨⟨(i 0).val / 512, ht⟩, flush0_3 _, ?_⟩
  refine Finset.mem_map.mpr ⟨ix2 ⟨(i 0).val % 512, Nat.mod_lt _ (by omega)⟩ ⟨(i 1).val, h1⟩, Finset.mem_univ _, ?_⟩
  refine (ix2_eta (((cfg0.win 3).blk ⟨(i 0).val / 512, ht⟩).view.emb (ix2 _ _)) h0 h1 ?_ ?_).trans (ix2_eta i h0 h1 rfl rfl).symm
  · change win0_3.index ⟨(i 0).val / 512, ht⟩ (0 : Fin 2) * 512 + 1 * ((i 0).val % 512) = _
    dsimp only at e0
    omega
  · change win0_3.index ⟨(i 0).val / 512, ht⟩ (1 : Fin 2) * 1024 + 1 * (i 1).val = _
    omega

theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, (outs_eq m c t.val t.isLt).2.1]
  funext y
  have e : ∀ y : S512x1024.Idx, at4 m c t y = G4 m c (((cfg0.win 4).blk t).view.emb y) := fun y => by
    obtain ⟨e0, e1⟩ := idx4 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 4).blk t).view.emb (ix2 r l)) hr l.isLt
      (by change win0_4.index t (0 : Fin 2) * 512 + 1 * r.val = _; omega) (by change win0_4.index t (1 : Fin 2) * 1024 + 1 * l.val = _; omega)]
    exact at4_apply m c t r l hr
  exact e y

theorem final4 (c : Dev nD) : (dats m 0 c).arrAt 4 cfg0.N = G4 m c := by
  refine (dats m 0 c).arrAt_eq_of_cover 4 _ (fun t _ => flushed4_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx4 ⟨(i 0).val / 512, ht⟩
  refine ⟨⟨(i 0).val / 512, ht⟩, flush0_4 _, ?_⟩
  refine Finset.mem_map.mpr ⟨ix2 ⟨(i 0).val % 512, Nat.mod_lt _ (by omega)⟩ ⟨(i 1).val, h1⟩, Finset.mem_univ _, ?_⟩
  refine (ix2_eta (((cfg0.win 4).blk ⟨(i 0).val / 512, ht⟩).view.emb (ix2 _ _)) h0 h1 ?_ ?_).trans (ix2_eta i h0 h1 rfl rfl).symm
  · change win0_4.index ⟨(i 0).val / 512, ht⟩ (0 : Fin 2) * 512 + 1 * ((i 0).val % 512) = _
    dsimp only at e0
    omega
  · change win0_4.index ⟨(i 0).val / 512, ht⟩ (1 : Fin 2) * 1024 + 1 * (i 1).val = _
    omega

end Cert.Kernel10Ideal.Hand

end
-- ==== Proof.Down.Claim.lean ====
module

public import proofs.«01_k».proof.Defs
public import proofs.«01_k».proof.Proof.Norm.Claim
public import proofs.«01_k».proof.Proof.Down.Kernel
public import proofs.«01_k».proof.Proof.Gen.Reference10Ideal.Read
public import proofs.«01_k».proof.Proof.Gen.Reference10Ideal.Run
public import Idealize.ShloMosaic.Lib.Claim
public import Idealize.ShloMosaic.Lib.Pointwise

@[expose] public section

set_option maxRecDepth 16384

noncomputable section

/-! # The down projection with the residual sum and the norm is the reference's -/

namespace Cert.Down

open Idealize Idealize.ShloMosaic Idealize.SL.Sem
open Cert.Kernel5Ideal.Hand (rst ix2_eta down)
open Cert.Kernel10Ideal.Hand
open Cert.Norm (zero_word)

section Reference

open Cert.Reference10Ideal.Read

variable (z : FVec Ideal Cert.Reference10Ideal.S4096x2816 .bf16) (w : FVec Ideal Cert.Reference10Ideal.S4x704x1024 .bf16)
  (x : FVec Ideal Cert.Reference10Ideal.S4096x1024 .f32) (g : FVec Ideal Cert.Reference10Ideal.S1x1024 .f32) (r : Fin 4096) (l : Fin 1024)

theorem v3_apply : val_main_v3 (F := Ideal) z w (ix2 r l) = down z w r l := by
  rw [val_main_v3_apply]
  unfold down
  refine Finset.sum_congr rfl fun k _ => ?_
  rw [val_main_v2_apply]
  have hl := l.isLt
  refine congrArg₂ (fun a b : EReal => a * b) (congrArg z ?_) (congrArg w ?_)
  · funext y
    fin_cases y <;> rfl
  · funext y
    fin_cases y
    · apply Fin.ext
      change (k.val * 1024 + l.val) / 720896 = k.val / 704
      omega
    · apply Fin.ext
      change (k.val * 1024 + l.val) / 1024 % 704 = k.val % 704
      omega
    · apply Fin.ext
      change (k.val * 1024 + l.val) % 1024 = l.val
      omega

/-- The residual sum. -/
def rowOf (l : Fin 1024) : EReal := x (ix2 r l) + Ideal.ofBits .f32 0x3F000000#32 * down z w r l

theorem v6_apply : val_main_v6 (F := Ideal) z w x (ix2 r l) = rowOf z w x r l :=
  congrArg (fun a : EReal => x (ix2 r l) + Ideal.ofBits .f32 0x3F000000#32 * a) (v3_apply z w r l)

theorem v8_apply : val_main_v8 (F := Ideal) z w x (ix1 r) = ∑ k, rowOf z w x r k * rowOf z w x r k := by
  rw [val_main_v8_apply]
  refine Eq.trans (congrArg₂ (fun a b : EReal => a + b) (zero_word : val_main_cst_0 (F := Ideal) _ = 0) rfl)
    ((zero_add _).trans (Finset.sum_congr rfl fun k _ => ?_))
  have e : Cert.Reference10Ideal.Read.idx_main_v8 (ix1 r) k = ix2 r k := by
    funext y
    fin_cases y <;> rfl
  rw [e, val_main_v7_apply, v6_apply]
  rfl

theorem v14_apply (s : Fin 1) : val_main_v14 (F := Ideal) z w x (ix2 r s) = rst (rowOf z w x r) := by
  have e : Cert.Reference10Ideal.Read.idx_main_v9 (ix2 r s) = ix1 r := by
    funext y
    fin_cases y <;> rfl
  rw [val_main_v14_apply, val_main_v13_apply, val_main_v11_apply, val_main_v9_apply, e, v8_apply]
  rfl

theorem v19_apply : val_main_v19 (F := Ideal) z w x g (ix2 r l) = rowOf z w x r l * rst (rowOf z w x r) * g (ix2 0 l) := by
  have e : Cert.Reference10Ideal.Read.idx_main_v15 (ix2 r l) = ix2 r 0 := by
    funext y
    fin_cases y <;> rfl
  have e' : Cert.Reference10Ideal.Read.idx_main_v17 (ix2 r l) = ix2 0 l := by
    funext y
    fin_cases y <;> rfl
  refine Eq.trans (b := val_main_v6 (F := Ideal) z w x (ix2 r l) * val_main_v15 (F := Ideal) z w x (ix2 r l) * val_main_v17 (F := Ideal) g (ix2 r l)) rfl ?_
  rw [v6_apply, val_main_v15_apply, e, v14_apply, val_main_v17_apply, e']

end Reference

variable (m : (ℓ : Loc Cert.Kernel10Ideal.nD Cert.Kernel10Ideal.τ Cert.Kernel10Ideal.sig) → Buf (Elt Ideal) ℓ)

/-- The reference's two results, in the arrays of the kernel. -/
theorem results_eq (z : FVec Ideal Cert.Reference10Ideal.S4096x2816 .bf16) (w : FVec Ideal Cert.Reference10Ideal.S4x704x1024 .bf16)
    (x : FVec Ideal Cert.Reference10Ideal.S4096x1024 .f32) (g : FVec Ideal Cert.Reference10Ideal.S1x1024 .f32) (c : Dev Cert.Kernel10Ideal.nD)
    (h0 : z = argZ m c) (h1 : w = argW m c) (h2 : x = argX m c) (h3 : g = argG m c) :
    Cert.Reference10Ideal.Read.val_main_v6 (F := Ideal) z w x = G3 m c
    ∧ Cert.Reference10Ideal.Read.val_main_v19 (F := Ideal) z w x g = G4 m c := by
  subst h0 h1 h2 h3
  refine ⟨funext fun i => ?_, funext fun i => ?_⟩
  · rw [ix2_eta i (i 0).isLt (i 1).isLt rfl rfl]
    exact v6_apply _ _ _ _ _
  · rw [ix2_eta i (i 0).isLt (i 1).isLt rfl rfl]
    exact v19_apply _ _ _ _ _ _

theorem algebraic : Cert.algebraic_Kernel10Ideal_Reference10Ideal (hKernel10Ideal := Cert.Kernel10Ideal.Gen.facts)
    (hReference10Ideal := Cert.Reference10Ideal.Gen.facts) := by
  intro m g m' g' _ hag
  refine ⟨G3 m, G4 m, (θ_run Cert.Kernel10Ideal.defs _ _).mono (fun r h c => ?_) (Cert.Kernel10Ideal.Value.run_blocks m g), ?_⟩
  · obtain ⟨r0, r1, ra⟩ := h c
    exact ⟨r0.trans (final3 m c), r1.trans (final4 m c), ra⟩
  refine (θ_run Cert.Reference10Ideal.defs _ _).mono (fun r h c => ?_) (Cert.Reference10Ideal.Value.run (F := Ideal) m' g')
  obtain ⟨r0, r1, ra⟩ := h c
  obtain ⟨a0, a1, a2, a3⟩ := hag c
  obtain ⟨e0, e1⟩ := results_eq m _ _ _ _ c a0 a1 a2 a3
  exact ⟨(r0.trans (Cert.Reference10Ideal.Read.val_main_v6_eq _ _ _)).trans e0,
    (r1.trans (Cert.Reference10Ideal.Read.val_main_v19_eq _ _ _ _)).trans e1, ra⟩

end Cert.Down

end
-- ==== Proof.Out.Claim.lean ====
module

public import proofs.«01_k».proof.Defs
public import proofs.«01_k».proof.Proof.Norm.Claim
public import proofs.«01_k».proof.Proof.Gen.Kernel11Ideal.Value
public import proofs.«01_k».proof.Proof.Gen.Reference11Ideal.Read
public import proofs.«01_k».proof.Proof.Gen.Reference11Ideal.Run
public import Idealize.ShloMosaic.Lib.Claim
public import Idealize.ShloMosaic.Lib.Pointwise
public import Idealize.ShloMosaic.Lib.Pipeline.ValueKit

@[expose] public section

set_option maxRecDepth 16384

noncomputable section

/-! # The output projection with the residual sum and the norm is the reference's

Point `t` of the grid multiplies rows `512 * t` on with the whole weight, adds the residual rows, and norms the sum. -/

namespace Cert.Kernel11Ideal.Hand

open Cert.Kernel11Ideal Cert.Kernel11Ideal.Gen Cert.Kernel11Ideal.Value
open Idealize.ShloMosaic Idealize.ShloMosaic.TcCoe Idealize.SL.Sem
open Cert.Kernel5Ideal.Hand (hz rst ix2_eta)

theorem pay2_apply (x : Vec Ideal S512x1024 .bf16) (w : Vec Ideal S1024x1024 .bf16) (a : Vec Ideal S512x1024 .f32) (r : Fin 512) (l : Fin 1024) :
    k0_pay2 (F := Ideal) x w a (ix2 r l) = a (ix2 r l) + ∑ k : Fin 1024, x (ix2 r k) * w (ix2 k l) := by
  pointwise [k0_pay2, k0_pay1]

theorem pay3_apply (x : Vec Ideal S512x1024 .bf16) (w : Vec Ideal S1024x1024 .bf16) (a : Vec Ideal S512x1024 .f32) (g : Vec Ideal S1x1024 .f32)
    (r : Fin 512) (l : Fin 1024) : k0_pay3 (F := Ideal) x w a g (ix2 r l)
      = k0_pay2 (F := Ideal) x w a (ix2 r l) * rst (fun k => k0_pay2 (F := Ideal) x w a (ix2 r k)) * g (ix2 0 l) := by
  simp only [pay2_apply]
  pointwise [k0_pay3, k0_pay1, rst]

theorem out4_eq (x : Vec Ideal S512x1024 .bf16) (w : Vec Ideal S1024x1024 .bf16) (a : Vec Ideal S512x1024 .f32) (g : Vec Ideal S1x1024 .f32) :
    out0_4 (F := Ideal) x w a g = k0_pay2 x w a := by
  unfold out0_4
  rw [View.canon_unit_zero hz, View.ld_unit_zero (S := S512x1024) hz _ x, View.ld_unit_zero (S := S1024x1024) hz _ w,
    View.ld_unit_zero (S := S512x1024) hz _ a]

theorem out5_eq (x : Vec Ideal S512x1024 .bf16) (w : Vec Ideal S1024x1024 .bf16) (a : Vec Ideal S512x1024 .f32) (g : Vec Ideal S1x1024 .f32) :
    out0_5 (F := Ideal) x w a g = k0_pay3 x w a g := by
  unfold out0_5
  rw [View.canon_unit_zero hz, View.ld_unit_zero (S := S512x1024) hz _ x, View.ld_unit_zero (S := S1024x1024) hz _ w,
    View.ld_unit_zero (S := S512x1024) hz _ a, View.ld_unit_zero (S := S1x1024) hz _ g]

variable (m : (ℓ : Loc nD τ sig) → Buf (Elt Ideal) ℓ)

/-- The mixed rows. -/
abbrev argM (c : Dev nD) : FVec Ideal S4096x1024 .bf16 := m ((c : Thread nD τ).loc main_arg0)

/-- The weight. -/
abbrev argW (c : Dev nD) : FVec Ideal S1024x1024 .bf16 := m ((c : Thread nD τ).loc main_arg1)

/-- The residual rows. -/
abbrev argX (c : Dev nD) : FVec Ideal S4096x1024 .f32 := m ((c : Thread nD τ).loc main_arg2)

/-- The norm's scale. -/
abbrev argG (c : Dev nD) : FVec Ideal S1x1024 .f32 := m ((c : Thread nD τ).loc main_arg3)

/-- One point's first result. -/
abbrev at4 (c : Dev nD) (t : Fin cfg0.N) : Vec Ideal S512x1024 .f32 :=
  k0_pay2 (F := Ideal) (iblk m c 0 t) (iblk m c 1 t) (iblk m c 2 t)

/-- One point's second result. -/
abbrev at5 (c : Dev nD) (t : Fin cfg0.N) : Vec Ideal S512x1024 .bf16 :=
  k0_pay3 (F := Ideal) (iblk m c 0 t) (iblk m c 1 t) (iblk m c 2 t) (iblk m c 3 t)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem iblk_m (c : Dev nD) (t : Fin cfg0.N) (r : Fin 512) (k : Fin 1024) (hr : 512 * t.val + r.val < 4096) :
    (iblk m c 0 t : Vec Ideal S512x1024 .bf16) (ix2 r k) = argM m c (ix2 ⟨512 * t.val + r.val, hr⟩ k) := by
  obtain ⟨e0, e1⟩ := idx0 t
  refine (congrArg (V m c main_arg0 : FVec Ideal S4096x1024 .bf16) (ix2_eta (((cfg0.win 0).blk t).view.emb (ix2 r k)) hr k.isLt ?_ ?_)).trans
    (congrFun (V_main_arg0 m c) _)
  · change win0_0.index t (0 : Fin 2) * 512 + 1 * r.val = _
    omega
  · change win0_0.index t (1 : Fin 2) * 1024 + 1 * k.val = _
    omega

theorem iblk_x (c : Dev nD) (t : Fin cfg0.N) (r : Fin 512) (k : Fin 1024) (hr : 512 * t.val + r.val < 4096) :
    (iblk m c 2 t : Vec Ideal S512x1024 .f32) (ix2 r k) = argX m c (ix2 ⟨512 * t.val + r.val, hr⟩ k) := by
  obtain ⟨e0, e1⟩ := idx2 t
  refine (congrArg (V m c main_arg2 : FVec Ideal S4096x1024 .f32) (ix2_eta (((cfg0.win 2).blk t).view.emb (ix2 r k)) hr k.isLt ?_ ?_)).trans
    (congrFun (V_main_arg2 m c) _)
  · change win0_2.index t (0 : Fin 2) * 512 + 1 * r.val = _
    omega
  · change win0_2.index t (1 : Fin 2) * 1024 + 1 * k.val = _
    omega

theorem iblk_g (c : Dev nD) (t : Fin cfg0.N) (k : Fin 1024) :
    (iblk m c 3 t : Vec Ideal S1x1024 .f32) (ix2 0 k) = argG m c (ix2 0 k) := by
  obtain ⟨e0, e1⟩ := idx3 t
  refine (congrArg (V m c main_arg3 : FVec Ideal S1x1024 .f32) (ix2_eta (((cfg0.win 3).blk t).view.emb (ix2 0 k)) Nat.zero_lt_one k.isLt ?_ ?_)).trans
    (congrFun (V_main_arg3 m c) _)
  · change win0_3.index t (0 : Fin 2) * 1 + 1 * 0 = _
    omega
  · change win0_3.index t (1 : Fin 2) * 1024 + 1 * k.val = _
    omega

theorem iblk_w (c : Dev nD) (t : Fin cfg0.N) (k l : Fin 1024) :
    (iblk m c 1 t : Vec Ideal S1024x1024 .bf16) (ix2 k l) = argW m c (ix2 k l) := by
  obtain ⟨e0, e1⟩ := idx1 t
  refine (congrArg (V m c main_arg1 : FVec Ideal S1024x1024 .bf16) (ix2_eta (((cfg0.win 1).blk t).view.emb (ix2 k l)) k.isLt l.isLt ?_ ?_)).trans
    (congrFun (V_main_arg1 m c) _)
  · change win0_1.index t (0 : Fin 2) * 1024 + 1 * k.val = _
    omega
  · change win0_1.index t (1 : Fin 2) * 1024 + 1 * l.val = _
    omega

/-- The residual sum. -/
def total (c : Dev nD) (r : Fin 4096) (l : Fin 1024) : EReal :=
  argX m c (ix2 r l) + ∑ k : Fin 1024, argM m c (ix2 r k) * argW m c (ix2 k l)

/-- The normed rows. -/
def normed (c : Dev nD) (r : Fin 4096) (l : Fin 1024) : EReal :=
  total m c r l * rst (total m c r) * argG m c (ix2 0 l)

theorem at4_apply (c : Dev nD) (t : Fin cfg0.N) (r : Fin 512) (l : Fin 1024) (hr : 512 * t.val + r.val < 4096) :
    at4 m c t (ix2 r l) = total m c ⟨512 * t.val + r.val, hr⟩ l :=
  (pay2_apply _ _ _ r l).trans (congrArg₂ (fun a b : EReal => a + b) (iblk_x m c t r l hr)
    (Finset.sum_congr rfl fun k _ => congrArg₂ (fun a b : EReal => a * b) (iblk_m m c t r k hr) (iblk_w m c t k l)))

theorem at5_apply (c : Dev nD) (t : Fin cfg0.N) (r : Fin 512) (l : Fin 1024) (hr : 512 * t.val + r.val < 4096) :
    at5 m c t (ix2 r l) = normed m c ⟨512 * t.val + r.val, hr⟩ l :=
  (pay3_apply _ _ _ _ r l).trans
    (congrArg₂ (fun a b : EReal => a * b)
      (congrArg₂ (fun a b : EReal => a * b) (at4_apply m c t r l hr) (congrArg rst (funext fun k => at4_apply m c t r k hr))) (iblk_g m c t l))

/-- The first result. -/
def G4 (c : Dev nD) : FVec Ideal S4096x1024 .f32 := fun i => total m c (i 0) (i 1)

/-- The second result. -/
def G5 (c : Dev nD) : FVec Ideal S4096x1024 .bf16 := fun i => normed m c (i 0) (i 1)

theorem flushed4_eq (c : Dev nD) (t : Fin cfg0.N) :
    (dats m 0 c).flushed 4 t = ((cfg0.win 4).blk t).view.read (Elt Ideal) (G4 m c) := by
  rw [flushed4, out4_eq]
  funext y
  have e : ∀ y : S512x1024.Idx, at4 m c t y = G4 m c (((cfg0.win 4).blk t).view.emb y) := fun y => by
    obtain ⟨e0, e1⟩ := idx4 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 4).blk t).view.emb (ix2 r l)) hr l.isLt
      (by change win0_4.index t (0 : Fin 2) * 512 + 1 * r.val = _; omega) (by change win0_4.index t (1 : Fin 2) * 1024 + 1 * l.val = _; omega)]
    exact at4_apply m c t r l hr
  exact e y

theorem final4 (c : Dev nD) : (dats m 0 c).arrAt 4 cfg0.N = G4 m c := by
  refine (dats m 0 c).arrAt_eq_of_cover 4 _ (fun t _ => flushed4_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx4 ⟨(i 0).val / 512, ht⟩
  refine ⟨⟨(i 0).val / 512, ht⟩, flush0_4 _, ?_⟩
  refine Finset.mem_map.mpr ⟨ix2 ⟨(i 0).val % 512, Nat.mod_lt _ (by omega)⟩ ⟨(i 1).val, h1⟩, Finset.mem_univ _, ?_⟩
  refine (ix2_eta (((cfg0.win 4).blk ⟨(i 0).val / 512, ht⟩).view.emb (ix2 _ _)) h0 h1 ?_ ?_).trans (ix2_eta i h0 h1 rfl rfl).symm
  · change win0_4.index ⟨(i 0).val / 512, ht⟩ (0 : Fin 2) * 512 + 1 * ((i 0).val % 512) = _
    dsimp only at e0
    omega
  · change win0_4.index ⟨(i 0).val / 512, ht⟩ (1 : Fin 2) * 1024 + 1 * (i 1).val = _
    omega

theorem flushed5_eq (c : Dev nD) (t : Fin cfg0.N) :
    (dats m 0 c).flushed 5 t = ((cfg0.win 5).blk t).view.read (Elt Ideal) (G5 m c) := by
  rw [flushed5, out5_eq]
  funext y
  have e : ∀ y : S512x1024.Idx, at5 m c t y = G5 m c (((cfg0.win 5).blk t).view.emb y) := fun y => by
    obtain ⟨e0, e1⟩ := idx5 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 5).blk t).view.emb (ix2 r l)) hr l.isLt
      (by change win0_5.index t (0 : Fin 2) * 512 + 1 * r.val = _; omega) (by change win0_5.index t (1 : Fin 2) * 1024 + 1 * l.val = _; omega)]
    exact at5_apply m c t r l hr
  exact e y

theorem final5 (c : Dev nD) : (dats m 0 c).arrAt 5 cfg0.N = G5 m c := by
  refine (dats m 0 c).arrAt_eq_of_cover 5 _ (fun t _ => flushed5_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx5 ⟨(i 0).val / 512, ht⟩
  refine ⟨⟨(i 0).val / 512, ht⟩, flush0_5 _, ?_⟩
  refine Finset.mem_map.mpr ⟨ix2 ⟨(i 0).val % 512, Nat.mod_lt _ (by omega)⟩ ⟨(i 1).val, h1⟩, Finset.mem_univ _, ?_⟩
  refine (ix2_eta (((cfg0.win 5).blk ⟨(i 0).val / 512, ht⟩).view.emb (ix2 _ _)) h0 h1 ?_ ?_).trans (ix2_eta i h0 h1 rfl rfl).symm
  · change win0_5.index ⟨(i 0).val / 512, ht⟩ (0 : Fin 2) * 512 + 1 * ((i 0).val % 512) = _
    dsimp only at e0
    omega
  · change win0_5.index ⟨(i 0).val / 512, ht⟩ (1 : Fin 2) * 1024 + 1 * (i 1).val = _
    omega

end Cert.Kernel11Ideal.Hand

namespace Cert.Out

open Idealize Idealize.ShloMosaic Idealize.SL.Sem
open Cert.Kernel5Ideal.Hand (rst ix2_eta)
open Cert.Kernel11Ideal.Hand
open Cert.Norm (zero_word)

section Reference

open Cert.Reference11Ideal.Read

variable (z : FVec Ideal Cert.Reference11Ideal.S4096x1024 .bf16) (w : FVec Ideal Cert.Reference11Ideal.S1024x1024 .bf16)
  (x : FVec Ideal Cert.Reference11Ideal.S4096x1024 .f32) (g : FVec Ideal Cert.Reference11Ideal.S1x1024 .f32) (r : Fin 4096) (l : Fin 1024)

/-- The residual sum. -/
def rowOf (l : Fin 1024) : EReal := x (ix2 r l) + ∑ k : Fin 1024, z (ix2 r k) * w (ix2 k l)

theorem v3_apply : val_main_v3 (F := Ideal) z w x (ix2 r l) = rowOf z w x r l := by
  unfold rowOf
  pointwise [val_main_v3, val_main_v2, val_main_v1, val_main_v0]

theorem v5_apply : val_main_v5 (F := Ideal) z w x (ix1 r) = ∑ k, rowOf z w x r k * rowOf z w x r k := by
  rw [val_main_v5_apply]
  refine Eq.trans (congrArg₂ (fun a b : EReal => a + b) (zero_word : val_main_cst (F := Ideal) _ = 0) rfl)
    ((zero_add _).trans (Finset.sum_congr rfl fun k _ => ?_))
  have e : Cert.Reference11Ideal.Read.idx_main_v5 (ix1 r) k = ix2 r k := by
    funext y
    fin_cases y <;> rfl
  rw [e, val_main_v4_apply, v3_apply]
  rfl

theorem v11_apply (s : Fin 1) : val_main_v11 (F := Ideal) z w x (ix2 r s) = rst (rowOf z w x r) := by
  have e : Cert.Reference11Ideal.Read.idx_main_v6 (ix2 r s) = ix1 r := by
    funext y
    fin_cases y <;> rfl
  rw [val_main_v11_apply, val_main_v10_apply, val_main_v8_apply, val_main_v6_apply, e, v5_apply]
  rfl

theorem v16_apply : val_main_v16 (F := Ideal) z w x g (ix2 r l) = rowOf z w x r l * rst (rowOf z w x r) * g (ix2 0 l) := by
  have e : Cert.Reference11Ideal.Read.idx_main_v12 (ix2 r l) = ix2 r 0 := by
    funext y
    fin_cases y <;> rfl
  have e' : Cert.Reference11Ideal.Read.idx_main_v14 (ix2 r l) = ix2 0 l := by
    funext y
    fin_cases y <;> rfl
  refine Eq.trans (b := val_main_v3 (F := Ideal) z w x (ix2 r l) * val_main_v12 (F := Ideal) z w x (ix2 r l) * val_main_v14 (F := Ideal) g (ix2 r l)) rfl ?_
  rw [v3_apply, val_main_v12_apply, e, v11_apply, val_main_v14_apply, e']

end Reference

variable (m : (ℓ : Loc Cert.Kernel11Ideal.nD Cert.Kernel11Ideal.τ Cert.Kernel11Ideal.sig) → Buf (Elt Ideal) ℓ)

/-- The reference's two results, in the arrays of the kernel. -/
theorem results_eq (z : FVec Ideal Cert.Reference11Ideal.S4096x1024 .bf16) (w : FVec Ideal Cert.Reference11Ideal.S1024x1024 .bf16)
    (x : FVec Ideal Cert.Reference11Ideal.S4096x1024 .f32) (g : FVec Ideal Cert.Reference11Ideal.S1x1024 .f32) (c : Dev Cert.Kernel11Ideal.nD)
    (h0 : z = argM m c) (h1 : w = argW m c) (h2 : x = argX m c) (h3 : g = argG m c) :
    Cert.Reference11Ideal.Read.val_main_v3 (F := Ideal) z w x = G4 m c
    ∧ Cert.Reference11Ideal.Read.val_main_v16 (F := Ideal) z w x g = G5 m c := by
  subst h0 h1 h2 h3
  refine ⟨funext fun i => ?_, funext fun i => ?_⟩
  · rw [ix2_eta i (i 0).isLt (i 1).isLt rfl rfl]
    exact v3_apply _ _ _ _ _
  · rw [ix2_eta i (i 0).isLt (i 1).isLt rfl rfl]
    exact v16_apply _ _ _ _ _ _

theorem algebraic : Cert.algebraic_Kernel11Ideal_Reference11Ideal (hKernel11Ideal := Cert.Kernel11Ideal.Gen.facts)
    (hReference11Ideal := Cert.Reference11Ideal.Gen.facts) := by
  intro m g m' g' _ hag
  refine ⟨G4 m, G5 m, (θ_run Cert.Kernel11Ideal.defs _ _).mono (fun r h c => ?_) (Cert.Kernel11Ideal.Value.run_blocks m g), ?_⟩
  · obtain ⟨r0, r1, ra⟩ := h c
    exact ⟨r0.trans (final4 m c), r1.trans (final5 m c), ra⟩
  refine (θ_run Cert.Reference11Ideal.defs _ _).mono (fun r h c => ?_) (Cert.Reference11Ideal.Value.run (F := Ideal) m' g')
  obtain ⟨r0, r1, ra⟩ := h c
  obtain ⟨a0, a1, a2, a3⟩ := hag c
  obtain ⟨e0, e1⟩ := results_eq m _ _ _ _ c a0 a1 a2 a3
  exact ⟨(r0.trans (Cert.Reference11Ideal.Read.val_main_v3_eq _ _ _)).trans e0,
    (r1.trans (Cert.Reference11Ideal.Read.val_main_v16_eq _ _ _ _)).trans e1, ra⟩

end Cert.Out

end
-- ==== Proof.Loss.Kernel.lean ====
module

public import proofs.«01_k».proof.Proof.Gen.Kernel12Ideal.Value
public import proofs.«01_k».proof.Proof.Norm.Kernel
public import Idealize.ShloMosaic.Lib.Pointwise
public import Idealize.ShloMosaic.Lib.Pipeline.ValueKit
public import Idealize.ShloMosaic.Lib.StableHlo.ReadAt

@[expose] public section

set_option maxRecDepth 16384

noncomputable section

/-! # The last down projection with the gradient of the loss

Point `t` of the grid is at rows `512 * t` on. The first copies the weight whole into the scratch, where every point reads it; each
writes its rows of the gradient of the loss, and of one half of it. -/

namespace Cert.Kernel12Ideal.Hand

open Cert.Kernel12Ideal Cert.Kernel12Ideal.Gen Cert.Kernel12Ideal.Value
open Idealize.ShloMosaic Idealize.ShloMosaic.TcCoe Idealize.SL.Sem
open Cert.Kernel5Ideal.Hand (hz canon_whole readCov_whole rst mm ix2_eta down)

/-- What a point leaves of the gradient. -/
def res (z : Vec Ideal S512x2816 .bf16) (w : Vec Ideal S2816x1024 .bf16) (a : Vec Ideal S512x1024 .f32) (g : Vec Ideal S512x1024 .f32) : Vec Ideal S512x1024 .f32 :=
  k0_pay2 (F := Ideal) z w a g

/-- What a point leaves of its half. -/
def res' (z : Vec Ideal S512x2816 .bf16) (w : Vec Ideal S2816x1024 .bf16) (a : Vec Ideal S512x1024 .f32) (g : Vec Ideal S512x1024 .f32) : Vec Ideal S512x1024 .bf16 :=
  k0_pay3 (F := Ideal) z w a g

theorem res_apply (z : Vec Ideal S512x2816 .bf16) (w : Vec Ideal S2816x1024 .bf16) (a : Vec Ideal S512x1024 .f32) (g : Vec Ideal S512x1024 .f32) (r : Fin 512) (l : Fin 1024) :
    res z w a g (ix2 r l)
      = (a (ix2 r l) + Ideal.ofBits .f32 0x3F000000#32 * mm z w r l - g (ix2 r l)) * Ideal.ofBits .f32 0x3A800000#32 := by
  unfold res
  pointwise [k0_pay2, k0_pay1, mm]

theorem res'_apply (z : Vec Ideal S512x2816 .bf16) (w : Vec Ideal S2816x1024 .bf16) (a : Vec Ideal S512x1024 .f32) (g : Vec Ideal S512x1024 .f32) (i : S512x1024.Idx) :
    res' z w a g i = Ideal.ofBits .f32 0x3F000000#32 * res z w a g i := by
  unfold res res'
  pointwise [k0_pay3]

section Terms

variable (c : Dev nD) (i : grid0.Coords)
  (a1 : Memref sig .tc .vmem S512x2816 .bf16) (h1 : a1.IsWhole)
  (a3 : Memref sig .tc .vmem S512x1024 .f32) (h3 : a3.IsWhole)
  (a4 : Memref sig .tc .vmem S512x1024 .f32) (h4 : a4.IsWhole)
  (a5 : Memref sig .tc .vmem S512x1024 .f32) (h5 : a5.IsWhole)
  (a6 : Memref sig .tc .vmem S512x1024 .bf16) (h6 : a6.IsWhole)
  (a7 : Memref sig .tc .vmem S1x1x1024 .f32) (h7 : a7.IsWhole)
  (a8 : Memref sig .tc .vmem S2816x1024 .bf16) (h8 : a8.IsWhole)
  (x0 : Vec Ideal S512x2816 .bf16) (x1 : Vec Ideal S512x1024 .f32) (x2 : Vec Ideal S512x1024 .f32)
  (w0 : Vec Ideal S2816x1024 .bf16) (f0 : HbBuf0 (F := Ideal) c hbM0_0)

theorem outA3 (hc0) : out0_A_3 (F := Ideal) c i a1 h1 a3 h3 a4 h4 a5 h5 a6 h6 a7 h7 a8 h8 hc0 x0 x1 x2 f0
    = res x0 f0 x1 x2 := by
  unfold out0_A_3
  rw [View.read_writes_junk_eq_canon]
  unfold kernelRun0_A
  dsimp only
  sl_unfold_words
  rw [View.canon_unit_zero hz]
  simp only [View.readAt_eq_ld, h1.read_unread, h3.read_unread, h4.read_unread, readCov_whole,
    View.ld_unit_zero (S := S512x2816) hz, View.ld_unit_zero (S := S512x1024) hz,
    View.ld_unit_zero (S := S2816x1024) hz]
  rfl

theorem outA4 (hc0) : out0_A_4 (F := Ideal) c i a1 h1 a3 h3 a4 h4 a5 h5 a6 h6 a7 h7 a8 h8 hc0 x0 x1 x2 f0
    = res' x0 f0 x1 x2 := by
  unfold out0_A_4
  rw [View.read_writes_junk_eq_canon]
  unfold kernelRun0_A
  dsimp only
  sl_unfold_words
  rw [View.canon_unit_zero hz]
  simp only [View.readAt_eq_ld, h1.read_unread, h3.read_unread, h4.read_unread, readCov_whole,
    View.ld_unit_zero (S := S512x2816) hz, View.ld_unit_zero (S := S512x1024) hz,
    View.ld_unit_zero (S := S2816x1024) hz]
  rfl

theorem outB3 (hc0) : out0_B_3 (F := Ideal) c i a1 h1 a3 h3 a4 h4 a5 h5 a6 h6 a7 h7 a8 h8 hc0 x0 x1 x2 w0 f0
    = res x0 w0 x1 x2 := by
  unfold out0_B_3
  rw [View.read_writes_junk_eq_canon]
  unfold kernelRun0_B
  dsimp only
  sl_unfold_words
  rw [View.canon_unit_zero hz]
  simp only [View.readAt_eq_ld, h1.read_unread, h3.read_unread, h4.read_unread, h8.read_unread,
    View.ld_unit_zero (S := S512x2816) hz, View.ld_unit_zero (S := S512x1024) hz,
    View.ld_unit_zero (S := S2816x1024) hz]
  rfl

theorem outB4 (hc0) : out0_B_4 (F := Ideal) c i a1 h1 a3 h3 a4 h4 a5 h5 a6 h6 a7 h7 a8 h8 hc0 x0 x1 x2 w0 f0
    = res' x0 w0 x1 x2 := by
  unfold out0_B_4
  rw [View.read_writes_junk_eq_canon]
  unfold kernelRun0_B
  dsimp only
  sl_unfold_words
  rw [View.canon_unit_zero hz]
  simp only [View.readAt_eq_ld, h1.read_unread, h3.read_unread, h4.read_unread, h8.read_unread,
    View.ld_unit_zero (S := S512x2816) hz, View.ld_unit_zero (S := S512x1024) hz,
    View.ld_unit_zero (S := S2816x1024) hz]
  rfl

theorem soutA (hc0) : sout0_A_0 (F := Ideal) c i a1 h1 a3 h3 a4 h4 a5 h5 a6 h6 a7 h7 a8 h8 hc0 x0 x1 x2 f0 = f0 := by
  unfold sout0_A_0
  rw [View.read_writes_junk_eq_canon]
  unfold kernelRun0_A
  dsimp only
  sl_unfold_words
  exact canon_whole _

theorem soutB (hc0) : sout0_B_0 (F := Ideal) c i a1 h1 a3 h3 a4 h4 a5 h5 a6 h6 a7 h7 a8 h8 hc0 x0 x1 x2 w0 f0 = w0 := rfl

end Terms

variable (m : (ℓ : Loc nD τ sig) → Buf (Elt Ideal) ℓ)

/-- The hidden rows. -/
abbrev argZ (c : Dev nD) : FVec Ideal S4096x2816 .bf16 := m ((c : Thread nD τ).loc main_arg0)

/-- The weight. -/
abbrev argW (c : Dev nD) : FVec Ideal S4x704x1024 .bf16 := m ((c : Thread nD τ).loc main_arg1)

/-- The residual rows. -/
abbrev argX (c : Dev nD) : FVec Ideal S4096x1024 .f32 := m ((c : Thread nD τ).loc main_arg2)

/-- The target. -/
abbrev argT (c : Dev nD) : FVec Ideal S4096x1024 .f32 := m ((c : Thread nD τ).loc main_arg3)

/-- One point's first result. -/
abbrev at3 (c : Dev nD) (t : Fin cfg0.N) : Vec Ideal S512x1024 .f32 :=
  res (iblk m c 0 t) (V m c main_v0) (iblk m c 1 t) (iblk m c 2 t)

/-- One point's second result. -/
abbrev at4 (c : Dev nD) (t : Fin cfg0.N) : Vec Ideal S512x1024 .bf16 :=
  res' (iblk m c 0 t) (V m c main_v0) (iblk m c 1 t) (iblk m c 2 t)

theorem outs_eq (c : Dev nD) : ∀ (n : ℕ) (hn : n < cfg0.N), (outsAt0 m c n hn).1 = at3 m c ⟨n, hn⟩
    ∧ (outsAt0 m c n hn).2.1 = at4 m c ⟨n, hn⟩ ∧ (outsAt0 m c n hn).2.2.2 = V m c main_v0
  | 0, hn => by
    have e := outsAt0_A m c ⟨0, hn⟩ rfl
    dsimp only at e
    rw [e]
    dsimp only
    exact ⟨outA3 .., outA4 .., soutA ..⟩
  | n + 1, hn => by
    have hN : cfg0.N = 8 := N_0
    have e := outsAt0_B m c ⟨n + 1, hn⟩ (by dsimp only; omega)
    obtain ⟨-, -, i0⟩ := outs_eq c n (Nat.lt_of_succ_lt hn)
    have s0 : (outsAt0 m c ((⟨n + 1, hn⟩ : Fin cfg0.N).val - 1) (Nat.lt_of_le_of_lt (Nat.sub_le _ _) hn)).2.2.2 = V m c main_v0 := i0
    rw [s0] at e
    dsimp only at e
    rw [e]
    dsimp only
    exact ⟨outB3 .., outB4 .., soutB ..⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem iblk_z (c : Dev nD) (t : Fin cfg0.N) (r : Fin 512) (k : Fin 2816) (hr : 512 * t.val + r.val < 4096) :
    (iblk m c 0 t : Vec Ideal S512x2816 .bf16) (ix2 r k) = argZ m c (ix2 ⟨512 * t.val + r.val, hr⟩ k) := by
  obtain ⟨e0, e1⟩ := idx0 t
  refine (congrArg (V m c main_arg0 : FVec Ideal S4096x2816 .bf16) (ix2_eta (((cfg0.win 0).blk t).view.emb (ix2 r k)) hr k.isLt ?_ ?_)).trans
    (congrFun (V_main_arg0 m c) _)
  · change win0_0.index t (0 : Fin 2) * 512 + 1 * r.val = _
    omega
  · change win0_0.index t (1 : Fin 2) * 2816 + 1 * k.val = _
    omega

theorem iblk_x (c : Dev nD) (t : Fin cfg0.N) (r : Fin 512) (k : Fin 1024) (hr : 512 * t.val + r.val < 4096) :
    (iblk m c 1 t : Vec Ideal S512x1024 .f32) (ix2 r k) = argX m c (ix2 ⟨512 * t.val + r.val, hr⟩ k) := by
  obtain ⟨e0, e1⟩ := idx1 t
  refine (congrArg (V m c main_arg2 : FVec Ideal S4096x1024 .f32) (ix2_eta (((cfg0.win 1).blk t).view.emb (ix2 r k)) hr k.isLt ?_ ?_)).trans
    (congrFun (V_main_arg2 m c) _)
  · change win0_1.index t (0 : Fin 2) * 512 + 1 * r.val = _
    omega
  · change win0_1.index t (1 : Fin 2) * 1024 + 1 * k.val = _
    omega

theorem iblk_t (c : Dev nD) (t : Fin cfg0.N) (r : Fin 512) (k : Fin 1024) (hr : 512 * t.val + r.val < 4096) :
    (iblk m c 2 t : Vec Ideal S512x1024 .f32) (ix2 r k) = argT m c (ix2 ⟨512 * t.val + r.val, hr⟩ k) := by
  obtain ⟨e0, e1⟩ := idx2 t
  refine (congrArg (V m c main_arg3 : FVec Ideal S4096x1024 .f32) (ix2_eta (((cfg0.win 2).blk t).view.emb (ix2 r k)) hr k.isLt ?_ ?_)).trans
    (congrFun (V_main_arg3 m c) _)
  · change win0_2.index t (0 : Fin 2) * 512 + 1 * r.val = _
    omega
  · change win0_2.index t (1 : Fin 2) * 1024 + 1 * k.val = _
    omega

theorem V_w (c : Dev nD) (k : Fin 2816) (l : Fin 1024) :
    (V m c main_v0 : FVec Ideal S2816x1024 .bf16) (ix2 k l)
      = argW m c (ix3 ⟨k.val / 704, by omega⟩ ⟨k.val % 704, Nat.mod_lt _ (by decide)⟩ l) := by
  unfold V
  after_reads_at

theorem mm_eq (c : Dev nD) (t : Fin cfg0.N) (r : Fin 512) (l : Fin 1024) (hr : 512 * t.val + r.val < 4096) :
    mm (iblk m c 0 t) (V m c main_v0) r l = down (argZ m c) (argW m c) ⟨512 * t.val + r.val, hr⟩ l := by
  unfold mm down
  refine Finset.sum_congr rfl fun k _ => ?_
  rw [iblk_z m c t r k hr, V_w]

/-- The residual rows with one half of the projection. -/
def total (c : Dev nD) (r : Fin 4096) (l : Fin 1024) : EReal :=
  argX m c (ix2 r l) + Ideal.ofBits .f32 0x3F000000#32 * down (argZ m c) (argW m c) r l

/-- The same of a block. -/
def part (a : Vec Ideal S512x1024 .f32) (z : Vec Ideal S512x2816 .bf16) (w : Vec Ideal S2816x1024 .bf16) (r : Fin 512) (l : Fin 1024) : EReal :=
  a (ix2 r l) + Ideal.ofBits .f32 0x3F000000#32 * mm z w r l

theorem sum_eq (c : Dev nD) (t : Fin cfg0.N) (r : Fin 512) (l : Fin 1024) (hr : 512 * t.val + r.val < 4096) :
    part (iblk m c 1 t) (iblk m c 0 t) (V m c main_v0) r l = total m c ⟨512 * t.val + r.val, hr⟩ l :=
  congrArg₂ (fun a b : EReal => a + Ideal.ofBits .f32 0x3F000000#32 * b) (iblk_x m c t r l hr) (mm_eq m c t r l hr)

/-- The gradient of the loss. -/
def grad (c : Dev nD) (r : Fin 4096) (l : Fin 1024) : EReal :=
  (total m c r l - argT m c (ix2 r l)) * Ideal.ofBits .f32 0x3A800000#32

theorem at3_apply (c : Dev nD) (t : Fin cfg0.N) (r : Fin 512) (l : Fin 1024) (hr : 512 * t.val + r.val < 4096) :
    at3 m c t (ix2 r l) = grad m c ⟨512 * t.val + r.val, hr⟩ l :=
  (res_apply _ _ _ _ r l).trans
    (congrArg₂ (fun a b : EReal => (a - b) * Ideal.ofBits .f32 0x3A800000#32) (sum_eq m c t r l hr) (iblk_t m c t r l hr))

theorem at4_apply (c : Dev nD) (t : Fin cfg0.N) (r : Fin 512) (l : Fin 1024) (hr : 512 * t.val + r.val < 4096) :
    at4 m c t (ix2 r l) = Ideal.ofBits .f32 0x3F000000#32 * grad m c ⟨512 * t.val + r.val, hr⟩ l :=
  (res'_apply _ _ _ _ _).trans (congrArg (fun a : EReal => Ideal.ofBits .f32 0x3F000000#32 * a) (at3_apply m c t r l hr))

/-- The first result. -/
def G3 (c : Dev nD) : FVec Ideal S4096x1024 .f32 := fun i => grad m c (i 0) (i 1)

/-- The second result. -/
def G4 (c : Dev nD) : FVec Ideal S4096x1024 .bf16 := fun i => Ideal.ofBits .f32 0x3F000000#32 * grad m c (i 0) (i 1)

theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, (outs_eq m c t.val t.isLt).1]
  funext y
  have e : ∀ y : S512x1024.Idx, at3 m c t y = G3 m c (((cfg0.win 3).blk t).view.emb y) := fun y => by
    obtain ⟨e0, e1⟩ := idx3 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 3).blk t).view.emb (ix2 r l)) hr l.isLt
      (by change win0_3.index t (0 : Fin 2) * 512 + 1 * r.val = _; omega) (by change win0_3.index t (1 : Fin 2) * 1024 + 1 * l.val = _; omega)]
    exact at3_apply m c t r l hr
  exact e y

theorem final3 (c : Dev nD) : (dats m 0 c).arrAt 3 cfg0.N = G3 m c := by
  refine (dats m 0 c).arrAt_eq_of_cover 3 _ (fun t _ => flushed3_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx3 ⟨(i 0).val / 512, ht⟩
  refine ⟨⟨(i 0).val / 512, ht⟩, flush0_3 _, ?_⟩
  refine Finset.mem_map.mpr ⟨ix2 ⟨(i 0).val % 512, Nat.mod_lt _ (by omega)⟩ ⟨(i 1).val, h1⟩, Finset.mem_univ _, ?_⟩
  refine (ix2_eta (((cfg0.win 3).blk ⟨(i 0).val / 512, ht⟩).view.emb (ix2 _ _)) h0 h1 ?_ ?_).trans (ix2_eta i h0 h1 rfl rfl).symm
  · change win0_3.index ⟨(i 0).val / 512, ht⟩ (0 : Fin 2) * 512 + 1 * ((i 0).val % 512) = _
    dsimp only at e0
    omega
  · change win0_3.index ⟨(i 0).val / 512, ht⟩ (1 : Fin 2) * 1024 + 1 * (i 1).val = _
    omega

theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, (outs_eq m c t.val t.isLt).2.1]
  funext y
  have e : ∀ y : S512x1024.Idx, at4 m c t y = G4 m c (((cfg0.win 4).blk t).view.emb y) := fun y => by
    obtain ⟨e0, e1⟩ := idx4 t
    have hN : cfg0.N = 8 := N_0
    have ht := t.isLt
    obtain ⟨r, l, rfl⟩ : ∃ (r : Fin 512) (l : Fin 1024), y = ix2 r l := ⟨y 0, y 1, ix2_eta y (y 0).isLt (y 1).isLt rfl rfl⟩
    have hr : 512 * t.val + r.val < 4096 := by have := r.isLt; omega
    rw [ix2_eta (((cfg0.win 4).blk t).view.emb (ix2 r l)) hr l.isLt
      (by change win0_4.index t (0 : Fin 2) * 512 + 1 * r.val = _; omega) (by change win0_4.index t (1 : Fin 2) * 1024 + 1 * l.val = _; omega)]
    exact at4_apply m c t r l hr
  exact e y

theorem final4 (c : Dev nD) : (dats m 0 c).arrAt 4 cfg0.N = G4 m c := by
  refine (dats m 0 c).arrAt_eq_of_cover 4 _ (fun t _ => flushed4_eq m c t) fun i => ?_
  have hN : cfg0.N = 8 := N_0
  have h0 : (i 0).val < 4096 := (i 0).isLt
  have h1 : (i 1).val < 1024 := (i 1).isLt
  have ht : (i 0).val / 512 < cfg0.N := by omega
  obtain ⟨e0, e1⟩ := idx4 ⟨(i 0).val / 512, ht⟩
  refine ⟨⟨(i 0).val / 512, ht⟩, flush0_4 _, ?_⟩
  refine Finset.mem_map.mpr ⟨ix2 ⟨(i 0).val % 512, Nat.mod_lt _ (by omega)⟩ ⟨(i 1).val, h1⟩, Finset.mem_univ _, ?_⟩
  refine (ix2_eta (((cfg0.win 4).blk ⟨(i 0).val / 512, ht⟩).view.emb (ix2 _ _)) h0 h1 ?_ ?_).trans (ix2_eta i h0 h1 rfl rfl).symm
  · change win0_4.index ⟨(i 0).val / 512, ht⟩ (0 : Fin 2) * 512 + 1 * ((i 0).val % 512) = _
    dsimp only at e0
    omega
  · change win0_4.index ⟨(i 0).val / 512, ht⟩ (1 : Fin 2) * 1024 + 1 * (i 1).val = _
    omega

end Cert.Kernel12Ideal.Hand

end
-- ==== Proof.Loss.Claim.lean ====
module

public import proofs.«01_k».proof.Defs
public import proofs.«01_k».proof.Proof.Down.Claim
public import proofs.«01_k».proof.Proof.Loss.Kernel
public import proofs.«01_k».proof.Proof.Gen.Reference12Ideal.Read
public import proofs.«01_k».proof.Proof.Gen.Reference12Ideal.Run
public import Idealize.ShloMosaic.Lib.Claim

@[expose] public section

set_option maxRecDepth 16384

noncomputable section

/-! # The gradient of the loss at the last residual sum is the reference's

The reference scales twice the difference by one half over the width; the kernel scales the difference by one over the width. -/

namespace Cert.Loss

open Idealize Idealize.ShloMosaic Idealize.SL.Sem
open Cert.Kernel5Ideal.Hand (ix2_eta down)
open Cert.Kernel12Ideal.Hand

theorem half_word : Ideal.ofBits .f32 0x3F000000#32 = ((1 / 2 : ℝ) : EReal) := by
  simp [Ideal.ofBits, Ideal.ieee]
  rw [← EReal.coe_mul]
  congr 1
  norm_num

theorem one_word : Ideal.ofBits .f32 0x3F800000#32 = ((1 : ℝ) : EReal) := by
  simp [Ideal.ofBits, Ideal.ieee]
  rw [← EReal.coe_mul, ← EReal.coe_one]
  congr 1
  norm_num

theorem two_word : Ideal.ofBits .f32 0x40000000#32 = ((2 : ℝ) : EReal) := by
  simp [Ideal.ofBits, Ideal.ieee]
  rw [← EReal.coe_mul]
  congr 1
  norm_num

theorem inv_word : Ideal.ofBits .f32 0x3A800000#32 = ((1 / 1024 : ℝ) : EReal) := by
  simp [Ideal.ofBits, Ideal.ieee]
  rw [← EReal.coe_mul]
  congr 1
  norm_num

/-- The two scalings agree. -/
theorem scale (e : EReal) :
    Ideal.div (Ideal.ofBits .f32 0x3F000000#32 * Ideal.ofBits .f32 0x3F800000#32) (Ideal.ofBits .f32 0x44800000#32)
        * (Ideal.ofBits .f32 0x40000000#32 * e)
      = e * Ideal.ofBits .f32 0x3A800000#32 := by
  rw [Cert.Norm.div_width, half_word, one_word, two_word, inv_word, ← EReal.coe_mul, ← EReal.coe_mul, ← mul_assoc, ← EReal.coe_mul, mul_comm e]
  congr 2
  norm_num

section Reference

open Cert.Reference12Ideal.Read

variable (z : FVec Ideal Cert.Reference12Ideal.S4096x2816 .bf16) (w : FVec Ideal Cert.Reference12Ideal.S4x704x1024 .bf16)
  (x t : FVec Ideal Cert.Reference12Ideal.S4096x1024 .f32) (r : Fin 4096) (l : Fin 1024)

theorem v6_apply : val_main_v6 (F := Ideal) z w x (ix2 r l) = Cert.Down.rowOf z w x r l :=
  Cert.Down.v6_apply z w x r l

theorem v21_apply : val_main_v21 (F := Ideal) z w x t (ix2 r l)
    = (Cert.Down.rowOf z w x r l - t (ix2 r l)) * Ideal.ofBits .f32 0x3A800000#32 := by
  rw [← scale, ← v6_apply]
  rfl

end Reference

variable (m : (ℓ : Loc Cert.Kernel12Ideal.nD Cert.Kernel12Ideal.τ Cert.Kernel12Ideal.sig) → Buf (Elt Ideal) ℓ)

/-- The reference's two results, in the arrays of the kernel. -/
theorem results_eq (z : FVec Ideal Cert.Reference12Ideal.S4096x2816 .bf16) (w : FVec Ideal Cert.Reference12Ideal.S4x704x1024 .bf16)
    (x t : FVec Ideal Cert.Reference12Ideal.S4096x1024 .f32) (c : Dev Cert.Kernel12Ideal.nD)
    (h0 : z = argZ m c) (h1 : w = argW m c) (h2 : x = argX m c) (h3 : t = argT m c) :
    Cert.Reference12Ideal.Read.val_main_v21 (F := Ideal) z w x t = G3 m c
    ∧ Cert.Reference12Ideal.Read.val_main_v24 (F := Ideal) z w x t = G4 m c := by
  subst h0 h1 h2 h3
  have e : ∀ i, Cert.Reference12Ideal.Read.val_main_v21 (F := Ideal) (argZ m c) (argW m c) (argX m c) (argT m c) i
      = grad m c (i 0) (i 1) := fun i => by
    rw [ix2_eta i (i 0).isLt (i 1).isLt rfl rfl]
    exact v21_apply _ _ _ _ _ _
  exact ⟨funext e, funext fun i => congrArg (fun a : EReal => Ideal.ofBits .f32 0x3F000000#32 * a) (e i)⟩

theorem algebraic : Cert.algebraic_Kernel12Ideal_Reference12Ideal (hKernel12Ideal := Cert.Kernel12Ideal.Gen.facts)
    (hReference12Ideal := Cert.Reference12Ideal.Gen.facts) := by
  intro m g m' g' _ hag
  refine ⟨G3 m, G4 m, (θ_run Cert.Kernel12Ideal.defs _ _).mono (fun r h c => ?_) (Cert.Kernel12Ideal.Value.run_blocks m g), ?_⟩
  · obtain ⟨r0, r1, _, ra⟩ := h c
    exact ⟨r0.trans (final3 m c), r1.trans (final4 m c), ra⟩
  refine (θ_run Cert.Reference12Ideal.defs _ _).mono (fun r h c => ?_) (Cert.Reference12Ideal.Value.run (F := Ideal) m' g')
  obtain ⟨r0, r1, ra⟩ := h c
  obtain ⟨a0, a1, a2, a3⟩ := hag c
  obtain ⟨e0, e1⟩ := results_eq m _ _ _ _ c a0 a1 a2 a3
  exact ⟨(r0.trans (Cert.Reference12Ideal.Read.val_main_v21_eq _ _ _ _)).trans e0,
    (r1.trans (Cert.Reference12Ideal.Read.val_main_v24_eq _ _ _ _)).trans e1, ra⟩

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Plain.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Attn.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Weight.Claim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gate.Claim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Act.Claim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Norm.Claim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.InWeight.Claim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.OutProj.Claim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.OutWeight.Claim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.NormOne.Claim
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Down.Claim
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Out.Claim
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Loss.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
  Cert.Pre_finite_scores.facts, Cert.Pre_finite_up.facts, Cert.Pre_finite_act.facts,
  fun m ρ _ => Cert.Kernel.Hand.frame_run m ρ,
  fun m ρ _ => Cert.KernelIdeal.Hand.frame_run m ρ,
  fun m ρ _ => Cert.KernelIdeal.Hand.frame_run m ρ,
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ),
  fun m ρ _ => Cert.Kernel2.Gen.frame (F := Bits) m ρ,
  fun m ρ _ => Cert.Kernel2Ideal.Gen.frame (F := Ideal) m ρ,
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ),
  fun m ρ _ => Cert.Kernel3.Gen.frame (F := Bits) m ρ,
  fun m ρ _ => Cert.Kernel3Ideal.Gen.frame (F := Ideal) m ρ,
  fun m ρ _ => Cert.Kernel3Ideal.Gen.frame (F := Ideal) m ρ,
  fun m ρ _ => (θ_run Cert.Reference3Ideal.defs _ _).mono
    (fun r h => ⟨fun c => (h c).2.2.2, Idealize.ShloMosaic.sem_eq_zero_of_no_sems (by decide) r.2⟩)
    (Cert.Reference3Ideal.Value.run (F := Ideal) m ρ),
  fun m ρ _ => (θ_run Cert.Reference3Ideal.defs _ _).mono
    (fun r h => ⟨fun c => (h c).2.2.2, Idealize.ShloMosaic.sem_eq_zero_of_no_sems (by decide) r.2⟩)
    (Cert.Reference3Ideal.Value.run (F := Ideal) m ρ),
  fun m ρ _ => Cert.Kernel4.Gen.frame (F := Bits) m ρ,
  fun m ρ _ => Cert.Kernel4Ideal.Gen.frame (F := Ideal) m ρ,
  fun m ρ _ => Cert.Kernel4Ideal.Gen.frame (F := Ideal) m ρ,
  fun m ρ _ => (θ_run Cert.Reference4Ideal.defs _ _).mono
    (fun r h => ⟨fun c => (h c).2.2, Idealize.ShloMosaic.sem_eq_zero_of_no_sems (by decide) r.2⟩)
    (Cert.Reference4Ideal.Value.run (F := Ideal) m ρ),
  fun m ρ _ => (θ_run Cert.Reference4Ideal.defs _ _).mono
    (fun r h => ⟨fun c => (h c).2.2, Idealize.ShloMosaic.sem_eq_zero_of_no_sems (by decide) r.2⟩)
    (Cert.Reference4Ideal.Value.run (F := Ideal) m ρ),
  fun m ρ _ => Cert.Kernel5.Gen.frame (F := Bits) m ρ,
  fun m ρ _ => Cert.Kernel5Ideal.Gen.frame (F := Ideal) m ρ,
  fun m ρ _ => (θ_run Cert.Reference5Ideal.defs _ _).mono
    (fun r h => ⟨fun c => (h c).2.2, Idealize.ShloMosaic.sem_eq_zero_of_no_sems (by decide) r.2⟩)
    (Cert.Reference5Ideal.Value.run (F := Ideal) m ρ),
  fun m ρ _ => Cert.Kernel6.Gen.frame (F := Bits) m ρ,
  fun m ρ _ => Cert.Kernel6Ideal.Gen.frame (F := Ideal) m ρ,
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ),
  fun m ρ _ => Cert.Kernel7.Gen.frame (F := Bits) m ρ,
  fun m ρ _ => Cert.Kernel7Ideal.Gen.frame (F := Ideal) m ρ,
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ),
  fun m ρ _ => Cert.Kernel8.Gen.frame (F := Bits) m ρ,
  fun m ρ _ => Cert.Kernel8Ideal.Gen.frame (F := Ideal) m ρ,
  fun m ρ _ => (θ_run Cert.Reference8Ideal.defs _ _).mono
    (fun r h => ⟨fun c => (h c).2, Idealize.ShloMosaic.sem_eq_zero_of_no_sems (by decide) r.2⟩)
    (Cert.Reference8Ideal.Value.run (F := Ideal) m ρ),
  fun m ρ _ => Cert.Kernel9.Gen.frame (F := Bits) m ρ,
  fun m ρ _ => Cert.Kernel9Ideal.Gen.frame (F := Ideal) m ρ,
  fun m ρ _ => (θ_run Cert.Reference9Ideal.defs _ _).mono
    (fun r h => ⟨fun c => (h c).2, Idealize.ShloMosaic.sem_eq_zero_of_no_sems (by decide) r.2⟩)
    (Cert.Reference9Ideal.Value.run (F := Ideal) m ρ),
  fun m ρ _ => Cert.Kernel10.Gen.frame (F := Bits) m ρ,
  fun m ρ _ => Cert.Kernel10Ideal.Gen.frame (F := Ideal) m ρ,
  fun m ρ _ => (θ_run Cert.Reference10Ideal.defs _ _).mono
    (fun r h => ⟨fun c => (h c).2.2, Idealize.ShloMosaic.sem_eq_zero_of_no_sems (by decide) r.2⟩)
    (Cert.Reference10Ideal.Value.run (F := Ideal) m ρ),
  fun m ρ _ => Cert.Kernel11.Gen.frame (F := Bits) m ρ,
  fun m ρ _ => Cert.Kernel11Ideal.Gen.frame (F := Ideal) m ρ,
  fun m ρ _ => (θ_run Cert.Reference11Ideal.defs _ _).mono
    (fun r h => ⟨fun c => (h c).2.2, Idealize.ShloMosaic.sem_eq_zero_of_no_sems (by decide) r.2⟩)
    (Cert.Reference11Ideal.Value.run (F := Ideal) m ρ),
  fun m ρ _ => Cert.Kernel12.Gen.frame (F := Bits) m ρ,
  fun m ρ _ => Cert.Kernel12Ideal.Gen.frame (F := Ideal) m ρ,
  fun m ρ _ => (θ_run Cert.Reference12Ideal.defs _ _).mono
    (fun r h => ⟨fun c => (h c).2.2, Idealize.ShloMosaic.sem_eq_zero_of_no_sems (by decide) r.2⟩)
    (Cert.Reference12Ideal.Value.run (F := Ideal) m ρ),
  IdealRules.named_const.statement Cert.KernelIdeal.κ "mask" .f32 0xF149F2CA#32 ⊥ rfl,
  Cert.Value.algebraic,
  trivial,
  Cert.Weight.algebraic,
  trivial,
  Cert.Gate.algebraic,
  trivial,
  Cert.Act.algebraic,
  trivial,
  Cert.Norm.algebraic,
  trivial,
  Cert.InWeight.algebraic,
  trivial,
  Cert.OutProj.algebraic,
  trivial,
  Cert.OutWeight.algebraic,
  trivial,
  Cert.NormOne.algebraic,
  trivial,
  Cert.Down.algebraic,
  trivial,
  Cert.Out.algebraic,
  trivial,
  Cert.Loss.algebraic⟩

end Cert.Proof

end
